-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v42_0)) (v1 : (c : Dev Cert.Kernel4Ideal.nD) → Buf (Elt Ideal) ((c.tc : Thread Cert.Kernel4Ideal.nD Cert.Kernel4Ideal.τ).loc Cert.Kernel4Ideal.main_v42_1)) (v2 : (c : Dev Cert.Kernel4Ideal.nD) → Buf (Elt Ideal) ((c.tc : Thread Cert.Kernel4Ideal.nD Cert.Kernel4Ideal.τ).loc Cert.Kernel4Ideal.main_v42_2)) (v3 : (c : Dev Cert.Kernel4Ideal.nD) → Buf (Elt Ideal) ((c.tc : Thread Cert.Kernel4Ideal.nD Cert.Kernel4Ideal.τ).loc Cert.Kernel4Ideal.main_v42_3)) (v4 : (c : Dev Cert.Kernel4Ideal.nD) → Buf (Elt Ideal) ((c.tc : Thread Cert.Kernel4Ideal.nD Cert.Kernel4Ideal.τ).loc Cert.Kernel4Ideal.main_v42_4)) (v5 : (c : Dev Cert.Kernel4Ideal.nD) → Buf (Elt Ideal) ((c.tc : Thread Cert.Kernel4Ideal.nD Cert.Kernel4Ideal.τ).loc Cert.Kernel4Ideal.main_v42_5)) (v6 : (c : Dev Cert.Kernel4Ideal.nD) → Buf (Elt Ideal) ((c.tc : Thread Cert.Kernel4Ideal.nD Cert.Kernel4Ideal.τ).loc Cert.Kernel4Ideal.main_v42_6)) (v7 : (c : Dev Cert.Kernel4Ideal.nD) → Buf (Elt Ideal) ((c.tc : Thread Cert.Kernel4Ideal.nD Cert.Kernel4Ideal.τ).loc Cert.Kernel4Ideal.main_v42_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v42_0) = v0 c
          ∧ r.2.mem ((c.tc : Thread Cert.Kernel4Ideal.nD Cert.Kernel4Ideal.τ).loc Cert.Kernel4Ideal.main_v42_1) = v1 c
          ∧ r.2.mem ((c.tc : Thread Cert.Kernel4Ideal.nD Cert.Kernel4Ideal.τ).loc Cert.Kernel4Ideal.main_v42_2) = v2 c
          ∧ r.2.mem ((c.tc : Thread Cert.Kernel4Ideal.nD Cert.Kernel4Ideal.τ).loc Cert.Kernel4Ideal.main_v42_3) = v3 c
          ∧ r.2.mem ((c.tc : Thread Cert.Kernel4Ideal.nD Cert.Kernel4Ideal.τ).loc Cert.Kernel4Ideal.main_v42_4) = v4 c
          ∧ r.2.mem ((c.tc : Thread Cert.Kernel4Ideal.nD Cert.Kernel4Ideal.τ).loc Cert.Kernel4Ideal.main_v42_5) = v5 c
          ∧ r.2.mem ((c.tc : Thread Cert.Kernel4Ideal.nD Cert.Kernel4Ideal.τ).loc Cert.Kernel4Ideal.main_v42_6) = v6 c
          ∧ r.2.mem ((c.tc : Thread Cert.Kernel4Ideal.nD Cert.Kernel4Ideal.τ).loc Cert.Kernel4Ideal.main_v42_7) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_v2) = v1 c
          ∧ r.2.mem ((c.tc : Thread Cert.Reference4Ideal.nD Cert.Reference4Ideal.τ).loc Cert.Reference4Ideal.main_v61) = v2 c
          ∧ r.2.mem ((c.tc : Thread Cert.Reference4Ideal.nD Cert.Reference4Ideal.τ).loc Cert.Reference4Ideal.main_v62) = v3 c
          ∧ r.2.mem ((c.tc : Thread Cert.Reference4Ideal.nD Cert.Reference4Ideal.τ).loc Cert.Reference4Ideal.main_v63) = v4 c
          ∧ r.2.mem ((c.tc : Thread Cert.Reference4Ideal.nD Cert.Reference4Ideal.τ).loc Cert.Reference4Ideal.main_v66) = v5 c
          ∧ r.2.mem ((c.tc : Thread Cert.Reference4Ideal.nD Cert.Reference4Ideal.τ).loc Cert.Reference4Ideal.main_v67) = v6 c
          ∧ r.2.mem ((c.tc : Thread Cert.Reference4Ideal.nD Cert.Reference4Ideal.τ).loc Cert.Reference4Ideal.main_v60) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S16x4096x1024 : Shape := ⟨3, ![16, 4096, 1024]⟩
abbrev S16x4096x1536 : Shape := ⟨3, ![16, 4096, 1536]⟩
abbrev S16x4096x128 : Shape := ⟨3, ![16, 4096, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S128x1024 : Shape := ⟨2, ![128, 1024]⟩
abbrev S_ : Shape := ⟨0, ![]⟩
abbrev S1x1536 : Shape := ⟨2, ![1, 1536]⟩
abbrev S1x128 : Shape := ⟨2, ![1, 128]⟩
abbrev S1 : Shape := ⟨1, ![1]⟩
abbrev S2 : Shape := ⟨1, ![2]⟩
abbrev S16x64 : Shape := ⟨2, ![16, 64]⟩
abbrev S1x1024 : Shape := ⟨2, ![1, 1024]⟩
abbrev S1x128x1024 : Shape := ⟨3, ![1, 128, 1024]⟩
abbrev S1x128x1536 : Shape := ⟨3, ![1, 128, 1536]⟩
abbrev S1x128x128 : Shape := ⟨3, ![1, 128, 128]⟩
abbrev S136x1536 : Shape := ⟨2, ![136, 1536]⟩
abbrev S2x128x512 : Shape := ⟨3, ![2, 128, 512]⟩
abbrev S8x1536 : Shape := ⟨2, ![8, 1536]⟩
abbrev S128x1536 : Shape := ⟨2, ![128, 1536]⟩
abbrev S128x256 : Shape := ⟨2, ![128, 256]⟩
abbrev S128x128 : Shape := ⟨2, ![128, 128]⟩
abbrev S128x1 : Shape := ⟨2, ![128, 1]⟩
abbrev S128x64 : Shape := ⟨2, ![128, 64]⟩
abbrev S1x128x512 : Shape := ⟨3, ![1, 128, 512]⟩
abbrev S128x512 : Shape := ⟨2, ![128, 512]⟩
abbrev S1x512 : Shape := ⟨2, ![1, 512]⟩
abbrev S128 : Shape := ⟨1, ![128]⟩

abbrev nBuf : Space → Nat
  | .hbm => 53
  | .vmem => 18
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1536, .f32⟩
  | .hbm, ⟨2, _⟩ => ⟨S16x4096x128, .f32⟩
  | .hbm, ⟨3, _⟩ => ⟨S4x1536, .f32⟩
  | .hbm, ⟨4, _⟩ => ⟨S1536, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S1024, .f32⟩
  | .hbm, ⟨9, _⟩ => ⟨S128x1024, .i32⟩
  | .hbm, ⟨10, _⟩ => ⟨S_, .i32⟩
  | .hbm, ⟨11, _⟩ => ⟨S_, .i32⟩
  | .hbm, ⟨12, _⟩ => ⟨S128x1024, .i32⟩
  | .hbm, ⟨13, _⟩ => ⟨S128x1024, .i32⟩
  | .hbm, ⟨14, _⟩ => ⟨S128x1024, .i32⟩
  | .hbm, ⟨15, _⟩ => ⟨S_, .i32⟩
  | .hbm, ⟨16, _⟩ => ⟨S128x1024, .i32⟩
  | .hbm, ⟨17, _⟩ => ⟨S128x1024, .i1⟩
  | .hbm, ⟨18, _⟩ => ⟨S128x1024, .i32⟩
  | .hbm, ⟨19, _⟩ => ⟨S128x1024, .i32⟩
  | .hbm, ⟨20, _⟩ => ⟨S_, .i32⟩
  | .hbm, ⟨21, _⟩ => ⟨S128x1024, .i32⟩
  | .hbm, ⟨22, _⟩ => ⟨S128x1024, .i1⟩
  | .hbm, ⟨23, _⟩ => ⟨S128x1024, .i1⟩
  | .hbm, ⟨24, _⟩ => ⟨S_, .i32⟩
  | .hbm, ⟨25, _⟩ => ⟨S128x1024, .i32⟩
  | .hbm, ⟨26, _⟩ => ⟨S128x1024, .i32⟩
  | .hbm, ⟨27, _⟩ => ⟨S128x1024, .i32⟩
  | .hbm, ⟨28, _⟩ => ⟨S128x1024, .i32⟩
  | .hbm, ⟨29, _⟩ => ⟨S128x1024, .i1⟩
  | .hbm, ⟨30, _⟩ => ⟨S128x1024, .f32⟩
  | .hbm, ⟨31, _⟩ => ⟨S1x1536, .f32⟩
  | .hbm, ⟨32, _⟩ => ⟨S_, .f32⟩
  | .hbm, ⟨33, _⟩ => ⟨S1x128, .f32⟩
  | .hbm, ⟨34, _⟩ => ⟨S_, .i32⟩
  | .hbm, ⟨35, _⟩ => ⟨S1, .i32⟩
  | .hbm, ⟨36, _⟩ => ⟨S_, .i32⟩
  | .hbm, ⟨37, _⟩ => ⟨S1, .i32⟩
  | .hbm, ⟨38, _⟩ => ⟨S2, .i32⟩
  | .hbm, ⟨39, _⟩ => ⟨S1x128, .f32⟩
  | .hbm, ⟨40, _⟩ => ⟨S_, .f32⟩
  | .hbm, ⟨41, _⟩ => ⟨S1x128, .f32⟩
  | .hbm, ⟨42, _⟩ => ⟨S_, .i32⟩
  | .hbm, ⟨43, _⟩ => ⟨S1, .i32⟩
  | .hbm, ⟨44, _⟩ => ⟨S_, .i32⟩
  | .hbm, ⟨45, _⟩ => ⟨S1, .i32⟩
  | .hbm, ⟨46, _⟩ => ⟨S2, .i32⟩
  | .hbm, ⟨47, _⟩ => ⟨S1x128, .f32⟩
  | .hbm, ⟨48, _⟩ => ⟨S16x64, .f32⟩
  | .hbm, ⟨49, _⟩ => ⟨S1024, .f32⟩
  | .hbm, ⟨50, _⟩ => ⟨S1x1024, .f32⟩
  | .hbm, ⟨51, _⟩ => ⟨S1x1024, .f32⟩
  | .hbm, ⟨52, _⟩ => ⟨S16x4096x1024, .bf16⟩
  | .local _ .vmem, ⟨0, _⟩ => ⟨S1x128x1024, .f32⟩
  | .local _ .vmem, ⟨1, _⟩ => ⟨S1x128x1024, .f32⟩
  | .local _ .vmem, ⟨2, _⟩ => ⟨S1x128x1536, .f32⟩
  | .local _ .vmem, ⟨3, _⟩ => ⟨S1x128x1536, .f32⟩
  | .local _ .vmem, ⟨4, _⟩ => ⟨S1x128x128, .f32⟩
  | .local _ .vmem, ⟨5, _⟩ => ⟨S1x128x128, .f32⟩
  | .local _ .vmem, ⟨6, _⟩ => ⟨S4x1536, .f32⟩
  | .local _ .vmem, ⟨7, _⟩ => ⟨S1x1536, .f32⟩
  | .local _ .vmem, ⟨8, _⟩ => ⟨S1x128, .f32⟩
  | .local _ .vmem, ⟨9, _⟩ => ⟨S1x128, .f32⟩
  | .local _ .vmem, ⟨10, _⟩ => ⟨S1x1024, .f32⟩
  | .local _ .vmem, ⟨11, _⟩ => ⟨S1x1024, .f32⟩
  | .local _ .vmem, ⟨12, _⟩ => ⟨S128x1024, .f32⟩
  | .local _ .vmem, ⟨13, _⟩ => ⟨S1x128x1024, .bf16⟩
  | .local _ .vmem, ⟨14, _⟩ => ⟨S1x128x1024, .bf16⟩
  | .local _ .vmem, ⟨15, _⟩ => ⟨S136x1536, .f32⟩
  | .local _ .vmem, ⟨16, _⟩ => ⟨S2x128x512, .f32⟩
  | .local _ .vmem, ⟨17, _⟩ => ⟨S128x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_cst : Ref sig .tc := ⟨.hbm, 32, rfl⟩
abbrev main_v6 : Ref sig .tc := ⟨.hbm, 33, rfl⟩
abbrev main_c_0 : Ref sig .tc := ⟨.hbm, 34, rfl⟩
abbrev main_v7 : Ref sig .tc := ⟨.hbm, 35, rfl⟩
abbrev main_c_1 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst_2 : Ref sig .tc := ⟨.hbm, 40, rfl⟩
abbrev main_v11 : Ref sig .tc := ⟨.hbm, 41, rfl⟩
abbrev main_c_3 : Ref sig .tc := ⟨.hbm, 42, rfl⟩
abbrev main_v12 : Ref sig .tc := ⟨.hbm, 43, rfl⟩
abbrev main_c_4 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![16, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S16x4096x1024 : Shape := ⟨3, ![16, 4096, 1024]⟩
abbrev S16x4096x1536 : Shape := ⟨3, ![16, 4096, 1536]⟩
abbrev S16x4096x128 : Shape := ⟨3, ![16, 4096, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S_ : Shape := ⟨0, ![]⟩
abbrev S16x4099x1536 : Shape := ⟨3, ![16, 4099, 1536]⟩
abbrev S1x1536 : Shape := ⟨2, ![1, 1536]⟩
abbrev S1x1x1536 : Shape := ⟨3, ![1, 1, 1536]⟩
abbrev S16x4096x256 : Shape := ⟨3, ![16, 4096, 256]⟩
abbrev S16x4096x16x64 : Shape := ⟨4, ![16, 4096, 16, 64]⟩
abbrev S16x4096x16 : Shape := ⟨3, ![16, 4096, 16]⟩
abbrev S1x1x16 : Shape := ⟨3, ![1, 1, 16]⟩
abbrev S16x32x128x2x8x64 : Shape := ⟨6, ![16, 32, 128, 2, 8, 64]⟩
abbrev S32x16x128x2x8x64 : Shape := ⟨6, ![32, 16, 128, 2, 8, 64]⟩
abbrev S16x4096x16x1 : Shape := ⟨4, ![16, 4096, 16, 1]⟩
abbrev S16x32x128x2x8 : Shape := ⟨5, ![16, 32, 128, 2, 8]⟩
abbrev S32x16x128x2x8 : Shape := ⟨5, ![32, 16, 128, 2, 8]⟩
abbrev S16x32x128x2x128 : Shape := ⟨5, ![16, 32, 128, 2, 128]⟩
abbrev S32x16x128x2x128 : Shape := ⟨5, ![32, 16, 128, 2, 128]⟩
abbrev S2x8 : Shape := ⟨2, ![2, 8]⟩
abbrev S2x8x1 : Shape := ⟨3, ![2, 8, 1]⟩
abbrev S128x128 : Shape := ⟨2, ![128, 128]⟩
abbrev S16x2x8x64x128 : Shape := ⟨5, ![16, 2, 8, 64, 128]⟩
abbrev S1x16x128x2x8x64 : Shape := ⟨6, ![1, 16, 128, 2, 8, 64]⟩
abbrev S16x128x2x8x64 : Shape := ⟨5, ![16, 128, 2, 8, 64]⟩
abbrev S1x16x128x2x8 : Shape := ⟨5, ![1, 16, 128, 2, 8]⟩
abbrev S16x128x2x8 : Shape := ⟨4, ![16, 128, 2, 8]⟩
abbrev S1x16x128x2x128 : Shape := ⟨5, ![1, 16, 128, 2, 128]⟩
abbrev S16x128x2x128 : Shape := ⟨4, ![16, 128, 2, 128]⟩
abbrev S16x128x1x2x8 : Shape := ⟨5, ![16, 128, 1, 2, 8]⟩
abbrev S16x1x128x2x8 : Shape := ⟨5, ![16, 1, 128, 2, 8]⟩
abbrev S16x128x128x2x8 : Shape := ⟨5, ![16, 128, 128, 2, 8]⟩
abbrev S128x128x1x1 : Shape := ⟨4, ![128, 128, 1, 1]⟩
abbrev S16x2x128x128 : Shape := ⟨4, ![16, 2, 128, 128]⟩
abbrev S16x128x128x2 : Shape := ⟨4, ![16, 128, 128, 2]⟩
abbrev S16x128x128x2x1 : Shape := ⟨5, ![16, 128, 128, 2, 1]⟩
abbrev S16x1x2x8 : Shape := ⟨4, ![16, 1, 2, 8]⟩
abbrev S16x128x2x8x1 : Shape := ⟨5, ![16, 128, 2, 8, 1]⟩
abbrev S1x1x2x8x1 : Shape := ⟨5, ![1, 1, 2, 8, 1]⟩
abbrev S16x2x8 : Shape := ⟨3, ![16, 2, 8]⟩
abbrev S16x2x8x1x1 : Shape := ⟨5, ![16, 2, 8, 1, 1]⟩
abbrev S16x4096x2x512 : Shape := ⟨4, ![16, 4096, 2, 512]⟩
abbrev S16x4096x2 : Shape := ⟨3, ![16, 4096, 2]⟩
abbrev S16x4096x2x1 : Shape := ⟨4, ![16, 4096, 2, 1]⟩
abbrev S1x1x1024 : Shape := ⟨3, ![1, 1, 1024]⟩

abbrev nBuf : Space → Nat
  | .hbm => 244
  | .vmem => 0
  | .smem => 0
  | _ => 0

abbrev hbmTy0_0 (i : Nat) : BufTy := match i % 128 with
  | 0 => ⟨S16x4096x1024, .f32⟩
  | 1 => ⟨S16x4096x1536, .f32⟩
  | 2 => ⟨S16x4096x128, .f32⟩
  | 3 => ⟨S4x1536, .f32⟩
  | 4 => ⟨S1536, .f32⟩
  | 5 => ⟨S16, .f32⟩
  | 6 => ⟨S16, .f32⟩
  | 7 => ⟨S16, .f32⟩
  | 8 => ⟨S1024, .f32⟩
  | 9 => ⟨S_, .i32⟩
  | 10 => ⟨S_, .f32⟩
  | 11 => ⟨S16x4099x1536, .f32⟩
  | 12 => ⟨S16x4096x1536, .f32⟩
  | 13 => ⟨S1x1536, .f32⟩
  | 14 => ⟨S1536, .f32⟩
  | 15 => ⟨S1x1x1536, .f32⟩
  | 16 => ⟨S16x4096x1536, .f32⟩
  | 17 => ⟨S16x4096x1536, .f32⟩
  | 18 => ⟨S_, .f32⟩
  | 19 => ⟨S16x4096x1536, .f32⟩
  | 20 => ⟨S16x4096x1536, .f32⟩
  | 21 => ⟨S16x4096x1536, .f32⟩
  | 22 => ⟨S1x1536, .f32⟩
  | 23 => ⟨S1536, .f32⟩
  | 24 => ⟨S1x1x1536, .f32⟩
  | 25 => ⟨S16x4096x1536, .f32⟩
  | 26 => ⟨S16x4096x1536, .f32⟩
  | 27 => ⟨S16x4096x1536, .f32⟩
  | 28 => ⟨S16x4096x1536, .f32⟩
  | 29 => ⟨S1x1536, .f32⟩
  | 30 => ⟨S1536, .f32⟩
  | 31 => ⟨S1x1x1536, .f32⟩
  | 32 => ⟨S16x4096x1536, .f32⟩
  | 33 => ⟨S16x4096x1536, .f32⟩
  | 34 => ⟨S16x4096x1536, .f32⟩
  | 35 => ⟨S16x4096x1536, .f32⟩
  | 36 => ⟨S1x1536, .f32⟩
  | 37 => ⟨S1536, .f32⟩
  | 38 => ⟨S1x1x1536, .f32⟩
  | 39 => ⟨S16x4096x1536, .f32⟩
  | 40 => ⟨S16x4096x1536, .f32⟩
  | 41 => ⟨S16x4096x1536, .f32⟩
  | 42 => ⟨S1x1x1536, .f32⟩
  | 43 => ⟨S16x4096x1536, .f32⟩
  | 44 => ⟨S16x4096x1536, .f32⟩
  | 45 => ⟨S16x4096x1536, .f32⟩
  | 46 => ⟨S16x4096x1536, .f32⟩
  | 47 => ⟨S_, .f32⟩
  | 48 => ⟨S16x4096x1536, .f32⟩
  | 49 => ⟨S16x4096x1536, .f32⟩
  | 50 => ⟨S_, .f32⟩
  | 51 => ⟨S16x4096x1536, .f32⟩
  | 52 => ⟨S16x4096x1536, .f32⟩
  | 53 => ⟨S16x4096x1536, .f32⟩
  | 54 => ⟨S16x4096x1024, .f32⟩
  | 55 => ⟨S16x4096x256, .f32⟩
  | 56 => ⟨S16x4096x256, .f32⟩
  | 57 => ⟨S16x4096x16x64, .f32⟩
  | 58 => ⟨S16x4096x16, .f32⟩
  | 59 => ⟨S1x1x16, .f32⟩
  | 60 => ⟨S16x4096x16, .f32⟩
  | 61 => ⟨S16x4096x16, .f32⟩
  | 62 => ⟨S_, .f32⟩
  | 63 => ⟨S16x4096x16, .f32⟩
  | 64 => ⟨S16x4096x16, .f32⟩
  | 65 => ⟨S16x4096x16, .f32⟩
  | 66 => ⟨S16x4096x16, .f32⟩
  | 67 => ⟨S16x4096x16, .i1⟩
  | 68 => ⟨S16x4096x16, .f32⟩
  | 69 => ⟨S16x4096x16, .f32⟩
  | 70 => ⟨S16x4096x16, .f32⟩
  | 71 => ⟨S16x4096x16, .f32⟩
  | 72 => ⟨S16x4096x16, .f32⟩
  | 73 => ⟨S16x4096x16, .f32⟩
  | 74 => ⟨S16x4096x16, .f32⟩
  | 75 => ⟨S16x4096x16, .f32⟩
  | 76 => ⟨S16, .f32⟩
  | 77 => ⟨S16, .f32⟩
  | 78 => ⟨S16x32x128x2x8x64, .f32⟩
  | 79 => ⟨S32x16x128x2x8x64, .f32⟩
  | 80 => ⟨S16x4096x16x1, .f32⟩
  | 81 => ⟨S16x4096x16x64, .f32⟩
  | 82 => ⟨S16x4096x16x64, .f32⟩
  | 83 => ⟨S16x32x128x2x8x64, .f32⟩
  | 84 => ⟨S32x16x128x2x8x64, .f32⟩
  | 85 => ⟨S1x1x16, .f32⟩
  | 86 => ⟨S16x4096x16, .f32⟩
  | 87 => ⟨S16x4096x16, .f32⟩
  | 88 => ⟨S16x32x128x2x8, .f32⟩
  | 89 => ⟨S32x16x128x2x8, .f32⟩
  | 90 => ⟨S_, .f32⟩
  | 91 => ⟨S_, .f32⟩
  | 92 => ⟨S32x16x128x2x8, .f32⟩
  | 93 => ⟨S16x32x128x2x128, .f32⟩
  | 94 => ⟨S32x16x128x2x128, .f32⟩
  | 95 => ⟨S16x32x128x2x128, .f32⟩
  | 96 => ⟨S32x16x128x2x128, .f32⟩
  | 97 => ⟨S2x8, .f32⟩
  | 98 => ⟨S2x8x1, .f32⟩
  | 99 => ⟨S_, .i1⟩
  | 100 => ⟨S128x128, .i1⟩
  | 101 => ⟨S128x128, .i32⟩
  | 102 => ⟨S_, .i32⟩
  | 103 => ⟨S128x128, .i32⟩
  | 104 => ⟨S128x128, .i32⟩
  | 105 => ⟨S128x128, .i32⟩
  | 106 => ⟨S128x128, .i1⟩
  | 107 => ⟨S_, .i1⟩
  | 108 => ⟨S128x128, .i1⟩
  | 109 => ⟨S128x128, .i1⟩
  | 110 => ⟨S_, .f32⟩
  | 111 => ⟨S16x2x8x64x128, .f32⟩
  | 112 => ⟨S_, .f32⟩
  | 113 => ⟨S32x16x128x2x8x64, .f32⟩
  | 114 => ⟨S_, .i32⟩
  | 115 => ⟨S32x16x128x2x8x64, .f32⟩
  | 116 => ⟨S32x16x128x2x8x64, .f32⟩
  | 117 => ⟨S32x16x128x2x8, .f32⟩
  | 118 => ⟨S32x16x128x2x128, .f32⟩
  | 119 => ⟨S32x16x128x2x128, .f32⟩
  | 120 => ⟨S128x128, .i1⟩
  | 121 => ⟨S2x8x1, .f32⟩
  | 122 => ⟨S_, .i32⟩
  | 123 => ⟨S16x2x8x64x128, .f32⟩
  | 124 => ⟨S32x16x128x2x8x64, .f32⟩
  | 125 => ⟨S_, .i32⟩
  | 126 => ⟨S_, .i1⟩
  | 127 => ⟨S_, .i32⟩
  | _ => ⟨S16x4096x1024, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S1x16x128x2x8x64, .f32⟩
  | 5 => ⟨S16x128x2x8x64, .f32⟩
  | 6 => ⟨S_, .i32⟩
  | 7 => ⟨S_, .i32⟩
  | 8 => ⟨S_, .i32⟩
  | 9 => ⟨S_, .i32⟩
  | 10 => ⟨S_, .i32⟩
  | 11 => ⟨S1x16x128x2x8x64, .f32⟩
  | 12 => ⟨S16x128x2x8x64, .f32⟩
  | 13 => ⟨S_, .i32⟩
  | 14 => ⟨S_, .i32⟩
  | 15 => ⟨S_, .i32⟩
  | 16 => ⟨S_, .i32⟩
  | 17 => ⟨S1x16x128x2x8, .f32⟩
  | 18 => ⟨S16x128x2x8, .f32⟩
  | 19 => ⟨S_, .i32⟩
  | 20 => ⟨S_, .i32⟩
  | 21 => ⟨S_, .i32⟩
  | 22 => ⟨S_, .i32⟩
  | 23 => ⟨S1x16x128x2x128, .f32⟩
  | 24 => ⟨S16x128x2x128, .f32⟩
  | 25 => ⟨S_, .i32⟩
  | 26 => ⟨S_, .i32⟩
  | 27 => ⟨S_, .i32⟩
  | 28 => ⟨S_, .i32⟩
  | 29 => ⟨S1x16x128x2x128, .f32⟩
  | 30 => ⟨S16x128x2x128, .f32⟩
  | 31 => ⟨S16x128x1x2x8, .f32⟩
  | 32 => ⟨S16x1x128x2x8, .f32⟩
  | 33 => ⟨S16x128x128x2x8, .f32⟩
  | 34 => ⟨S16x128x128x2x8, .f32⟩
  | 35 => ⟨S16x128x128x2x8, .f32⟩
  | 36 => ⟨S128x128x1x1, .i1⟩
  | 37 => ⟨S_, .f32⟩
  | 38 => ⟨S_, .f32⟩
  | 39 => ⟨S16x128x128x2x8, .i1⟩
  | 40 => ⟨S16x128x128x2x8, .f32⟩
  | 41 => ⟨S16x128x128x2x8, .f32⟩
  | 42 => ⟨S16x128x128x2x8, .f32⟩
  | 43 => ⟨S16x2x128x128, .f32⟩
  | 44 => ⟨S16x128x128x2, .f32⟩
  | 45 => ⟨S16x128x128x2x1, .f32⟩
  | 46 => ⟨S16x128x128x2x8, .f32⟩
  | 47 => ⟨S16x128x128x2x8, .f32⟩
  | 48 => ⟨S16x2x8x64x128, .f32⟩
  | 49 => ⟨S16x128x2x8x64, .f32⟩
  | 50 => ⟨S16x1x2x8, .f32⟩
  | 51 => ⟨S16x128x2x8, .f32⟩
  | 52 => ⟨S16x128x2x8, .f32⟩
  | 53 => ⟨S16x128x2x8, .f32⟩
  | 54 => ⟨S16x128x2x8x1, .f32⟩
  | 55 => ⟨S16x128x2x8x64, .f32⟩
  | 56 => ⟨S16x128x2x8x64, .f32⟩
  | 57 => ⟨S16x2x8x64x128, .f32⟩
  | 58 => ⟨S16x2x8x64x128, .f32⟩
  | 59 => ⟨S16x128x2x8x64, .f32⟩
  | 60 => ⟨S16x128x2x8, .f32⟩
  | 61 => ⟨S16x128x2x8x1, .f32⟩
  | 62 => ⟨S16x128x2x8x64, .f32⟩
  | 63 => ⟨S16x128x2x8x64, .f32⟩
  | 64 => ⟨S16x128x2x8x64, .f32⟩
  | 65 => ⟨S1x1x2x8x1, .f32⟩
  | 66 => ⟨S16x128x2x8x64, .f32⟩
  | 67 => ⟨S16x128x2x8x64, .f32⟩
  | 68 => ⟨S16x128x2x8x64, .f32⟩
  | 69 => ⟨S16x1x2x8, .f32⟩
  | 70 => ⟨S16x2x8, .f32⟩
  | 71 => ⟨S16x2x8, .f32⟩
  | 72 => ⟨S16x2x8x1x1, .f32⟩
  | 73 => ⟨S16x2x8x64x128, .f32⟩
  | 74 => ⟨S16x2x8x64x128, .f32⟩
  | 75 => ⟨S16x2x8x64x128, .f32⟩
  | 76 => ⟨S1x16x128x2x8x64, .f32⟩
  | 77 => ⟨S_, .i32⟩
  | 78 => ⟨S_, .i32⟩
  | 79 => ⟨S_, .i32⟩
  | 80 => ⟨S_, .i32⟩
  | 81 => ⟨S_, .i32⟩
  | 82 => ⟨S32x16x128x2x8x64, .f32⟩
  | 83 => ⟨S_, .i32⟩
  | 84 => ⟨S_, .i32⟩
  | 85 => ⟨S16x32x128x2x8x64, .f32⟩
  | 86 => ⟨S16x4096x1024, .f32⟩
  | 87 => ⟨S16x4096x1024, .f32⟩
  | 88 => ⟨S16x4096x1024, .f32⟩
  | 89 => ⟨S_, .f32⟩
  | 90 => ⟨S16x4096x1024, .f32⟩
  | 91 => ⟨S16x4096x1024, .f32⟩
  | 92 => ⟨S_, .f32⟩
  | 93 => ⟨S16x4096x1024, .f32⟩
  | 94 => ⟨S16x4096x1024, .f32⟩
  | 95 => ⟨S16x4096x1024, .f32⟩
  | 96 => ⟨S16x4096x1024, .f32⟩
  | 97 => ⟨S16x4096x2x512, .f32⟩
  | 98 => ⟨S16x4096x2x512, .f32⟩
  | 99 => ⟨S_, .f32⟩
  | 100 => ⟨S16x4096x2, .f32⟩
  | 101 => ⟨S16x4096x2x1, .f32⟩
  | 102 => ⟨S_, .f32⟩
  | 103 => ⟨S16x4096x2x1, .f32⟩
  | 104 => ⟨S16x4096x2x1, .f32⟩
  | 105 => ⟨S_, .f32⟩
  | 106 => ⟨S16x4096x2x1, .f32⟩
  | 107 => ⟨S16x4096x2x1, .f32⟩
  | 108 => ⟨S16x4096x2x1, .f32⟩
  | 109 => ⟨S16x4096x2x512, .f32⟩
  | 110 => ⟨S16x4096x2x512, .f32⟩
  | 111 => ⟨S16x4096x1024, .f32⟩
  | 112 => ⟨S1x1x1024, .f32⟩
  | 113 => ⟨S16x4096x1024, .f32⟩
  | 114 => ⟨S16x4096x1024, .f32⟩
  | 115 => ⟨S16x4096x1024, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_call2_cst : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_call3_call0_cst : Ref sig .tc := ⟨.hbm, 90, rfl⟩
abbrev main_call3_call0_v0 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_c_0 : Ref sig .tc := ⟨.hbm, 99, rfl⟩
abbrev main_v64 : Ref sig .tc := ⟨.hbm, 100, rfl⟩
abbrev main_call4_v0 : Ref sig .tc := ⟨.hbm, 101, rfl⟩
abbrev main_call4_c : Ref sig .tc := ⟨.hbm, 102, rfl⟩
abbrev main_call4_v1 : Ref sig .tc := ⟨.hbm, 103, rfl⟩
abbrev main_call4_v2 : Ref sig .tc := ⟨.hbm, 104, rfl⟩
abbrev main_call4_v3 : Ref sig .tc := ⟨.hbm, 105, rfl⟩
abbrev main_call4_v4 : Ref sig .tc := ⟨.hbm, 106, rfl⟩
abbrev main_call4_c_0 : Ref sig .tc := ⟨.hbm, 107, rfl⟩
abbrev main_call4_v5 : Ref sig .tc := ⟨.hbm, 108, rfl⟩
abbrev main_v65 : Ref sig .tc := ⟨.hbm, 109, rfl⟩
abbrev main_cst_1 : Ref sig .tc := ⟨.hbm, 110, rfl⟩
abbrev main_v66 : Ref sig .tc := ⟨.hbm, 111, rfl⟩
abbrev main_cst_2 : Ref sig .tc := ⟨.hbm, 112, rfl⟩
abbrev main_v67 : Ref sig .tc := ⟨.hbm, 113, rfl⟩
abbrev main_c_3 : Ref sig .tc := ⟨.hbm, 114, rfl⟩
abbrev main_v68_0 : Ref sig .tc := ⟨.hbm, 115, rfl⟩
abbrev main_v68_1 : Ref sig .tc := ⟨.hbm, 116, rfl⟩
abbrev main_v68_2 : Ref sig .tc := ⟨.hbm, 117, rfl⟩
abbrev main_v68_3 : Ref sig .tc := ⟨.hbm, 118, rfl⟩
abbrev main_v68_4 : Ref sig .tc := ⟨.hbm, 119, rfl⟩
abbrev main_v68_5 : Ref sig .tc := ⟨.hbm, 120, rfl⟩
abbrev main_v68_6 : Ref sig .tc := ⟨.hbm, 121, rfl⟩
abbrev main_v68_7 : Ref sig .tc := ⟨.hbm, 122, rfl⟩
abbrev main_v68_8 : Ref sig .tc := ⟨.hbm, 123, rfl⟩
abbrev main_v68_9 : Ref sig .tc := ⟨.hbm, 124, rfl⟩
abbrev main_while0c_c_16 : Ref sig .tc := ⟨.hbm, 125, rfl⟩
abbrev main_while0c_v89 : Ref sig .tc := ⟨.hbm, 126, rfl⟩
abbrev main_while0b_call5_c : Ref sig .tc := ⟨.hbm, 127, rfl⟩
abbrev main_while0b_call5_c_0 : Ref sig .tc := ⟨.hbm, 128, rfl⟩
abbrev main_while0b_call5_c_1 : Ref sig .tc := ⟨.hbm, 129, rfl⟩
abbrev main_while0b_call5_c_2 : Ref sig .tc := ⟨.hbm, 130, rfl⟩
abbrev main_while0b_call5_c_3 : Ref sig .tc := ⟨.hbm, 131, rfl⟩
abbrev main_while0b_call5_v0 : Ref sig .tc := ⟨.hbm, 132, rfl⟩
abbrev main_while0b_v89 : Ref sig .tc := ⟨.hbm, 133, rfl⟩
abbrev main_while0b_call6_c : Ref sig .tc := ⟨.hbm, 134, rfl⟩
abbrev main_while0b_call6_c_0 : Ref sig .tc := ⟨.hbm, 135, rfl⟩
abbrev main_while0b_call6_c_1 : Ref sig .tc := ⟨.hbm, 136, rfl⟩
abbrev main_while0b_call6_c_2 : Ref sig .tc := ⟨.hbm, 137, rfl⟩
abbrev main_while0b_call6_c_3 : Ref sig .tc := ⟨.hbm, 138, rfl⟩
abbrev main_while0b_call6_v0 : Ref sig .tc := ⟨.hbm, 139, rfl⟩
abbrev main_while0b_v90 : Ref sig .tc := ⟨.hbm, 140, rfl⟩
abbrev main_while0b_call7_c : Ref sig .tc := ⟨.hbm, 141, rfl⟩
abbrev main_while0b_call7_c_0 : Ref sig .tc := ⟨.hbm, 142, rfl⟩
abbrev main_while0b_call7_c_1 : Ref sig .tc := ⟨.hbm, 143, rfl⟩
abbrev main_while0b_call7_c_2 : Ref sig .tc := ⟨.hbm, 144, rfl⟩
abbrev main_while0b_call7_v0 : Ref sig .tc := ⟨.hbm, 145, rfl⟩
abbrev main_while0b_v91 : Ref sig .tc := ⟨.hbm, 146, rfl⟩
abbrev main_while0b_call8_c : Ref sig .tc := ⟨.hbm, 147, rfl⟩
abbrev main_while0b_call8_c_0 : Ref sig .tc := ⟨.hbm, 148, rfl⟩
abbrev main_while0b_call8_c_1 : Ref sig .tc := ⟨.hbm, 149, rfl⟩
abbrev main_while0b_call8_c_2 : Ref sig .tc := ⟨.hbm, 150, rfl⟩
abbrev main_while0b_call8_v0 : Ref sig .tc := ⟨.hbm, 151, rfl⟩
abbrev main_while0b_v92 : Ref sig .tc := ⟨.hbm, 152, rfl⟩
abbrev main_while0b_call9_c : Ref sig .tc := ⟨.hbm, 153, rfl⟩
abbrev main_while0b_call9_c_0 : Ref sig .tc := ⟨.hbm, 154, rfl⟩
abbrev main_while0b_call9_c_1 : Ref sig .tc := ⟨.hbm, 155, rfl⟩
abbrev main_while0b_call9_c_2 : Ref sig .tc := ⟨.hbm, 156, rfl⟩
abbrev main_while0b_call9_v0 : Ref sig .tc := ⟨.hbm, 157, rfl⟩
abbrev main_while0b_v93 : Ref sig .tc := ⟨.hbm, 158, rfl⟩
abbrev main_while0b_v94 : Ref sig .tc := ⟨.hbm, 159, rfl⟩
abbrev main_while0b_v95 : Ref sig .tc := ⟨.hbm, 160, rfl⟩
abbrev main_while0b_v96 : Ref sig .tc := ⟨.hbm, 161, rfl⟩
abbrev main_while0b_v97 : Ref sig .tc := ⟨.hbm, 162, rfl⟩
abbrev main_while0b_v98 : Ref sig .tc := ⟨.hbm, 163, rfl⟩
abbrev main_while0b_v99 : Ref sig .tc := ⟨.hbm, 164, rfl⟩
abbrev main_while0b_cst_16 : Ref sig .tc := ⟨.hbm, 165, rfl⟩
abbrev main_while0b_call10_v0 : Ref sig .tc := ⟨.hbm, 166, rfl⟩
abbrev main_while0b_call10_v1 : Ref sig .tc := ⟨.hbm, 167, rfl⟩
abbrev main_while0b_call10_v2 : Ref sig .tc := ⟨.hbm, 168, rfl⟩
abbrev main_while0b_v100 : Ref sig .tc := ⟨.hbm, 169, rfl⟩
abbrev main_while0b_v101 : Ref sig .tc := ⟨.hbm, 170, rfl⟩
abbrev main_while0b_v102 : Ref sig .tc := ⟨.hbm, 171, rfl⟩
abbrev main_while0b_v103 : Ref sig .tc := ⟨.hbm, 172, rfl⟩
abbrev main_while0b_v104 : Ref sig .tc := ⟨.hbm, 173, rfl⟩
abbrev main_while0b_v105 : Ref sig .tc := ⟨.hbm, 174, rfl⟩
abbrev main_while0b_v106 : Ref sig .tc := ⟨.hbm, 175, rfl⟩
abbrev main_while0b_v107 : Ref sig .tc := ⟨.hbm, 176, rfl⟩
abbrev main_while0b_v108 : Ref sig .tc := ⟨.hbm, 177, rfl⟩
abbrev main_while0b_v109 : Ref sig .tc := ⟨.hbm, 178, rfl⟩
abbrev main_while0b_v110 : Ref sig .tc := ⟨.hbm, 179, rfl⟩
abbrev main_while0b_v111 : Ref sig .tc := ⟨.hbm, 180, rfl⟩
abbrev main_while0b_v112 : Ref sig .tc := ⟨.hbm, 181, rfl⟩
abbrev main_while0b_v113 : Ref sig .tc := ⟨.hbm, 182, rfl⟩
abbrev main_while0b_v114 : Ref sig .tc := ⟨.hbm, 183, rfl⟩
abbrev main_while0b_v115 : Ref sig .tc := ⟨.hbm, 184, rfl⟩
abbrev main_while0b_v116 : Ref sig .tc := ⟨.hbm, 185, rfl⟩
abbrev main_while0b_v117 : Ref sig .tc := ⟨.hbm, 186, rfl⟩
abbrev main_while0b_v118 : Ref sig .tc := ⟨.hbm, 187, rfl⟩
abbrev main_while0b_v119 : Ref sig .tc := ⟨.hbm, 188, rfl⟩
abbrev main_while0b_v120 : Ref sig .tc := ⟨.hbm, 189, rfl⟩
abbrev main_while0b_v121 : Ref sig .tc := ⟨.hbm, 190, rfl⟩
abbrev main_while0b_v122 : Ref sig .tc := ⟨.hbm, 191, rfl⟩
abbrev main_while0b_v123 : Ref sig .tc := ⟨.hbm, 192, rfl⟩
abbrev main_while0b_v124 : Ref sig .tc := ⟨.hbm, 193, rfl⟩
abbrev main_while0b_v125 : Ref sig .tc := ⟨.hbm, 194, rfl⟩
abbrev main_while0b_v126 : Ref sig .tc := ⟨.hbm, 195, rfl⟩
abbrev main_while0b_v127 : Ref sig .tc := ⟨.hbm, 196, rfl⟩
abbrev main_while0b_v128 : Ref sig .tc := ⟨.hbm, 197, rfl⟩
abbrev main_while0b_v129 : Ref sig .tc := ⟨.hbm, 198, rfl⟩
abbrev main_while0b_v130 : Ref sig .tc := ⟨.hbm, 199, rfl⟩
abbrev main_while0b_v131 : Ref sig .tc := ⟨.hbm, 200, rfl⟩
abbrev main_while0b_v132 : Ref sig .tc := ⟨.hbm, 201, rfl⟩
abbrev main_while0b_v133 : Ref sig .tc := ⟨.hbm, 202, rfl⟩
abbrev main_while0b_v134 : Ref sig .tc := ⟨.hbm, 203, rfl⟩
abbrev main_while0b_call11_v0 : Ref sig .tc := ⟨.hbm, 204, rfl⟩
abbrev main_while0b_call11_c : Ref sig .tc := ⟨.hbm, 205, rfl⟩
abbrev main_while0b_call11_c_0 : Ref sig .tc := ⟨.hbm, 206, rfl⟩
abbrev main_while0b_call11_c_1 : Ref sig .tc := ⟨.hbm, 207, rfl⟩
abbrev main_while0b_call11_c_2 : Ref sig .tc := ⟨.hbm, 208, rfl⟩
abbrev main_while0b_call11_c_3 : Ref sig .tc := ⟨.hbm, 209, rfl⟩
abbrev main_while0b_v135 : Ref sig .tc := ⟨.hbm, 210, rfl⟩
abbrev main_while0b_c_17 : Ref sig .tc := ⟨.hbm, 211, rfl⟩
abbrev main_while0b_v136 : Ref sig .tc := ⟨.hbm, 212, rfl⟩
abbrev main_v69 : Ref sig .tc := ⟨.hbm, 213, rfl⟩
abbrev main_v70 : Ref sig .tc := ⟨.hbm, 214, rfl⟩
abbrev main_call12_v0 : Ref sig .tc := ⟨.hbm, 215, rfl⟩
abbrev main_call12_v1 : Ref sig .tc := ⟨.hbm, 216, rfl⟩
abbrev main_call12_cst : Ref sig .tc := ⟨.hbm, 217, rfl⟩
abbrev main_call12_v2 : Ref sig .tc := ⟨.hbm, 218, rfl⟩
abbrev main_call12_v3 : Ref sig .tc := ⟨.hbm, 219, rfl⟩
abbrev main_call12_cst_0 : Ref sig .tc := ⟨.hbm, 220, rfl⟩
abbrev main_call12_v4 : Ref sig .tc := ⟨.hbm, 221, rfl⟩
abbrev main_call12_v5 : Ref sig .tc := ⟨.hbm, 222, rfl⟩
abbrev main_v71 : Ref sig .tc := ⟨.hbm, 223, rfl⟩
abbrev main_v72 : Ref sig .tc := ⟨.hbm, 224, rfl⟩
abbrev main_v73 : Ref sig .tc := ⟨.hbm, 225, rfl⟩
abbrev main_v74 : Ref sig .tc := ⟨.hbm, 226, rfl⟩
abbrev main_cst_4 : Ref sig .tc := ⟨.hbm, 227, rfl⟩
abbrev main_v75 : Ref sig .tc := ⟨.hbm, 228, rfl⟩
abbrev main_v76 : Ref sig .tc := ⟨.hbm, 229, rfl⟩
abbrev main_cst_5 : Ref sig .tc := ⟨.hbm, 230, rfl⟩
abbrev main_v77 : Ref sig .tc := ⟨.hbm, 231, rfl⟩
abbrev main_v78 : Ref sig .tc := ⟨.hbm, 232, rfl⟩
abbrev main_cst_6 : Ref sig .tc := ⟨.hbm, 233, rfl⟩
abbrev main_v79 : Ref sig .tc := ⟨.hbm, 234, rfl⟩
abbrev main_v80 : Ref sig .tc := ⟨.hbm, 235, rfl⟩
abbrev main_v81 : Ref sig .tc := ⟨.hbm, 236, rfl⟩
abbrev main_v82 : Ref sig .tc := ⟨.hbm, 237, rfl⟩
abbrev main_v83 : Ref sig .tc := ⟨.hbm, 238, rfl⟩
abbrev main_v84 : Ref sig .tc := ⟨.hbm, 239, rfl⟩
abbrev main_v85 : Ref sig .tc := ⟨.hbm, 240, rfl⟩
abbrev main_v86 : Ref sig .tc := ⟨.hbm, 241, rfl⟩
abbrev main_v87 : Ref sig .tc := ⟨.hbm, 242, rfl⟩
abbrev main_v88 : Ref sig .tc := ⟨.hbm, 243, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S16x4096x1024 : Shape := ⟨3, ![16, 4096, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S1x5632 : Shape := ⟨2, ![1, 5632]⟩
abbrev S1x1024 : Shape := ⟨2, ![1, 1024]⟩
abbrev S1x512x1024 : Shape := ⟨3, ![1, 512, 1024]⟩
abbrev S520x5632 : Shape := ⟨2, ![520, 5632]⟩
abbrev S8x5632 : Shape := ⟨2, ![8, 5632]⟩
abbrev S512x1024 : Shape := ⟨2, ![512, 1024]⟩
abbrev S1024x256 : Shape := ⟨2, ![1024, 256]⟩
abbrev S512x256 : Shape := ⟨2, ![512, 256]⟩
abbrev S1x256 : Shape := ⟨2, ![1, 256]⟩
abbrev S256x1024 : Shape := ⟨2, ![256, 1024]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S16x4096x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S1024x5632, .bf16⟩
  | .hbm, ⟨8, _⟩ => ⟨S1x5632, .f32⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x5632, .bf16⟩
  | .local _ .vmem, ⟨3, _⟩ => ⟨S3x5632, .f32⟩
  | .local _ .vmem, ⟨4, _⟩ => ⟨S1x5632, .f32⟩
  | .local _ .vmem, ⟨5, _⟩ => ⟨S2816x1024, .bf16⟩
  | .local _ .vmem, ⟨6, _⟩ => ⟨S1x1024, .f32⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S520x5632, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S16x4096x1024 : Shape := ⟨3, ![16, 4096, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S16x4096x5632 : Shape := ⟨3, ![16, 4096, 5632]⟩
abbrev S_ : Shape := ⟨0, ![]⟩
abbrev S16x4098x5632 : Shape := ⟨3, ![16, 4098, 5632]⟩
abbrev S1x5632 : Shape := ⟨2, ![1, 5632]⟩
abbrev S1x1x5632 : Shape := ⟨3, ![1, 1, 5632]⟩
abbrev S16x4096x2816 : Shape := ⟨3, ![16, 4096, 2816]⟩
abbrev S16x4096 : Shape := ⟨2, ![16, 4096]⟩
abbrev S16x4096x1 : Shape := ⟨3, ![16, 4096, 1]⟩
abbrev S1x1x1024 : Shape := ⟨3, ![1, 1, 1024]⟩

abbrev nBuf : Space → Nat
  | .hbm => 83
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S16x4096x5632, .f32⟩
  | .hbm, ⟨8, _⟩ => ⟨S_, .i32⟩
  | .hbm, ⟨9, _⟩ => ⟨S_, .f32⟩
  | .hbm, ⟨10, _⟩ => ⟨S16x4098x5632, .f32⟩
  | .hbm, ⟨11, _⟩ => ⟨S16x4096x5632, .f32⟩
  | .hbm, ⟨12, _⟩ => ⟨S1x5632, .f32⟩
  | .hbm, ⟨13, _⟩ => ⟨S5632, .f32⟩
  | .hbm, ⟨14, _⟩ => ⟨S1x1x5632, .f32⟩
  | .hbm, ⟨15, _⟩ => ⟨S16x4096x5632, .f32⟩
  | .hbm, ⟨16, _⟩ => ⟨S16x4096x5632, .f32⟩
  | .hbm, ⟨17, _⟩ => ⟨S_, .f32⟩
  | .hbm, ⟨18, _⟩ => ⟨S16x4096x5632, .f32⟩
  | .hbm, ⟨19, _⟩ => ⟨S16x4096x5632, .f32⟩
  | .hbm, ⟨20, _⟩ => ⟨S16x4096x5632, .f32⟩
  | .hbm, ⟨21, _⟩ => ⟨S1x5632, .f32⟩
  | .hbm, ⟨22, _⟩ => ⟨S5632, .f32⟩
  | .hbm, ⟨23, _⟩ => ⟨S1x1x5632, .f32⟩
  | .hbm, ⟨24, _⟩ => ⟨S16x4096x5632, .f32⟩
  | .hbm, ⟨25, _⟩ => ⟨S16x4096x5632, .f32⟩
  | .hbm, ⟨26, _⟩ => ⟨S16x4096x5632, .f32⟩
  | .hbm, ⟨27, _⟩ => ⟨S16x4096x5632, .f32⟩
  | .hbm, ⟨28, _⟩ => ⟨S1x5632, .f32⟩
  | .hbm, ⟨29, _⟩ => ⟨S5632, .f32⟩
  | .hbm, ⟨30, _⟩ => ⟨S1x1x5632, .f32⟩
  | .hbm, ⟨31, _⟩ => ⟨S16x4096x5632, .f32⟩
  | .hbm, ⟨32, _⟩ => ⟨S16x4096x5632, .f32⟩
  | .hbm, ⟨33, _⟩ => ⟨S16x4096x5632, .f32⟩
  | .hbm, ⟨34, _⟩ => ⟨S1x1x5632, .f32⟩
  | .hbm, ⟨35, _⟩ => ⟨S16x4096x5632, .f32⟩
  | .hbm, ⟨36, _⟩ => ⟨S16x4096x5632, .f32⟩
  | .hbm, ⟨37, _⟩ => ⟨S16x4096x2816, .f32⟩
  | .hbm, ⟨38, _⟩ => ⟨S16x4096x2816, .f32⟩
  | .hbm, ⟨39, _⟩ => ⟨S_, .f32⟩
  | .hbm, ⟨40, _⟩ => ⟨S16x4096x1024, .f32⟩
  | .hbm, ⟨41, _⟩ => ⟨S16x4096x1024, .f32⟩
  | .hbm, ⟨42, _⟩ => ⟨S16x4096x2816, .f32⟩
  | .hbm, ⟨43, _⟩ => ⟨S16x4096x2816, .f32⟩
  | .hbm, ⟨44, _⟩ => ⟨S_, .f32⟩
  | .hbm, ⟨45, _⟩ => ⟨S16x4096x2816, .f32⟩
  | .hbm, ⟨46, _⟩ => ⟨S16x4096x2816, .f32⟩
  | .hbm, ⟨47, _⟩ => ⟨S_, .f32⟩
  | .hbm, ⟨48, _⟩ => ⟨S16x4096x2816, .f32⟩
  | .hbm, ⟨49, _⟩ => ⟨S16x4096x2816, .f32⟩
  | .hbm, ⟨50, _⟩ => ⟨S16x4096x2816, .f32⟩
  | .hbm, ⟨51, _⟩ => ⟨S16x4096x2816, .f32⟩
  | .hbm, ⟨52, _⟩ => ⟨S16x4096x1024, .f32⟩
  | .hbm, ⟨53, _⟩ => ⟨S16x4096x1024, .f32⟩
  | .hbm, ⟨54, _⟩ => ⟨S_, .f32⟩
  | .hbm, ⟨55, _⟩ => ⟨S16x4096, .f32⟩
  | .hbm, ⟨56, _⟩ => ⟨S16x4096x1, .f32⟩
  | .hbm, ⟨57, _⟩ => ⟨S_, .f32⟩
  | .hbm, ⟨58, _⟩ => ⟨S16x4096x1, .f32⟩
  | .hbm, ⟨59, _⟩ => ⟨S16x4096x1, .f32⟩
  | .hbm, ⟨60, _⟩ => ⟨S16x4096x1024, .f32⟩
  | .hbm, ⟨61, _⟩ => ⟨S16x4096x1024, .f32⟩
  | .hbm, ⟨62, _⟩ => ⟨S16x4096x1024, .f32⟩
  | .hbm, ⟨63, _⟩ => ⟨S_, .f32⟩
  | .hbm, ⟨64, _⟩ => ⟨S16x4096, .f32⟩
  | .hbm, ⟨65, _⟩ => ⟨S16x4096x1, .f32⟩
  | .hbm, ⟨66, _⟩ => ⟨S_, .f32⟩
  | .hbm, ⟨67, _⟩ => ⟨S16x4096x1, .f32⟩
  | .hbm, ⟨68, _⟩ => ⟨S16x4096x1, .f32⟩
  | .hbm, ⟨69, _⟩ => ⟨S16x4096x1024, .f32⟩
  | .hbm, ⟨70, _⟩ => ⟨S16x4096x1024, .f32⟩
  | .hbm, ⟨71, _⟩ => ⟨S_, .f32⟩
  | .hbm, ⟨72, _⟩ => ⟨S16x4096x1, .f32⟩
  | .hbm, ⟨73, _⟩ => ⟨S16x4096x1, .f32⟩
  | .hbm, ⟨74, _⟩ => ⟨S16x4096x1, .f32⟩
  | .hbm, ⟨75, _⟩ => ⟨S16x4096x1024, .f32⟩
  | .hbm, ⟨76, _⟩ => ⟨S16x4096x1024, .f32⟩
  | .hbm, ⟨77, _⟩ => ⟨S1x1x1024, .f32⟩
  | .hbm, ⟨78, _⟩ => ⟨S16x4096x1024, .f32⟩
  | .hbm, ⟨79, _⟩ => ⟨S16x4096x1024, .f32⟩
  | .hbm, ⟨80, _⟩ => ⟨S1x1x1024, .f32⟩
  | .hbm, ⟨81, _⟩ => ⟨S16x4096x1024, .f32⟩
  | .hbm, ⟨82, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_0 : Ref sig .tc := ⟨.hbm, 39, rfl⟩
abbrev main_v29 : Ref sig .tc := ⟨.hbm, 40, rfl⟩
abbrev main_v30 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_1 : Ref sig .tc := ⟨.hbm, 54, rfl⟩
abbrev main_v35 : Ref sig .tc := ⟨.hbm, 55, rfl⟩
abbrev main_v36 : Ref sig .tc := ⟨.hbm, 56, rfl⟩
abbrev main_cst_2 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_3 : Ref sig .tc := ⟨.hbm, 63, rfl⟩
abbrev main_v42 : Ref sig .tc := ⟨.hbm, 64, rfl⟩
abbrev main_v43 : Ref sig .tc := ⟨.hbm, 65, rfl⟩
abbrev main_cst_4 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_5 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]
-- ==== Kernel3.lean ====
abbrev S65536x1024 : Shape := ⟨2, ![65536, 1024]⟩
abbrev S2048x1024 : Shape := ⟨2, ![2048, 1024]⟩
abbrev S1024 : Shape := ⟨1, ![1024]⟩
abbrev S1024x1024 : Shape := ⟨2, ![1024, 1024]⟩
abbrev S_ : Shape := ⟨0, ![]⟩
abbrev S1024x1 : Shape := ⟨2, ![1024, 1]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 21
  | .vmem => 12
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S65536x1024, .bf16⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S1024, .i32⟩
  | .hbm, ⟨7, _⟩ => ⟨S1024, .i1⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S_, .i32⟩
  | .hbm, ⟨12, _⟩ => ⟨S1024, .i32⟩
  | .hbm, ⟨13, _⟩ => ⟨S1024, .i32⟩
  | .hbm, ⟨14, _⟩ => ⟨S1024, .i32⟩
  | .hbm, ⟨15, _⟩ => ⟨S1024x1, .i32⟩
  | .hbm, ⟨16, _⟩ => ⟨S1024x1024, .f32⟩
  | .hbm, ⟨17, _⟩ => ⟨S1024x1024, .bf16⟩
  | .hbm, ⟨18, _⟩ => ⟨S1x1024, .f32⟩
  | .hbm, ⟨19, _⟩ => ⟨S1x1024, .f32⟩
  | .hbm, ⟨20, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S65536x1024 : Shape := ⟨2, ![65536, 1024]⟩
abbrev S2048x1024 : Shape := ⟨2, ![2048, 1024]⟩
abbrev S1024 : Shape := ⟨1, ![1024]⟩
abbrev S65536x2x4x2x64 : Shape := ⟨5, ![65536, 2, 4, 2, 64]⟩
abbrev S65536x2x2x4x64 : Shape := ⟨5, ![65536, 2, 2, 4, 64]⟩
abbrev S65536x2048 : Shape := ⟨2, ![65536, 2048]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S65536x1024, .bf16⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S65536x1024, .f32⟩
  | .hbm, ⟨7, _⟩ => ⟨S65536x2x4x2x64, .f32⟩
  | .hbm, ⟨8, _⟩ => ⟨S65536x2x2x4x64, .f32⟩
  | .hbm, ⟨9, _⟩ => ⟨S65536x1024, .f32⟩
  | .hbm, ⟨10, _⟩ => ⟨S65536x1024, .f32⟩
  | .hbm, ⟨11, _⟩ => ⟨S65536x2048, .f32⟩
  | .hbm, ⟨12, _⟩ => ⟨S65536x1024, .f32⟩
  | .hbm, ⟨13, _⟩ => ⟨S_, .f32⟩
  | .hbm, ⟨14, _⟩ => ⟨S65536x1024, .f32⟩
  | .hbm, ⟨15, _⟩ => ⟨S65536x1024, .f32⟩
  | .hbm, ⟨16, _⟩ => ⟨S65536x1024, .f32⟩
  | .hbm, ⟨17, _⟩ => ⟨S_, .f32⟩
  | .hbm, ⟨18, _⟩ => ⟨S65536, .f32⟩
  | .hbm, ⟨19, _⟩ => ⟨S65536x1, .f32⟩
  | .hbm, ⟨20, _⟩ => ⟨S_, .f32⟩
  | .hbm, ⟨21, _⟩ => ⟨S65536x1, .f32⟩
  | .hbm, ⟨22, _⟩ => ⟨S65536x1, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S_, .f32⟩
  | .hbm, ⟨27, _⟩ => ⟨S65536, .f32⟩
  | .hbm, ⟨28, _⟩ => ⟨S65536x1, .f32⟩
  | .hbm, ⟨29, _⟩ => ⟨S_, .f32⟩
  | .hbm, ⟨30, _⟩ => ⟨S65536x1, .f32⟩
  | .hbm, ⟨31, _⟩ => ⟨S65536x1, .f32⟩
  | .hbm, ⟨32, _⟩ => ⟨S65536x1024, .f32⟩
  | .hbm, ⟨33, _⟩ => ⟨S65536x1024, .f32⟩
  | .hbm, ⟨34, _⟩ => ⟨S_, .f32⟩
  | .hbm, ⟨35, _⟩ => ⟨S65536x1, .f32⟩
  | .hbm, ⟨36, _⟩ => ⟨S65536x1, .f32⟩
  | .hbm, ⟨37, _⟩ => ⟨S65536x1, .f32⟩
  | .hbm, ⟨38, _⟩ => ⟨S65536x1024, .f32⟩
  | .hbm, ⟨39, _⟩ => ⟨S65536x1024, .f32⟩
  | .hbm, ⟨40, _⟩ => ⟨S1x1024, .f32⟩
  | .hbm, ⟨41, _⟩ => ⟨S65536x1024, .f32⟩
  | .hbm, ⟨42, _⟩ => ⟨S65536x1024, .f32⟩
  | .hbm, ⟨43, _⟩ => ⟨S1x1024, .f32⟩
  | .hbm, ⟨44, _⟩ => ⟨S65536x1024, .f32⟩
  | .hbm, ⟨45, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Kernel4.lean ====
abbrev S65536x1024 : Shape := ⟨2, ![65536, 1024]⟩
abbrev S1024x4696 : Shape := ⟨2, ![1024, 4696]⟩
abbrev S64 : Shape := ⟨1, ![64]⟩
abbrev S1024 : Shape := ⟨1, ![1024]⟩
abbrev S320 : Shape := ⟨1, ![320]⟩
abbrev S1024x1024 : Shape := ⟨2, ![1024, 1024]⟩
abbrev S1024x1536 : Shape := ⟨2, ![1024, 1536]⟩
abbrev S_ : Shape := ⟨0, ![]⟩
abbrev S1024x1 : Shape := ⟨2, ![1024, 1]⟩
abbrev S1024x256 : Shape := ⟨2, ![1024, 256]⟩
abbrev S256x1024 : Shape := ⟨2, ![256, 1024]⟩
abbrev S4x64x1024 : Shape := ⟨3, ![4, 64, 1024]⟩
abbrev S4x16x1024 : Shape := ⟨3, ![4, 16, 1024]⟩
abbrev S4x80x1024 : Shape := ⟨3, ![4, 80, 1024]⟩
abbrev S320x1024 : Shape := ⟨2, ![320, 1024]⟩
abbrev S1024x512 : Shape := ⟨2, ![1024, 512]⟩
abbrev S1024x64 : Shape := ⟨2, ![1024, 64]⟩
abbrev S1024x128 : Shape := ⟨2, ![1024, 128]⟩
abbrev S1024x16 : Shape := ⟨2, ![1024, 16]⟩
abbrev S1024x8 : Shape := ⟨2, ![1024, 8]⟩
abbrev S1024x104 : Shape := ⟨2, ![1024, 104]⟩
abbrev S128 : Shape := ⟨1, ![128]⟩
abbrev S1x128 : Shape := ⟨2, ![1, 128]⟩
abbrev S1 : Shape := ⟨1, ![1]⟩
abbrev S2 : Shape := ⟨1, ![2]⟩
abbrev S8 : Shape := ⟨1, ![8]⟩
abbrev S320x1 : Shape := ⟨2, ![320, 1]⟩
abbrev S65536x1536 : Shape := ⟨2, ![65536, 1536]⟩
abbrev S65536x512 : Shape := ⟨2, ![65536, 512]⟩
abbrev S16x320x4096 : Shape := ⟨3, ![16, 320, 4096]⟩
abbrev S65536x256 : Shape := ⟨2, ![65536, 256]⟩
abbrev S65536x128 : Shape := ⟨2, ![65536, 128]⟩
abbrev S512x1024 : Shape := ⟨2, ![512, 1024]⟩
abbrev S512x1536 : Shape := ⟨2, ![512, 1536]⟩
abbrev S512x512 : Shape := ⟨2, ![512, 512]⟩
abbrev S1x320x512 : Shape := ⟨3, ![1, 320, 512]⟩
abbrev S512x256 : Shape := ⟨2, ![512, 256]⟩
abbrev S512x128 : Shape := ⟨2, ![512, 128]⟩
abbrev S320x512 : Shape := ⟨2, ![320, 512]⟩
abbrev S512 : Shape := ⟨1, ![512]⟩
abbrev S512x1 : Shape := ⟨2, ![512, 1]⟩

abbrev nBuf : Space → Nat
  | .hbm => 64
  | .vmem => 30
  | .smem => 0
  | _ => 0

abbrev bufTy : (tb : Table) → Fin (tcTables nBuf tb) → BufTy
  | .hbm, ⟨0, _⟩ => ⟨S65536x1024, .f32⟩
  | .hbm, ⟨1, _⟩ => ⟨S1024x4696, .f32⟩
  | .hbm, ⟨2, _⟩ => ⟨S64, .f32⟩
  | .hbm, ⟨3, _⟩ => ⟨S64, .f32⟩
  | .hbm, ⟨4, _⟩ => ⟨S1024, .i32⟩
  | .hbm, ⟨5, _⟩ => ⟨S1024, .i1⟩
  | .hbm, ⟨6, _⟩ => ⟨S320, .f32⟩
  | .hbm, ⟨7, _⟩ => ⟨S1024x1024, .f32⟩
  | .hbm, ⟨8, _⟩ => ⟨S1024x1024, .bf16⟩
  | .hbm, ⟨9, _⟩ => ⟨S1024x1536, .f32⟩
  | .hbm, ⟨10, _⟩ => ⟨S1024x1536, .bf16⟩
  | .hbm, ⟨11, _⟩ => ⟨S1024x1024, .f32⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S1024, .i32⟩
  | .hbm, ⟨16, _⟩ => ⟨S1024x1, .i32⟩
  | .hbm, ⟨17, _⟩ => ⟨S1024x1024, .f32⟩
  | .hbm, ⟨18, _⟩ => ⟨S1024x1024, .bf16⟩
  | .hbm, ⟨19, _⟩ => ⟨S1024x256, .f32⟩
  | .hbm, ⟨20, _⟩ => ⟨S1024x256, .bf16⟩
  | .hbm, ⟨21, _⟩ => ⟨S1024x256, .f32⟩
  | .hbm, ⟨22, _⟩ => ⟨S256x1024, .f32⟩
  | .hbm, ⟨23, _⟩ => ⟨S4x64x1024, .f32⟩
  | .hbm, ⟨24, _⟩ => ⟨S_, .f32⟩
  | .hbm, ⟨25, _⟩ => ⟨S4x16x1024, .f32⟩
  | .hbm, ⟨26, _⟩ => ⟨S4x80x1024, .f32⟩
  | .hbm, ⟨27, _⟩ => ⟨S320x1024, .f32⟩
  | .hbm, ⟨28, _⟩ => ⟨S320x1024, .bf16⟩
  | .hbm, ⟨29, _⟩ => ⟨S1024x512, .f32⟩
  | .hbm, ⟨30, _⟩ => ⟨S1024x512, .bf16⟩
  | .hbm, ⟨31, _⟩ => ⟨S1024x64, .f32⟩
  | .hbm, ⟨32, _⟩ => ⟨S1024x64, .f32⟩
  | .hbm, ⟨33, _⟩ => ⟨S1024x128, .f32⟩
  | .hbm, ⟨34, _⟩ => ⟨S1024x128, .bf16⟩
  | .hbm, ⟨35, _⟩ => ⟨S1024x16, .f32⟩
  | .hbm, ⟨36, _⟩ => ⟨S1024x8, .f32⟩
  | .hbm, ⟨37, _⟩ => ⟨S_, .f32⟩
  | .hbm, ⟨38, _⟩ => ⟨S1024x104, .f32⟩
  | .hbm, ⟨39, _⟩ => ⟨S1024x128, .f32⟩
  | .hbm, ⟨40, _⟩ => ⟨S1024x128, .bf16⟩
  | .hbm, ⟨41, _⟩ => ⟨S128, .f32⟩
  | .hbm, ⟨42, _⟩ => ⟨S1x128, .f32⟩
  | .hbm, ⟨43, _⟩ => ⟨S128, .f32⟩
  | .hbm, ⟨44, _⟩ => ⟨S1x128, .f32⟩
  | .hbm, ⟨45, _⟩ => ⟨S_, .f32⟩
  | .hbm, ⟨46, _⟩ => ⟨S1x128, .f32⟩
  | .hbm, ⟨47, _⟩ => ⟨S_, .i32⟩
  | .hbm, ⟨48, _⟩ => ⟨S1, .i32⟩
  | .hbm, ⟨49, _⟩ => ⟨S_, .i32⟩
  | .hbm, ⟨50, _⟩ => ⟨S1, .i32⟩
  | .hbm, ⟨51, _⟩ => ⟨S2, .i32⟩
  | .hbm, ⟨52, _⟩ => ⟨S_, .f32⟩
  | .hbm, ⟨53, _⟩ => ⟨S8, .f32⟩
  | .hbm, ⟨54, _⟩ => ⟨S1x128, .f32⟩
  | .hbm, ⟨55, _⟩ => ⟨S320x1, .f32⟩
  | .hbm, ⟨56, _⟩ => ⟨S65536x1024, .f32⟩
  | .hbm, ⟨57, _⟩ => ⟨S65536x1536, .f32⟩
  | .hbm, ⟨58, _⟩ => ⟨S65536x1024, .bf16⟩
  | .hbm, ⟨59, _⟩ => ⟨S65536x512, .bf16⟩
  | .hbm, ⟨60, _⟩ => ⟨S16x320x4096, .bf16⟩
  | .hbm, ⟨61, _⟩ => ⟨S65536x512, .bf16⟩
  | .hbm, ⟨62, _⟩ => ⟨S65536x256, .bf16⟩
  | .hbm, ⟨63, _⟩ => ⟨S65536x128, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1536, .bf16⟩
  | .local _ .vmem, ⟨4, _⟩ => ⟨S1024x1024, .bf16⟩
  | .local _ .vmem, ⟨5, _⟩ => ⟨S1024x256, .bf16⟩
  | .local _ .vmem, ⟨6, _⟩ => ⟨S320x1024, .bf16⟩
  | .local _ .vmem, ⟨7, _⟩ => ⟨S1024x512, .bf16⟩
  | .local _ .vmem, ⟨8, _⟩ => ⟨S1024x128, .bf16⟩
  | .local _ .vmem, ⟨9, _⟩ => ⟨S1024x128, .bf16⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S320x1, .f32⟩
  | .local _ .vmem, ⟨14, _⟩ => ⟨S512x1024, .f32⟩
  | .local _ .vmem, ⟨15, _⟩ => ⟨S512x1024, .f32⟩
  | .local _ .vmem, ⟨16, _⟩ => ⟨S512x1536, .f32⟩
  | .local _ .vmem, ⟨17, _⟩ => ⟨S512x1536, .f32⟩
  | .local _ .vmem, ⟨18, _⟩ => ⟨S512x1024, .bf16⟩
  | .local _ .vmem, ⟨19, _⟩ => ⟨S512x1024, .bf16⟩
  | .local _ .vmem, ⟨20, _⟩ => ⟨S512x512, .bf16⟩
  | .local _ .vmem, ⟨21, _⟩ => ⟨S512x512, .bf16⟩
  | .local _ .vmem, ⟨22, _⟩ => ⟨S1x320x512, .bf16⟩
  | .local _ .vmem, ⟨23, _⟩ => ⟨S1x320x512, .bf16⟩
  | .local _ .vmem, ⟨24, _⟩ => ⟨S512x512, .bf16⟩
  | .local _ .vmem, ⟨25, _⟩ => ⟨S512x512, .bf16⟩
  | .local _ .vmem, ⟨26, _⟩ => ⟨S512x256, .bf16⟩
  | .local _ .vmem, ⟨27, _⟩ => ⟨S512x256, .bf16⟩
  | .local _ .vmem, ⟨28, _⟩ => ⟨S512x128, .f32⟩
  | .local _ .vmem, ⟨29, _⟩ => ⟨S512x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_c_5 : Ref sig .tc := ⟨.hbm, 47, rfl⟩
abbrev main_v36 : Ref sig .tc := ⟨.hbm, 48, rfl⟩
abbrev main_c_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42_0 : Ref sig .tc := ⟨.hbm, 56, rfl⟩
abbrev main_v42_1 : Ref sig .tc := ⟨.hbm, 57, rfl⟩
abbrev main_v42_2 : Ref sig .tc := ⟨.hbm, 58, rfl⟩
abbrev main_v42_3 : Ref sig .tc := ⟨.hbm, 59, rfl⟩
abbrev main_v42_4 : Ref sig .tc := ⟨.hbm, 60, rfl⟩
abbrev main_v42_5 : Ref sig .tc := ⟨.hbm, 61, rfl⟩
abbrev main_v42_6 : Ref sig .tc := ⟨.hbm, 62, rfl⟩
abbrev main_v42_7 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S320x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S320x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1536 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x320x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference4Ideal.lean ====
abbrev S65536x1024 : Shape := ⟨2, ![65536, 1024]⟩
abbrev S1024x4696 : Shape := ⟨2, ![1024, 4696]⟩
abbrev S64 : Shape := ⟨1, ![64]⟩
abbrev S65536x4696 : Shape := ⟨2, ![65536, 4696]⟩
abbrev S65536x1536 : Shape := ⟨2, ![65536, 1536]⟩
abbrev S65536x16 : Shape := ⟨2, ![65536, 16]⟩
abbrev S65536x256 : Shape := ⟨2, ![65536, 256]⟩
abbrev S65536x512 : Shape := ⟨2, ![65536, 512]⟩
abbrev S65536x64 : Shape := ⟨2, ![65536, 64]⟩
abbrev S65536x8 : Shape := ⟨2, ![65536, 8]⟩
abbrev S_ : Shape := ⟨0, ![]⟩
abbrev S65536 : Shape := ⟨1, ![65536]⟩
abbrev S65536x1 : Shape := ⟨2, ![65536, 1]⟩
abbrev S1x64 : Shape := ⟨2, ![1, 64]⟩
abbrev S65536x2x2x4x64 : Shape := ⟨5, ![65536, 2, 2, 4, 64]⟩
abbrev S65536x2x4x2x64 : Shape := ⟨5, ![65536, 2, 4, 2, 64]⟩
abbrev S65536x2x2x64 : Shape := ⟨4, ![65536, 2, 2, 64]⟩
abbrev S65536x2x1 : Shape := ⟨3, ![65536, 2, 1]⟩
abbrev S65536x2x63 : Shape := ⟨3, ![65536, 2, 63]⟩
abbrev S65536x2x64 : Shape := ⟨3, ![65536, 2, 64]⟩
abbrev S65536x2x1x64 : Shape := ⟨4, ![65536, 2, 1, 64]⟩
abbrev S65536x2x256 : Shape := ⟨3, ![65536, 2, 256]⟩
abbrev S16x4096x4x64 : Shape := ⟨4, ![16, 4096, 4, 64]⟩
abbrev S16x4x64x4096 : Shape := ⟨4, ![16, 4, 64, 4096]⟩
abbrev S16x4x1x4096 : Shape := ⟨4, ![16, 4, 1, 4096]⟩
abbrev S16x4x15x4096 : Shape := ⟨4, ![16, 4, 15, 4096]⟩
abbrev S16x4x80x4096 : Shape := ⟨4, ![16, 4, 80, 4096]⟩
abbrev S16x320x4096 : Shape := ⟨3, ![16, 320, 4096]⟩
abbrev S65536x128 : Shape := ⟨2, ![65536, 128]⟩
abbrev S65536x104 : Shape := ⟨2, ![65536, 104]⟩

abbrev nBuf : Space → Nat
  | .hbm => 86
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x4696, .f32⟩
  | .hbm, ⟨2, _⟩ => ⟨S64, .f32⟩
  | .hbm, ⟨3, _⟩ => ⟨S64, .f32⟩
  | .hbm, ⟨4, _⟩ => ⟨S65536x4696, .f32⟩
  | .hbm, ⟨5, _⟩ => ⟨S65536x1024, .f32⟩
  | .hbm, ⟨6, _⟩ => ⟨S65536x1536, .f32⟩
  | .hbm, ⟨7, _⟩ => ⟨S65536x16, .f32⟩
  | .hbm, ⟨8, _⟩ => ⟨S65536x1024, .f32⟩
  | .hbm, ⟨9, _⟩ => ⟨S65536x256, .f32⟩
  | .hbm, ⟨10, _⟩ => ⟨S65536x256, .f32⟩
  | .hbm, ⟨11, _⟩ => ⟨S65536x512, .f32⟩
  | .hbm, ⟨12, _⟩ => ⟨S65536x64, .f32⟩
  | .hbm, ⟨13, _⟩ => ⟨S65536x8, .f32⟩
  | .hbm, ⟨14, _⟩ => ⟨S_, .f32⟩
  | .hbm, ⟨15, _⟩ => ⟨S65536, .f32⟩
  | .hbm, ⟨16, _⟩ => ⟨S65536x1, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S65536x64, .f32⟩
  | .hbm, ⟨21, _⟩ => ⟨S65536x64, .f32⟩
  | .hbm, ⟨22, _⟩ => ⟨S65536x64, .f32⟩
  | .hbm, ⟨23, _⟩ => ⟨S_, .f32⟩
  | .hbm, ⟨24, _⟩ => ⟨S65536, .f32⟩
  | .hbm, ⟨25, _⟩ => ⟨S65536x1, .f32⟩
  | .hbm, ⟨26, _⟩ => ⟨S_, .f32⟩
  | .hbm, ⟨27, _⟩ => ⟨S65536x1, .f32⟩
  | .hbm, ⟨28, _⟩ => ⟨S65536x1, .f32⟩
  | .hbm, ⟨29, _⟩ => ⟨S65536x64, .f32⟩
  | .hbm, ⟨30, _⟩ => ⟨S65536x64, .f32⟩
  | .hbm, ⟨31, _⟩ => ⟨S_, .f32⟩
  | .hbm, ⟨32, _⟩ => ⟨S65536x1, .f32⟩
  | .hbm, ⟨33, _⟩ => ⟨S65536x1, .f32⟩
  | .hbm, ⟨34, _⟩ => ⟨S65536x1, .f32⟩
  | .hbm, ⟨35, _⟩ => ⟨S65536x64, .f32⟩
  | .hbm, ⟨36, _⟩ => ⟨S65536x64, .f32⟩
  | .hbm, ⟨37, _⟩ => ⟨S1x64, .f32⟩
  | .hbm, ⟨38, _⟩ => ⟨S65536x64, .f32⟩
  | .hbm, ⟨39, _⟩ => ⟨S65536x64, .f32⟩
  | .hbm, ⟨40, _⟩ => ⟨S1x64, .f32⟩
  | .hbm, ⟨41, _⟩ => ⟨S65536x64, .f32⟩
  | .hbm, ⟨42, _⟩ => ⟨S65536x64, .f32⟩
  | .hbm, ⟨43, _⟩ => ⟨S_, .f32⟩
  | .hbm, ⟨44, _⟩ => ⟨S65536x8, .f32⟩
  | .hbm, ⟨45, _⟩ => ⟨S65536x8, .f32⟩
  | .hbm, ⟨46, _⟩ => ⟨S65536x2x2x4x64, .f32⟩
  | .hbm, ⟨47, _⟩ => ⟨S65536x2x4x2x64, .f32⟩
  | .hbm, ⟨48, _⟩ => ⟨S65536x1024, .f32⟩
  | .hbm, ⟨49, _⟩ => ⟨S_, .f32⟩
  | .hbm, ⟨50, _⟩ => ⟨S65536x1024, .f32⟩
  | .hbm, ⟨51, _⟩ => ⟨S65536x1024, .f32⟩
  | .hbm, ⟨52, _⟩ => ⟨S65536x2x2x64, .f32⟩
  | .hbm, ⟨53, _⟩ => ⟨S_, .f32⟩
  | .hbm, ⟨54, _⟩ => ⟨S65536x2x1, .f32⟩
  | .hbm, ⟨55, _⟩ => ⟨S_, .f32⟩
  | .hbm, ⟨56, _⟩ => ⟨S65536x2x63, .f32⟩
  | .hbm, ⟨57, _⟩ => ⟨S65536x2x64, .f32⟩
  | .hbm, ⟨58, _⟩ => ⟨S65536x2x1x64, .f32⟩
  | .hbm, ⟨59, _⟩ => ⟨S65536x2x64, .f32⟩
  | .hbm, ⟨60, _⟩ => ⟨S65536x2x1x64, .f32⟩
  | .hbm, ⟨61, _⟩ => ⟨S65536x2x64, .f32⟩
  | .hbm, ⟨62, _⟩ => ⟨S65536x2x256, .f32⟩
  | .hbm, ⟨63, _⟩ => ⟨S65536x512, .f32⟩
  | .hbm, ⟨64, _⟩ => ⟨S16x4096x4x64, .f32⟩
  | .hbm, ⟨65, _⟩ => ⟨S16x4x64x4096, .f32⟩
  | .hbm, ⟨66, _⟩ => ⟨S_, .f32⟩
  | .hbm, ⟨67, _⟩ => ⟨S16x4x1x4096, .f32⟩
  | .hbm, ⟨68, _⟩ => ⟨S_, .f32⟩
  | .hbm, ⟨69, _⟩ => ⟨S16x4x15x4096, .f32⟩
  | .hbm, ⟨70, _⟩ => ⟨S16x4x80x4096, .f32⟩
  | .hbm, ⟨71, _⟩ => ⟨S16x320x4096, .f32⟩
  | .hbm, ⟨72, _⟩ => ⟨S_, .f32⟩
  | .hbm, ⟨73, _⟩ => ⟨S65536x128, .f32⟩
  | .hbm, ⟨74, _⟩ => ⟨S65536x256, .f32⟩
  | .hbm, ⟨75, _⟩ => ⟨S_, .f32⟩
  | .hbm, ⟨76, _⟩ => ⟨S65536x104, .f32⟩
  | .hbm, ⟨77, _⟩ => ⟨S65536x128, .f32⟩
  | .hbm, ⟨78, _⟩ => ⟨S65536x1024, .bf16⟩
  | .hbm, ⟨79, _⟩ => ⟨S65536x512, .bf16⟩
  | .hbm, ⟨80, _⟩ => ⟨S16x320x4096, .bf16⟩
  | .hbm, ⟨81, _⟩ => ⟨S_, .f32⟩
  | .hbm, ⟨82, _⟩ => ⟨S65536x512, .f32⟩
  | .hbm, ⟨83, _⟩ => ⟨S65536x512, .f32⟩
  | .hbm, ⟨84, _⟩ => ⟨S65536x512, .bf16⟩
  | .hbm, ⟨85, _⟩ => ⟨S65536x256, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_cst_7 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_8 : Ref sig .tc := ⟨.hbm, 66, rfl⟩
abbrev main_v53 : Ref sig .tc := ⟨.hbm, 67, rfl⟩
abbrev main_cst_9 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_10 : Ref sig .tc := ⟨.hbm, 72, rfl⟩
abbrev main_v57 : Ref sig .tc := ⟨.hbm, 73, rfl⟩
abbrev main_v58 : Ref sig .tc := ⟨.hbm, 74, rfl⟩
abbrev main_cst_11 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_12 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== Proof.Ssd.Spec.lean ====
/-
  One chunk of 128 rows of the selective state-space recurrence, in plain sums over the extended reals: what the rows of a
  chunk give and what state the chunk leaves, from the state that it finds. A lane `e` of 1,024 is element `e % 64` of head
  `e / 64`; sixteen heads in two groups of eight, and a group shares its B and C columns.
-/
module

public import Idealize.ShloMosaic.Lib.Pointwise

@[expose] public section

noncomputable section

namespace Cert.Ssd

open Idealize.ShloMosaic

/-- The head of a lane. -/
def hd (e : Fin 1024) : Fin 16 := ⟨e.val / 64, by omega⟩

/-- The lane's own column of the activated projection. -/
def xch (e : Fin 1024) : Fin 1536 := ⟨e.val, by omega⟩

/-- Column `n` of the B part that the lane's group reads. -/
def bch (e : Fin 1024) (n : Fin 128) : Fin 1536 := ⟨1024 + 128 * (e.val / 512) + n.val, by omega⟩

/-- Column `n` of the C part that the lane's group reads. -/
def cch (e : Fin 1024) (n : Fin 128) : Fin 1536 := ⟨1280 + 128 * (e.val / 512) + n.val, by omega⟩

/-- Lane `k` of the lane's own group of 512. -/
def gl (e : Fin 1024) (k : Fin 512) : Fin 1024 := ⟨512 * (e.val / 512) + k.val, by omega⟩

/-- Lane `k` of the first group. -/
def lo (k : Fin 512) : Fin 1024 := ⟨k.val, by omega⟩

/-- Lane `k` of the second group. -/
def hi (k : Fin 512) : Fin 1024 := ⟨512 + k.val, by omega⟩

/-- `v · sigmoid v`, as a quotient. -/
def silu (v : EReal) : EReal := Ideal.div v (1 + Ideal.exp (0 - v))

/-- The four-tap causal convolution of a row, given that row and the three before it. -/
def conv4 (w : Fin 4 → EReal) (b x3 x2 x1 x0 : EReal) : EReal := b + w 3 * x0 + w 2 * x1 + w 1 * x2 + w 0 * x3

/-- The step size: softplus, in its stable form. -/
def softplus (v : EReal) : EReal := max v 0 + Ideal.log1p (Ideal.exp (0 - FloatOps.absf (F := Ideal) (φ := FTy.f32) v))

/-- The running sum of the decay exponents over the rows of the chunk up to row `l`. -/
def acs (da : Fin 128 → Fin 16 → EReal) (l : Fin 128) (h : Fin 16) : EReal := ∑ k : Fin 128, if k ≤ l then da k h else 0

/-- The minus infinity that stands above the diagonal, as its word reads. -/
def ninf : EReal := Ideal.ofBits FTy.f32 4286578688#32

section Chunk

variable (A : Fin 128 → Fin 1536 → EReal) (dt da : Fin 128 → Fin 16 → EReal) (d : Fin 16 → EReal)
  (S : Fin 1024 → Fin 128 → EReal) (z : Fin 128 → Fin 1024 → EReal) (ng : Fin 1024 → EReal)

/-- The scaled input of row `l`. -/
def xdt (l : Fin 128) (e : Fin 1024) : EReal := A l (xch e) * dt l (hd e)

/-- Row `l`'s output before gating: what the rows of the chunk send it, what the state sends it, and the skip. -/
def yChunk (l : Fin 128) (e : Fin 1024) : EReal :=
  (∑ s : Fin 128, ((∑ n : Fin 128, A l (cch e n) * A s (bch e n))
      * Ideal.exp (if s ≤ l then acs da l (hd e) - acs da s (hd e) else ninf)) * xdt A dt s e)
    + (∑ n : Fin 128, A l (cch e n) * S e n) * Ideal.exp (acs da l (hd e))
    + d (hd e) * A l (xch e)

/-- The state after the chunk. -/
def stChunk (e : Fin 1024) (n : Fin 128) : EReal :=
  S e n * Ideal.exp (acs da 127 (hd e))
    + ∑ l : Fin 128, A l (bch e n) * (xdt A dt l e * Ideal.exp (acs da 127 (hd e) - acs da l (hd e)))

/-- The gated output. -/
def gChunk (l : Fin 128) (e : Fin 1024) : EReal := yChunk A dt da d S l e * silu (z l e)

/-- The gated output over the root mean square of its group, scaled: the chunk's result. -/
def oChunk (l : Fin 128) (e : Fin 1024) : EReal :=
  gChunk A dt da d S z l e * Ideal.rsqrt (Ideal.div (∑ k : Fin 512, gChunk A dt da d S z l (gl e k) * gChunk A dt da d S z l (gl e k))
      (Ideal.ofBits FTy.f32 1140850688#32) + Ideal.ofBits FTy.f32 925353388#32) * ng e

end Chunk

/-! ## A whole sequence -/

/-- One sequence's operands: the gate, the projection, the step projections, the convolution's weights and bias, the step
    bias, the decay's logarithm, the skip and the norm's scale. -/
structure Args where
  z : Fin 4096 → Fin 1024 → EReal
  x : Fin 4096 → Fin 1536 → EReal
  sm : Fin 4096 → Fin 16 → EReal
  w : Fin 4 → Fin 1536 → EReal
  cb : Fin 1536 → EReal
  dtb : Fin 16 → EReal
  al : Fin 16 → EReal
  d : Fin 16 → EReal
  ng : Fin 1024 → EReal

/-- Row `l` of chunk `k`. -/
def rowOf (k : ℕ) (l : Fin 128) : Fin 4096 := ⟨(128 * k + l.val) % 4096, Nat.mod_lt _ (by decide)⟩

/-- The value `j` rows before row `r`, zero before the sequence. -/
def tap (x : Fin 4096 → EReal) (j r : ℕ) : EReal := if j ≤ r then x ⟨(r - j) % 4096, Nat.mod_lt _ (by decide)⟩ else 0

/-- The activated convolution at row `r`. -/
def actRow (P : Args) (r : ℕ) (ch : Fin 1536) : EReal :=
  silu (conv4 (fun k => P.w k ch) (P.cb ch) (tap (fun r => P.x r ch) 3 r) (tap (fun r => P.x r ch) 2 r) (tap (fun r => P.x r ch) 1 r)
    (tap (fun r => P.x r ch) 0 r))

def act (P : Args) (k : ℕ) (l : Fin 128) (ch : Fin 1536) : EReal := actRow P (128 * k + l.val) ch

def dtv (P : Args) (k : ℕ) (l : Fin 128) (h : Fin 16) : EReal := softplus (P.sm (rowOf k l) h + P.dtb h)

def dav (P : Args) (k : ℕ) (l : Fin 128) (h : Fin 16) : EReal := dtv P k l h * (0 - Ideal.exp (P.al h))

/-- The state before chunk `k`. -/
def stateSeq (P : Args) : ℕ → Fin 1024 → Fin 128 → EReal
  | 0 => fun _ _ => 0
  | k + 1 => stChunk (act P k) (dtv P k) (dav P k) (stateSeq P k)

/-- The result at row `l` of chunk `k`. -/
def result (P : Args) (k : ℕ) (l : Fin 128) (e : Fin 1024) : EReal :=
  oChunk (act P k) (dtv P k) (dav P k) P.d (stateSeq P k) (fun l e => P.z (rowOf k l) e) P.ng l e

/-- A one-word comparison of row numbers chooses as the order of the rows does. -/
theorem select_sle {α : Type} (a b : α) (s l : Fin 128) :
    Scalar.select (IntOp.cmpi CmpIPredicate.sle (BitVec.ofNat 32 s.val) (BitVec.ofNat 32 l.val)) a b = if s ≤ l then a else b := by
  have h : IntOp.cmpi CmpIPredicate.sle (BitVec.ofNat 32 s.val) (BitVec.ofNat 32 l.val) = if s ≤ l then 1#1 else 0#1 := by
    revert s l; decide +kernel
  rw [h]
  by_cases hc : s ≤ l
  · simp [hc, Scalar.select]
  · simp [hc, Scalar.select]

end Cert.Ssd
-- ==== Proof.Ssd.KernelPay.lean ====
/-
  The kernel's straight-line values of one chunk, read at an index, against the chunk's plain sums (`Spec.lean`): the
  convolution and its activation, the step sizes, the running sums of the decay exponents (a product with a triangle of
  ones), the spreading of a head's number over its 64 lanes (a product with a one-hot matrix), one head's product within
  the chunk, the state's share, the new state, and the gated and normalized result.
-/
module

public import proofs.«01_k».proof.Proof.Gen.KernelIdeal.Skeleton
public import proofs.«01_k».proof.Proof.Ssd.Spec

@[expose] public section

set_option maxRecDepth 16384

noncomputable section

namespace Cert.Ssd

open Idealize.ShloMosaic Idealize.ShloMosaic.TcCoe Idealize.SL.Sem
open Cert.KernelIdeal Cert.KernelIdeal.Gen

/-- A head's lane in the padded row of 128 heads. -/
def up (h : Fin 16) : Fin 128 := ⟨h.val, by omega⟩

/-- The row numbers of a 128 by 128 tile. -/
abbrev rowNo : IVec S128x128 32 := iota .tc S128x128 32 [0] iota_S128x128_d0_w32
/-- The column numbers of a 128 by 128 tile. -/
abbrev colNo : IVec S128x128 32 := iota .tc S128x128 32 [1] iota_S128x128_d1_w32

/-- The activated convolution of the chunk, from the convolution. -/
def actOf (v : FVec Ideal S128x1536 .f32) (l : Fin 128) (ch : Fin 1536) : EReal := silu (v (ix2 l ch))

/-- The sixteen heads of a padded tile. -/
def heads (v : FVec Ideal S128x128 .f32) (l : Fin 128) (h : Fin 16) : EReal := v (ix2 l (up h))

/-- The matrix that spreads a head's number over its 64 lanes. -/
def OneHot (E : Vec Ideal S128x1024 .f32) : Prop :=
  ∀ (j : Fin 128) (e : Fin 1024), E (ix2 j e) = if j.val = e.val / 64 then 1 else 0

theorem spread {E : Vec Ideal S128x1024 .f32} (hE : OneHot E) (f : Fin 128 → EReal) (e : Fin 1024) :
    ∑ j : Fin 128, f j * E (ix2 j e) = f (up (hd e)) := by
  rw [Finset.sum_eq_single (up (hd e))]
  · rw [hE, if_pos (show (up (hd e)).val = e.val / 64 from rfl), mul_one]
  · intro j _ hj
    rw [hE, if_neg (show ¬ j.val = e.val / 64 from fun h => hj (Fin.ext h)), mul_zero]
  · intro h; exact absurd (Finset.mem_univ _) h

theorem p4 (b w3 w2 w1 w0 : Vec Ideal S1x1536 .f32) (r3 r2 r1 r0 : Vec Ideal S128x1536 .f32) (l : Fin 128) (ch : Fin 1536) :
    k0_pay4 b w3 r3 w2 r2 w1 r1 w0 r0 (ix2 l ch)
      = b (ix2 0 ch) + w3 (ix2 0 ch) * r3 (ix2 l ch) + w2 (ix2 0 ch) * r2 (ix2 l ch) + w1 (ix2 0 ch) * r1 (ix2 l ch)
        + w0 (ix2 0 ch) * r0 (ix2 l ch) := by
  pointwise [k0_pay4]

theorem p6 (v : FVec Ideal S128x1536 .f32) (l : Fin 128) (ch : Fin 1536) : k0_pay6 v (ix2 l ch) = actOf v l ch := by
  unfold actOf silu
  pointwise [k0_pay6]

theorem p7 (v : FVec Ideal S128x1536 .f32) (l : Fin 128) (e : Fin 1024) : k0_pay7 v (ix2 l e) = actOf v l (xch e) := by
  rw [← p6]
  pointwise [k0_pay7]
  rfl

theorem p10 (x2 : Vec Ideal S1x128x128 .f32) (x5 : Vec Ideal S1x128 .f32) (l j : Fin 128) :
    k0_pay10 x2 x5 (ix2 l j) = softplus (x2 (ix3 0 l j) + x5 (ix2 0 j)) := by
  unfold softplus
  pointwise [k0_pay10]

theorem p11 (x2 : Vec Ideal S1x128x128 .f32) (x5 x6 : Vec Ideal S1x128 .f32) (l : Fin 128) (h : Fin 16) :
    k0_pay11 x2 x5 x6 (ix2 l (up h)) = softplus (x2 (ix3 0 l (up h)) + x5 (ix2 0 (up h))) * (0 - Ideal.exp (x6 (ix2 0 (up h)))) := by
  rw [← p10]
  pointwise [k0_pay11]
  have : IntOp.cmpi CmpIPredicate.slt (BitVec.ofNat 32 (up h).val) 16#32 = 1#1 := by revert h; decide
  rw [this]
  rfl

theorem p13 (da : FVec Ideal S128x128 .f32) (l j : Fin 128) :
    k0_pay13 da rowNo colNo (ix2 l j) = ∑ k : Fin 128, if k ≤ l then da (ix2 k j) else 0 := by
  pointwise [k0_pay13, k0_pay12]
  simp only [select_sle]

theorem p14 (da : FVec Ideal S128x128 .f32) (l j : Fin 128) :
    k0_pay14 da rowNo colNo (ix2 j l) = ∑ k : Fin 128, if k ≤ l then da (ix2 k j) else 0 := by
  rw [← p13]
  pointwise [k0_pay14]

theorem p16 (da : FVec Ideal S128x128 .f32) {E : Vec Ideal S128x1024 .f32} (hE : OneHot E) (l : Fin 128) (e : Fin 1024) :
    k0_pay16 da rowNo colNo E (ix2 l e) = acs (heads da) l (hd e) := by
  pointwise [k0_pay16, k0_pay15]
  refine (spread hE (fun j => k0_pay13 da rowNo colNo (ix2 l j)) e).trans ?_
  exact p13 da l _

theorem p17 (da : FVec Ideal S128x128 .f32) {E : Vec Ideal S128x1024 .f32} (hE : OneHot E) (e : Fin 1024) :
    k0_pay17 da rowNo colNo E (ix2 0 e) = acs (heads da) 127 (hd e) := by
  rw [← p16 da hE]
  pointwise [k0_pay17]

theorem p18 (v : FVec Ideal S128x1536 .f32) (dt : FVec Ideal S128x128 .f32) {E : Vec Ideal S128x1024 .f32} (hE : OneHot E)
    (l : Fin 128) (e : Fin 1024) : k0_pay18 (k0_pay7 v) dt E (ix2 l e) = xdt (actOf v) (heads dt) l e := by
  unfold xdt
  rw [← p7]
  pointwise [k0_pay18, k0_pay15]
  exact congrArg _ (spread hE (fun j => dt (ix2 l j)) e)

theorem p19 (v : FVec Ideal S128x1536 .f32) (dt : FVec Ideal S128x128 .f32) {E : Vec Ideal S128x1024 .f32} (hE : OneHot E)
    (l : Fin 128) (e : Fin 1024) : k0_pay19 (k0_pay7 v) dt E (ix2 l e) = xdt (actOf v) (heads dt) l e := by
  rw [← p18 v dt hE]
  pointwise [k0_pay19]

theorem p20 (v : FVec Ideal S128x1536 .f32) (dt da : FVec Ideal S128x128 .f32) {E : Vec Ideal S128x1024 .f32} (hE : OneHot E)
    (l : Fin 128) (e : Fin 1024) : k0_pay20 (k0_pay7 v) dt da rowNo colNo E (ix2 l e)
      = xdt (actOf v) (heads dt) l e * Ideal.exp (acs (heads da) 127 (hd e) - acs (heads da) l (hd e)) := by
  rw [← p18 v dt hE, ← p17 da hE, ← p16 da hE]
  pointwise [k0_pay20]

theorem p21 (da : FVec Ideal S128x128 .f32) {E : Vec Ideal S128x1024 .f32} (hE : OneHot E) (l : Fin 128) (e : Fin 1024) :
    k0_pay21 da rowNo colNo E (ix2 l e) = Ideal.exp (acs (heads da) l (hd e)) := by
  rw [← p16 da hE]
  pointwise [k0_pay21]

theorem p22 (da : FVec Ideal S128x128 .f32) {E : Vec Ideal S128x1024 .f32} (hE : OneHot E) (e : Fin 1024) :
    k0_pay22 da rowNo colNo E (ix2 0 e) = Ideal.exp (acs (heads da) 127 (hd e)) := by
  rw [← p17 da hE]
  pointwise [k0_pay22]

/-! ## The B and C columns of the two groups -/

theorem p23 (v : FVec Ideal S128x1536 .f32) (s n : Fin 128) (e : Fin 1024) (h : e.val / 512 = 0) :
    k0_pay23 (k0_pay8 v) (ix2 s n) = actOf v s (bch e n) := by
  rw [← p6]
  pointwise [k0_pay23, k0_pay8]
  exact congrArg (fun k => k0_pay6 v (ix2 s k)) (Fin.ext (by show _ = 1024 + 128 * (e.val / 512) + n.val; simp only [h]))

theorem p43 (v : FVec Ideal S128x1536 .f32) (s n : Fin 128) (e : Fin 1024) (h : e.val / 512 = 1) :
    k0_pay43 (k0_pay8 v) (ix2 s n) = actOf v s (bch e n) := by
  rw [← p6]
  pointwise [k0_pay43, k0_pay8]
  exact congrArg (fun k => k0_pay6 v (ix2 s k)) (Fin.ext (by show _ = 1024 + 128 * (e.val / 512) + n.val; simp only [h]; omega))

theorem p24 (v : FVec Ideal S128x1536 .f32) (s n : Fin 128) (e : Fin 1024) (h : e.val / 512 = 0) :
    k0_pay24 (k0_pay9 v) (ix2 s n) = actOf v s (cch e n) := by
  rw [← p6]
  pointwise [k0_pay24, k0_pay9]
  exact congrArg (fun k => k0_pay6 v (ix2 s k)) (Fin.ext (by show _ = 1280 + 128 * (e.val / 512) + n.val; simp only [h]))

theorem p44 (v : FVec Ideal S128x1536 .f32) (s n : Fin 128) (e : Fin 1024) (h : e.val / 512 = 1) :
    k0_pay44 (k0_pay9 v) (ix2 s n) = actOf v s (cch e n) := by
  rw [← p6]
  pointwise [k0_pay44, k0_pay9]
  exact congrArg (fun k => k0_pay6 v (ix2 s k)) (Fin.ext (by show _ = 1280 + 128 * (e.val / 512) + n.val; simp only [h]; omega))

theorem p25 (v : FVec Ideal S128x1536 .f32) (l s : Fin 128) (e : Fin 1024) (h : e.val / 512 = 0) :
    k0_pay25 (k0_pay8 v) (k0_pay9 v) (ix2 l s) = ∑ n : Fin 128, actOf v l (cch e n) * actOf v s (bch e n) := by
  simp only [← p23 v _ _ e h, ← p24 v _ _ e h]
  pointwise [k0_pay25]

theorem p45 (v : FVec Ideal S128x1536 .f32) (l s : Fin 128) (e : Fin 1024) (h : e.val / 512 = 1) :
    k0_pay45 (k0_pay8 v) (k0_pay9 v) (ix2 l s) = ∑ n : Fin 128, actOf v l (cch e n) * actOf v s (bch e n) := by
  simp only [← p43 v _ _ e h, ← p44 v _ _ e h]
  pointwise [k0_pay45]

/-! ## One head within the chunk -/

/-- What the kernel stores for one head: the masked, decayed product of the chunk's rows with the head's 64 lanes. -/
def headOp (m : IVec S128x128 1) (a aT : FVec Ideal S128x128 .f32) (xb : FVec Ideal S128x1024 .bf16) (cb : FVec Ideal S128x128 .f32)
    (j o : ℕ) (h1 : S128x128.Slices ![0, j] S128x1) (h2 : S128x128.Slices ![j, 0] S1x128) (h3 : S128x1024.Slices ![0, o] S128x64) :
    FVec Ideal S128x64 .f32 :=
  shapeCast S128x64 (matmul dot_S128x128_S128x64_S128x64_1_0_0_1_n_n none
    (truncf .bf16 (mulf cb (exp (select m (subf (broadcastTo S128x128 (extractStridedSlice S128x1 ![0, j] a h1) broadcasts_S128x1_S128x128)
      (broadcastTo S128x128 (extractStridedSlice S1x128 ![j, 0] aT h2) broadcasts_S1x128_S128x128))
      (broadcast S128x128 (Scalar.ofBits .f32 0xFF800000#32))))) bitsLt_bf16_f32)
    (extractStridedSlice S128x64 ![0, o] xb h3) (constant S128x64 .f32 0x00000000#32)) shapeCasts_S128x64_S128x64

theorem headOp_apply (m : IVec S128x128 1) (a aT : FVec Ideal S128x128 .f32) (xb : FVec Ideal S128x1024 .bf16)
    (cb : FVec Ideal S128x128 .f32) (j o : ℕ) (h1 : S128x128.Slices ![0, j] S128x1) (h2 : S128x128.Slices ![j, 0] S1x128)
    (h3 : S128x1024.Slices ![0, o] S128x64) (hj : j < 128) (ho : o + 64 ≤ 1024) (l : Fin 128) (p : Fin 64) :
    headOp m a aT xb cb j o h1 h2 h3 (ix2 l p)
      = ∑ s : Fin 128, cb (ix2 l s) * Ideal.exp (Scalar.select (m (ix2 l s)) (a (ix2 l ⟨j, hj⟩) - aT (ix2 ⟨j, hj⟩ s)) ninf)
          * xb (ix2 s ⟨o + p.val, by omega⟩) := by
  unfold ninf
  pointwise [headOp]

/-- Lane `e`'s share of the rows of the chunk in row `l`'s output. -/
def yIn (A : Fin 128 → Fin 1536 → EReal) (dt da : Fin 128 → Fin 16 → EReal) (l : Fin 128) (e : Fin 1024) : EReal :=
  ∑ s : Fin 128, ((∑ n : Fin 128, A l (cch e n) * A s (bch e n))
      * Ideal.exp (if s ≤ l then acs da l (hd e) - acs da s (hd e) else ninf)) * xdt A dt s e

/-- A stored head is that share at its lanes, given the group's products. -/
theorem headOp_eq (v : FVec Ideal S128x1536 .f32) (dt da : FVec Ideal S128x128 .f32) {E : Vec Ideal S128x1024 .f32} (hE : OneHot E)
    (cb : FVec Ideal S128x128 .f32) (j o : ℕ)
    (h1 : S128x128.Slices ![0, j] S128x1) (h2 : S128x128.Slices ![j, 0] S1x128) (h3 : S128x1024.Slices ![0, o] S128x64)
    (hj : j < 16) (ho : o = 64 * j) (l : Fin 128) (p : Fin 64) (e : Fin 1024) (he : e.val = o + p.val)
    (hcb : ∀ s, cb (ix2 l s) = ∑ n : Fin 128, actOf v l (cch e n) * actOf v s (bch e n)) :
    headOp (k0_pay12 rowNo colNo) (k0_pay13 da rowNo colNo) (k0_pay14 da rowNo colNo) (k0_pay19 (k0_pay7 v) dt E) cb j o h1 h2 h3
      (ix2 l p) = yIn (actOf v) (heads dt) (heads da) l e := by
  rw [headOp_apply _ _ _ _ _ _ _ _ _ _ (by omega) (by omega)]
  refine Finset.sum_congr rfl fun s _ => ?_
  have hjh : (⟨j, by omega⟩ : Fin 128) = up (hd e) := Fin.ext (by show j = e.val / 64; omega)
  have hlane : (⟨o + p.val, by omega⟩ : Fin 1024) = e := Fin.ext he.symm
  have hm : k0_pay12 rowNo colNo (ix2 l s) = IntOp.cmpi CmpIPredicate.sle (BitVec.ofNat 32 s.val) (BitVec.ofNat 32 l.val) := by
    pointwise [k0_pay12]
  rw [hcb, hjh, hlane, p19 v dt hE, p13, p14, hm, select_sle]
  rfl

/-- The stored tile of a head of the first group, whatever it is called, at its lanes. -/
theorem head0 (v : FVec Ideal S128x1536 .f32) (dt da : FVec Ideal S128x128 .f32) {E : Vec Ideal S128x1024 .f32} (hE : OneHot E) (j o : ℕ)
    (X : FVec Ideal S128x64 .f32) (x : S128x64.Idx) (l : Fin 128) (e : Fin 1024)
    (h1 : S128x128.Slices ![0, j] S128x1) (h2 : S128x128.Slices ![j, 0] S1x128) (h3 : S128x1024.Slices ![0, o] S128x64)
    (hX : X = headOp (k0_pay12 rowNo colNo) (k0_pay13 da rowNo colNo) (k0_pay14 da rowNo colNo) (k0_pay19 (k0_pay7 v) dt E)
      (k0_pay25 (k0_pay8 v) (k0_pay9 v)) j o h1 h2 h3)
    (hj : j < 8) (ho : o = 64 * j) (hl : l.val = (x 0).val) (he : e.val = o + (x 1).val) :
    X x = yIn (actOf v) (heads dt) (heads da) l e := by
  have hx0 : x 0 = l := Fin.ext (by omega)
  have hx1 : (x 1).val < 64 := (x 1).isLt
  have hx : x = ix2 l (x 1) := by funext a; match a with
    | ⟨0, _⟩ => exact hx0
    | ⟨1, _⟩ => rfl
  rw [hX, hx]
  exact headOp_eq v dt da hE _ j o h1 h2 h3 (by omega) ho l _ e he fun s => p25 v l s e (by omega)

/-- The same for a head of the second group. -/
theorem head1 (v : FVec Ideal S128x1536 .f32) (dt da : FVec Ideal S128x128 .f32) {E : Vec Ideal S128x1024 .f32} (hE : OneHot E) (j o : ℕ)
    (X : FVec Ideal S128x64 .f32) (x : S128x64.Idx) (l : Fin 128) (e : Fin 1024)
    (h1 : S128x128.Slices ![0, j] S128x1) (h2 : S128x128.Slices ![j, 0] S1x128) (h3 : S128x1024.Slices ![0, o] S128x64)
    (hX : X = headOp (k0_pay12 rowNo colNo) (k0_pay13 da rowNo colNo) (k0_pay14 da rowNo colNo) (k0_pay19 (k0_pay7 v) dt E)
      (k0_pay45 (k0_pay8 v) (k0_pay9 v)) j o h1 h2 h3)
    (hj0 : 8 ≤ j) (hj : j < 16) (ho : o = 64 * j) (hl : l.val = (x 0).val) (he : e.val = o + (x 1).val) :
    X x = yIn (actOf v) (heads dt) (heads da) l e := by
  have hx0 : x 0 = l := Fin.ext (by omega)
  have hx1 : (x 1).val < 64 := (x 1).isLt
  have hx : x = ix2 l (x 1) := by funext a; match a with
    | ⟨0, _⟩ => exact hx0
    | ⟨1, _⟩ => rfl
  rw [hX, hx]
  exact headOp_eq v dt da hE _ j o h1 h2 h3 (by omega) ho l _ e he fun s => p45 v l s e (by omega)

/-! ## The chunk's results -/

section Results

variable (v : FVec Ideal S128x1536 .f32) (dt da : FVec Ideal S128x128 .f32) {E : Vec Ideal S128x1024 .f32} (hE : OneHot E)
  (prev0 prev1 : Vec Ideal S1x128x512 .f32) (S : Fin 1024 → Fin 128 → EReal)
  (hp0 : ∀ (n : Fin 128) (k : Fin 512), prev0 (ix3 0 n k) = S (lo k) n)
  (hp1 : ∀ (n : Fin 128) (k : Fin 512), prev1 (ix3 0 n k) = S (hi k) n)
include hE

include hp0 in
/-- The first group's new state. -/
theorem st0_eq (n : Fin 128) (k : Fin 512) :
    k0_pay42 (k0_pay20 (k0_pay7 v) dt da rowNo colNo E) (k0_pay22 da rowNo colNo E) (k0_pay23 (k0_pay8 v)) prev0 (ix3 0 n k)
      = stChunk (actOf v) (heads dt) (heads da) S (lo k) n := by
  unfold stChunk
  simp only [← p20 v dt da hE, ← p22 da hE, ← p23 v _ _ (lo k) (by show k.val / 512 = 0; omega), ← hp0]
  pointwise [k0_pay42, k0_pay40]
  rfl

include hp1 in
/-- The second group's new state. -/
theorem st1_eq (n : Fin 128) (k : Fin 512) :
    k0_pay58 (k0_pay20 (k0_pay7 v) dt da rowNo colNo E) (k0_pay22 da rowNo colNo E) (k0_pay43 (k0_pay8 v)) prev1 (ix3 0 n k)
      = stChunk (actOf v) (heads dt) (heads da) S (hi k) n := by
  unfold stChunk
  simp only [← p20 v dt da hE, ← p22 da hE, ← p43 v _ _ (hi k) (by show (512 + k.val) / 512 = 1; omega), ← hp1]
  pointwise [k0_pay58, k0_pay57]
  rfl

variable (yd : Vec Ideal S128x1024 .f32) (hyd : ∀ l e, yd (ix2 l e) = yIn (actOf v) (heads dt) (heads da) l e)

include hp0 hp1 hyd in
/-- A row before the skip: the chunk's share and the state's. -/
theorem pre_eq (l : Fin 128) (e : Fin 1024) :
    k0_pay59 (k0_pay21 da rowNo colNo E) (k0_pay41 (k0_pay21 da rowNo colNo E) (k0_pay24 (k0_pay9 v)) prev0) (k0_pay44 (k0_pay9 v)) prev1 yd
        (ix2 l e)
      = yIn (actOf v) (heads dt) (heads da) l e
        + (∑ n : Fin 128, actOf v l (cch e n) * S e n) * Ideal.exp (acs (heads da) l (hd e)) := by
  rw [← hyd, ← p21 da hE]
  by_cases h : e.val < 512
  · simp only [← p24 v _ _ e (by omega)]
    pointwise [k0_pay59, k0_pay57, k0_pay41, k0_pay40]
    rw [dif_pos h]
    have he : lo ⟨e.val, h⟩ = e := rfl
    simp only [hp0, he]
  · simp only [← p44 v _ _ e (by omega)]
    pointwise [k0_pay59, k0_pay57, k0_pay41, k0_pay40]
    rw [dif_neg h]
    have he : hi ⟨e.val - 512, by omega⟩ = e := Fin.ext (by show 512 + (e.val - 512) = e.val; omega)
    have he' : (⟨512 + (e.val - 512), by omega⟩ : Fin 1024) = e := Fin.ext (by show 512 + (e.val - 512) = e.val; omega)
    simp only [hp1, he, he']

variable (x7 x8 : Vec Ideal S1x1024 .f32) (x0 : Vec Ideal S1x128x1024 .f32) (d : Fin 16 → EReal)
  (hd7 : ∀ e : Fin 1024, x7 (ix2 0 e) = d (hd e))

include hp0 hp1 hyd hd7 in
/-- The chunk's stored rows. -/
theorem out_eq (l : Fin 128) (e : Fin 1024) :
    k0_pay61 (k0_pay7 v) (k0_pay59 (k0_pay21 da rowNo colNo E) (k0_pay41 (k0_pay21 da rowNo colNo E) (k0_pay24 (k0_pay9 v)) prev0)
        (k0_pay44 (k0_pay9 v)) prev1 yd) (k0_pay60 x7) x0 x8 (ix3 0 l e)
      = oChunk (actOf v) (heads dt) (heads da) d S (fun l e => x0 (ix3 0 l e)) (fun e => x8 (ix2 0 e)) l e := by
  have hg : ∀ e : Fin 1024, (k0_pay59 (k0_pay21 da rowNo colNo E) (k0_pay41 (k0_pay21 da rowNo colNo E) (k0_pay24 (k0_pay9 v)) prev0)
        (k0_pay44 (k0_pay9 v)) prev1 yd (ix2 l e) + k0_pay60 x7 (ix2 0 e) * k0_pay7 v (ix2 l e)) * silu (x0 (ix3 0 l e))
      = gChunk (actOf v) (heads dt) (heads da) d S (fun l e => x0 (ix3 0 l e)) l e := by
    intro e
    rw [pre_eq v dt da hE prev0 prev1 S hp0 hp1 yd hyd, p7]
    have h60 : k0_pay60 x7 (ix2 0 e) = d (hd e) := by
      rw [← hd7]
      pointwise [k0_pay60]
    rw [h60]
    rfl
  unfold oChunk
  simp only [← hg]
  generalize k0_pay59 (k0_pay21 da rowNo colNo E) (k0_pay41 (k0_pay21 da rowNo colNo E) (k0_pay24 (k0_pay9 v)) prev0)
        (k0_pay44 (k0_pay9 v)) prev1 yd = w
  generalize k0_pay60 x7 = w7
  generalize k0_pay7 v = w1
  unfold silu
  pointwise [k0_pay61]
  by_cases h : e.val < 512
  · have hgl : ∀ x : Fin 512, gl e x = ⟨x.val, by omega⟩ := fun x => Fin.ext (by show 512 * (e.val / 512) + x.val = x.val; omega)
    simp only [dif_pos h, hgl]
  · have hgl : ∀ x : Fin 512, gl e x = ⟨512 + x.val, by omega⟩ := fun x => Fin.ext (by show 512 * (e.val / 512) + x.val = 512 + x.val; omega)
    have he : (⟨512 + (e.val - 512), by omega⟩ : Fin 1024) = e := Fin.ext (by show 512 + (e.val - 512) = e.val; omega)
    simp only [dif_neg h, hgl, he]

end Results

end Cert.Ssd
-- ==== Proof.Ssd.KernelBuf.lean ====
/-
  The kernel's two carried buffers, read at an index: the convolution's rows (eight rows of the chunk before, then the
  chunk's 128) and the state (two groups of 128 by 512).
-/
module

public import proofs.«01_k».proof.Proof.Gen.KernelIdeal.Value
public import proofs.«01_k».proof.Proof.Ssd.KernelPay
public import Idealize.ShloMosaic.Lib.WritesUnit
public import Idealize.ShloMosaic.Lib.Pipeline.ValueKit

@[expose] public section

set_option maxRecDepth 16384
set_option maxHeartbeats 1000000

noncomputable section

namespace Cert.Ssd

open Idealize.ShloMosaic Idealize.ShloMosaic.TcCoe Idealize.SL.Sem
open Cert.KernelIdeal Cert.KernelIdeal.Gen

/-- Row `k` of the convolution's buffer: the chunk's rows from row 8 on, what was there before above them. -/
def ext (halo : Fin 136 → Fin 1536 → EReal) (x1 : Vec Ideal S1x128x1536 .f32) (k : Fin 136) (ch : Fin 1536) : EReal :=
  if h : 8 ≤ k.val then x1 (ix3 0 ⟨k.val - 8, by omega⟩ ch) else halo k ch

/-- The convolution of the chunk, at a row and a column. -/
def convAt (halo : Fin 136 → Fin 1536 → EReal) (x1 : Vec Ideal S1x128x1536 .f32) (x3 : Vec Ideal S4x1536 .f32) (x4 : Vec Ideal S1x1536 .f32)
    (l : Fin 128) (ch : Fin 1536) : EReal :=
  conv4 (fun k => x3 (ix2 k ch)) (x4 (ix2 0 ch)) (ext halo x1 ⟨5 + l.val, by omega⟩ ch) (ext halo x1 ⟨6 + l.val, by omega⟩ ch)
    (ext halo x1 ⟨7 + l.val, by omega⟩ ch) (ext halo x1 ⟨8 + l.val, by omega⟩ ch)

/-- The convolution of the chunk, as a tile. -/
def convOf (halo : Fin 136 → Fin 1536 → EReal) (x1 : Vec Ideal S1x128x1536 .f32) (x3 : Vec Ideal S4x1536 .f32) (x4 : Vec Ideal S1x1536 .f32) :
    FVec Ideal S128x1536 .f32 := fun i => convAt halo x1 x3 x4 (i 0) (i 1)

theorem hz2 : (![0, 0] : Fin 2 → ℕ) = 0 := by decide
theorem hz3 : (![0, 0, 0] : Fin 3 → ℕ) = 0 := by decide

theorem readCov_ld {Val : EltTy → Type} [∀ e, Nonempty (Val e)] {sg : RefSig} {κ : Kind} {sp : Space} {s : Shape} {e : EltTy}
    (v : View sg κ sp s e) (L : List (View.Piece Val s e)) (r : Rect s) : v.readCov L r.toLoadRect = View.ld (v.read Val (v.writes Val v.junk L)) r := rfl

theorem ld_rows (X : Vec Ideal S136x1536 .f32) (o : ℕ) (ho : o ≤ 8) (inb : ∀ a, (![o, 0] : Fin 2 → ℕ) a + S128x1536.size a ≤ S136x1536.size a)
    (l : Fin 128) (ch : Fin 1536) : View.ld X (Rect.unit ![o, 0] S128x1536.size inb) (ix2 l ch) = X (ix2 ⟨o + l.val, by omega⟩ ch) := by
  refine View.ld_unit_apply_of (S := S136x1536) X ![o, 0] S128x1536.size inb (ix2 l ch) (ix2 ⟨o + l.val, by omega⟩ ch) ?_
  refine Fin.forall_fin_two.mpr ⟨?_, ?_⟩
  · rfl
  · show ch.val = 0 + ch.val; omega

theorem p3 (x1 : Vec Ideal S1x128x1536 .f32) (l : Fin 128) (ch : Fin 1536) : k0_pay3 x1 (ix2 l ch) = x1 (ix3 0 l ch) := by
  pointwise [k0_pay3]

theorem buf_read {sg : RefSig} {κ : Kind} {sp : Space} (v : View sg κ sp S136x1536 .f32) (f : v.ty.Contents (Elt Ideal))
    (inb : ∀ a, (![8, 0] : Fin 2 → ℕ) a + (![128, 1536] : Fin 2 → ℕ) a ≤ S136x1536.size a)
    (w : S128x1536.Idx → Elt Ideal .f32) (L : List (View.Piece (Elt Ideal) S136x1536 .f32)) (k : Fin 136) (ch : Fin 1536) :
    v.read (Elt Ideal) (v.writes (Elt Ideal) f ((⟨Rect.unit ![8, 0] ![128, 1536] inb, w⟩ : View.Piece (Elt Ideal) S136x1536 .f32) :: L)) (ix2 k ch)
      = if h : 8 ≤ k.val then w (ix2 ⟨k.val - 8, by omega⟩ ch) else v.read (Elt Ideal) (v.writes (Elt Ideal) f L) (ix2 k ch) := by
  by_cases h : 8 ≤ k.val
  · rw [dif_pos h]
    refine View.read_writes_cons_unit_of_mem v f inb w L _ (ix2 ⟨k.val - 8, by omega⟩ ch) rfl ?_
    refine Fin.forall_fin_two.mpr ⟨?_, ?_⟩
    · show k.val = 8 + (k.val - 8); omega
    · show ch.val = 0 + ch.val; omega
  · rw [dif_neg h]
    exact View.read_writes_cons_unit_of_not_mem v f inb w L _ rfl 0 (Or.inl (by show k.val < 8; omega))

/-- A load of 128 rows of that buffer from row `o`, after the chunk's rows were stored. -/
theorem rowAt {sg : RefSig} {κ : Kind} {sp : Space} (v : View sg κ sp S136x1536 .f32) (f : v.ty.Contents (Elt Ideal))
    (halo : Fin 136 → Fin 1536 → EReal) (x1 : Vec Ideal S1x128x1536 .f32) (L : List (View.Piece (Elt Ideal) S136x1536 .f32)) (o : ℕ) (ho : o ≤ 8)
    (inb : ∀ a, (![8, 0] : Fin 2 → ℕ) a + (![128, 1536] : Fin 2 → ℕ) a ≤ S136x1536.size a)
    (inb' : ∀ a, (![o, 0] : Fin 2 → ℕ) a + S128x1536.size a ≤ S136x1536.size a) (l : Fin 128) (ch : Fin 1536)
    (hh : ∀ k : Fin 136, o ≤ k.val → k.val < 8 → v.read (Elt Ideal) (v.writes (Elt Ideal) f L) (ix2 k ch) = halo k ch) :
    View.ld (v.read (Elt Ideal) (v.writes (Elt Ideal) f ((⟨Rect.unit ![8, 0] ![128, 1536] inb, k0_pay3 x1⟩ : View.Piece (Elt Ideal) S136x1536 .f32) :: L)))
      (Rect.unit ![o, 0] S128x1536.size inb') (ix2 l ch) = ext halo x1 ⟨o + l.val, by omega⟩ ch := by
  rw [ld_rows _ o ho, buf_read]
  unfold ext
  by_cases h : 8 ≤ o + l.val
  · rw [dif_pos h, dif_pos h, p3]
  · rw [dif_neg h, dif_neg h]
    exact hh _ (by show o ≤ o + l.val; omega) (by show o + l.val < 8; omega)

theorem ldx3 (x3 : Vec Ideal S4x1536 .f32) (k : Fin 4) (inb : ∀ a, (![k.val, 0] : Fin 2 → ℕ) a + S1x1536.size a ≤ S4x1536.size a) (ch : Fin 1536) :
    View.ld x3 (Rect.unit ![k.val, 0] S1x1536.size inb) (ix2 0 ch) = x3 (ix2 k ch) := by
  refine View.ld_unit_apply_of (S := S4x1536) x3 ![k.val, 0] S1x1536.size inb (ix2 0 ch) (ix2 k ch) ?_
  refine Fin.forall_fin_two.mpr ⟨?_, ?_⟩
  · rfl
  · show ch.val = 0 + ch.val; omega

/-- Row `k` of the eight above the chunk. -/
def top (k : Fin 8) : Fin 136 := ⟨k.val, by omega⟩

/-- Row `k` of the chunk's last eight. -/
def lastRow (k : Fin 8) : Fin 128 := ⟨120 + k.val, by omega⟩

/-- The state's lanes in the kernel's layout: group, state column, lane of the group. -/
def stateOf (X : Vec Ideal S2x128x512 .f32) (e : Fin 1024) (n : Fin 128) : EReal :=
  X (ix3 ⟨e.val / 512, by omega⟩ n ⟨e.val % 512, by omega⟩)

/-- The state's buffer after its two halves were stored, the second last. -/
theorem st_read {sg : RefSig} {κ : Kind} {sp : Space} (v : View sg κ sp S2x128x512 .f32) (f : v.ty.Contents (Elt Ideal))
    (inb1 : ∀ a, (![1, 0, 0] : Fin 3 → ℕ) a + S1x128x512.size a ≤ S2x128x512.size a)
    (inb0 : ∀ a, (![0, 0, 0] : Fin 3 → ℕ) a + S1x128x512.size a ≤ S2x128x512.size a)
    (w1 w0 : S1x128x512.Idx → Elt Ideal .f32) (L : List (View.Piece (Elt Ideal) S2x128x512 .f32)) (g : Fin 2) (n : Fin 128) (k : Fin 512) :
    v.read (Elt Ideal) (v.writes (Elt Ideal) f ((⟨Rect.unit ![1, 0, 0] S1x128x512.size inb1, w1⟩ : View.Piece (Elt Ideal) S2x128x512 .f32)
        :: (⟨Rect.unit ![0, 0, 0] S1x128x512.size inb0, w0⟩ : View.Piece (Elt Ideal) S2x128x512 .f32) :: L)) (ix3 g n k)
      = if g.val = 1 then w1 (ix3 0 n k) else w0 (ix3 0 n k) := by
  by_cases hg : g.val = 1
  · rw [if_pos hg]
    refine View.read_writes_cons_unit_of_mem v f inb1 w1 _ _ (ix3 0 n k) rfl ?_
    intro a
    match a with
    | ⟨0, _⟩ => exact hg
    | ⟨1, _⟩ => exact (Nat.zero_add _).symm
    | ⟨2, _⟩ => exact (Nat.zero_add _).symm
  · rw [if_neg hg]
    have hg0 : g.val = 0 := by omega
    refine (View.read_writes_cons_unit_of_not_mem v f inb1 w1 _ _ rfl 0 (Or.inl ?_)).trans ?_
    · show g.val < 1; omega
    refine View.read_writes_cons_unit_of_mem v f inb0 w0 _ _ (ix3 0 n k) rfl ?_
    intro a
    match a with
    | ⟨0, _⟩ => exact hg0
    | ⟨1, _⟩ => exact (Nat.zero_add _).symm
    | ⟨2, _⟩ => exact (Nat.zero_add _).symm

/-- A load of one group's half of the state. -/
theorem ldst (X : Vec Ideal S2x128x512 .f32) (g : Fin 2) (inb : ∀ a, (![g.val, 0, 0] : Fin 3 → ℕ) a + S1x128x512.size a ≤ S2x128x512.size a)
    (n : Fin 128) (k : Fin 512) : View.ld X (Rect.unit ![g.val, 0, 0] S1x128x512.size inb) (ix3 0 n k) = X (ix3 g n k) := by
  refine View.ld_unit_apply_of (S := S2x128x512) X ![g.val, 0, 0] S1x128x512.size inb (ix3 0 n k) (ix3 g n k) ?_
  intro a
  match a with
  | ⟨0, _⟩ => rfl
  | ⟨1, _⟩ => exact (Nat.zero_add _).symm
  | ⟨2, _⟩ => exact (Nat.zero_add _).symm

theorem stateOf_lo (X : Vec Ideal S2x128x512 .f32) (n : Fin 128) (k : Fin 512) : stateOf X (lo k) n = X (ix3 0 n k) := by
  unfold stateOf
  exact congrArg₂ (fun a b => X (ix3 a n b)) (Fin.ext (by show k.val / 512 = 0; omega)) (Fin.ext (by show k.val % 512 = k.val; omega))

theorem stateOf_hi (X : Vec Ideal S2x128x512 .f32) (n : Fin 128) (k : Fin 512) : stateOf X (hi k) n = X (ix3 1 n k) := by
  unfold stateOf
  exact congrArg₂ (fun a b => X (ix3 a n b)) (Fin.ext (by show (512 + k.val) / 512 = 1; omega)) (Fin.ext (by show (512 + k.val) % 512 = k.val; omega))

/-- The state's buffer at a lane, from its two halves. -/
theorem st_lane (T : Fin 1024 → Fin 128 → EReal) (X : Vec Ideal S2x128x512 .f32)
    (h0 : ∀ n k, X (ix3 0 n k) = T (lo k) n) (h1 : ∀ n k, X (ix3 1 n k) = T (hi k) n) (e : Fin 1024) (n : Fin 128) :
    stateOf X e n = T e n := by
  by_cases h : e.val < 512
  · have he : e = lo ⟨e.val, h⟩ := rfl
    rw [he, stateOf_lo, h0]
  · have he : e = hi ⟨e.val - 512, by omega⟩ :=
      Fin.ext (by show e.val = 512 + (e.val - 512); omega)
    rw [he, stateOf_hi, h1]

/-- The last eight rows of the buffer copied to its first eight. -/
theorem halo_read {sg : RefSig} {κ : Kind} {sp : Space} (v : View sg κ sp S136x1536 .f32) (f : v.ty.Contents (Elt Ideal))
    (inb : ∀ a, (![0, 0] : Fin 2 → ℕ) a + S8x1536.size a ≤ S136x1536.size a)
    (w : S8x1536.Idx → Elt Ideal .f32) (L : List (View.Piece (Elt Ideal) S136x1536 .f32)) (k : Fin 8) (ch : Fin 1536) :
    v.read (Elt Ideal) (v.writes (Elt Ideal) f ((⟨Rect.unit ![0, 0] S8x1536.size inb, w⟩ : View.Piece (Elt Ideal) S136x1536 .f32) :: L))
      (ix2 (top k) ch) = w (ix2 k ch) := by
  refine View.read_writes_cons_unit_of_mem v f inb w L _ (ix2 k ch) rfl ?_
  refine Fin.forall_fin_two.mpr ⟨?_, ?_⟩
  · exact (Nat.zero_add _).symm
  · exact (Nat.zero_add _).symm

/-- A load of eight rows from row 128 after the chunk's rows were stored: the chunk's last eight. -/
theorem lastAt {sg : RefSig} {κ : Kind} {sp : Space} (v : View sg κ sp S136x1536 .f32) (f : v.ty.Contents (Elt Ideal))
    (x1 : Vec Ideal S1x128x1536 .f32) (L : List (View.Piece (Elt Ideal) S136x1536 .f32))
    (inb : ∀ a, (![8, 0] : Fin 2 → ℕ) a + (![128, 1536] : Fin 2 → ℕ) a ≤ S136x1536.size a)
    (inb' : ∀ a, (![128, 0] : Fin 2 → ℕ) a + S8x1536.size a ≤ S136x1536.size a) (k : Fin 8) (ch : Fin 1536) :
    View.ld (v.read (Elt Ideal) (v.writes (Elt Ideal) f ((⟨Rect.unit ![8, 0] ![128, 1536] inb, k0_pay3 x1⟩ : View.Piece (Elt Ideal) S136x1536 .f32) :: L)))
      (Rect.unit ![128, 0] S8x1536.size inb') (ix2 k ch) = x1 (ix3 0 (lastRow k) ch) := by
  rw [View.ld_unit_apply_of (S := S136x1536) _ ![128, 0] S8x1536.size inb' (ix2 k ch) (ix2 ⟨128 + k.val, by omega⟩ ch)
    (Fin.forall_fin_two.mpr ⟨rfl, (Nat.zero_add _).symm⟩), buf_read, dif_pos (by show 8 ≤ 128 + k.val; omega), p3]
  exact congrArg (fun r => x1 (ix3 0 r ch)) (Fin.ext (by show 128 + k.val - 8 = 120 + k.val; omega))

theorem p5 (x : Vec Ideal S8x1536 .f32) : k0_pay5 x = x := by
  unfold k0_pay5
  exact shapeCast_self _ _

theorem p1 (k : Fin 8) (ch : Fin 1536) : (k0_pay1 (F := Ideal)) (ix2 k ch) = 0 := by
  pointwise [k0_pay1]

theorem p2 (g : Fin 2) (n : Fin 128) (k : Fin 512) : (k0_pay2 (F := Ideal)) (ix3 g n k) = 0 := by
  pointwise [k0_pay2]

end Cert.Ssd
-- ==== Proof.Ssd.KernelA.lean ====
/-
  The first chunk of a sequence: the kernel clears the rows above the chunk and the state, so its results are the chunk's
  from rows of zeros and a state of zeros.
-/
module

public import proofs.«01_k».proof.Proof.Ssd.KernelBuf

@[expose] public section

set_option maxRecDepth 16384
set_option maxHeartbeats 1000000

noncomputable section

namespace Cert.Ssd

open Idealize.ShloMosaic Idealize.ShloMosaic.TcCoe Idealize.SL.Sem
open Cert.KernelIdeal Cert.KernelIdeal.Gen

variable (c : Dev nD) (i : grid0.Coords) (arg2 : Memref sig .tc .vmem S1x128x1024 .f32) (harg2 : arg2.IsWhole)
  (arg3 : Memref sig .tc .vmem S1x128x1536 .f32) (harg3 : arg3.IsWhole) (arg4 : Memref sig .tc .vmem S1x128x128 .f32) (harg4 : arg4.IsWhole)
  (arg5 : Memref sig .tc .vmem S4x1536 .f32) (harg5 : arg5.IsWhole) (arg6 : Memref sig .tc .vmem S1x1536 .f32) (harg6 : arg6.IsWhole)
  (arg7 : Memref sig .tc .vmem S1x128 .f32) (harg7 : arg7.IsWhole) (arg8 : Memref sig .tc .vmem S1x128 .f32) (harg8 : arg8.IsWhole)
  (arg9 : Memref sig .tc .vmem S1x1024 .f32) (harg9 : arg9.IsWhole) (arg10 : Memref sig .tc .vmem S1x1024 .f32) (harg10 : arg10.IsWhole)
  (arg11 : Memref sig .tc .vmem S128x1024 .f32) (harg11 : arg11.IsWhole) (arg12 : Memref sig .tc .vmem S1x128x1024 .bf16) (harg12 : arg12.IsWhole)
  (arg13 : Memref sig .tc .vmem S136x1536 .f32) (harg13 : arg13.IsWhole) (arg14 : Memref sig .tc .vmem S2x128x512 .f32) (harg14 : arg14.IsWhole)
  (arg15 : Memref sig .tc .vmem S128x1024 .f32) (harg15 : arg15.IsWhole)
  (x0 : Vec Ideal S1x128x1024 .f32) (x1 : Vec Ideal S1x128x1536 .f32) (x2 : Vec Ideal S1x128x128 .f32) (x3 : Vec Ideal S4x1536 .f32)
  (x4 : Vec Ideal S1x1536 .f32) (x5 x6 : Vec Ideal S1x128 .f32) (x7 x8 : Vec Ideal S1x1024 .f32) (x9 : Vec Ideal S128x1024 .f32)
  (hc0 : cond0_0 i)

/-- The chunk's convolution. -/
theorem convA : kernelRun0_A.sl.r c arg3 harg3 arg5 harg5 arg6 harg6 arg13 x1 x3 x4 = convOf (fun _ _ => 0) x1 x3 x4 := by
  funext j
  idx_vars j
  show _ = convAt _ x1 x3 x4 j0 j1
  unfold convAt conv4
  simp only [kernelRun0_A.sl.r, kernelRun0_A.sl.v11, kernelRun0_A.sl.v17, kernelRun0_A.sl.v22, kernelRun0_A.sl.v27, kernelRun0_A.sl.HS0_2, p4, readCov_ld, View.readAt_eq_ld, harg3.read_unread, harg5.read_unread, harg6.read_unread,
    View.ld_unit_zero (S := S1x128x1536) hz3, View.ld_unit_zero (S := S1x1536) hz2]
  have hh : ∀ o : ℕ, ∀ k : Fin 136, o ≤ k.val → k.val < 8 →
      arg13.view.read (Elt Ideal) (arg13.view.writes (Elt Ideal) arg13.view.junk [(⟨Rect.unit ![0, 0] S8x1536.size inb_S136x1536_S8x1536_0_0, k0_pay1 (F := Ideal)⟩ : View.Piece (Elt Ideal) S136x1536 .f32)]) (ix2 k j1) = (fun _ _ => 0) k j1 :=
    fun o k _ hk => (halo_read arg13.view arg13.view.junk inb_S136x1536_S8x1536_0_0 (k0_pay1 (F := Ideal)) [] ⟨k.val, hk⟩ j1).trans (p1 _ _)
  refine congrArg₂ (· + ·) (congrArg₂ (· + ·) (congrArg₂ (· + ·) (congrArg₂ (· + ·) rfl (congrArg₂ (· * ·) ?_ ?_)) (congrArg₂ (· * ·) ?_ ?_))
    (congrArg₂ (· * ·) ?_ ?_)) (congrArg₂ (· * ·) ?_ ?_)
  · exact ldx3 x3 3 _ j1
  · exact rowAt arg13.view _ _ x1 _ 8 (by decide) _ _ j0 j1 (fun k h1 h2 => absurd h2 (by omega))
  · exact ldx3 x3 2 _ j1
  · exact rowAt arg13.view _ _ x1 _ 7 (by decide) _ _ j0 j1 (hh 7)
  · exact ldx3 x3 1 _ j1
  · exact rowAt arg13.view _ _ x1 _ 6 (by decide) _ _ j0 j1 (hh 6)
  · exact ldx3 x3 0 _ j1
  · exact rowAt arg13.view _ _ x1 _ 5 (by decide) _ _ j0 j1 (hh 5)

/-- The sixteen heads' tiles, read back as one. -/
theorem ydA (hE : OneHot x9) (l : Fin 128) (e : Fin 1024) :
    kernelRun0_A.sl.v376 c arg3 harg3 arg4 harg4 arg5 harg5 arg6 harg6 arg7 harg7 arg8 harg8 arg11 harg11 arg13 arg15 x1 x2 x3 x4
      x5 x6 x9 (ix2 l e) = yIn (actOf (convOf (fun _ _ => 0) x1 x3 x4)) (heads (k0_pay10 x2 x5)) (heads (k0_pay11 x2 x5 x6)) l e := by
  simp only [kernelRun0_A.sl.v376, readCov_ld]
  rw [View.ld_unit_lit (h := by decide), View.read_writes_junk_eq_canon]
  unfold kernelRun0_A.sl.HS2_16
  canon_tiles x h
  all_goals simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_14, kernelRun0_A.sl.r_15, kernelRun0_A.sl.r_16, kernelRun0_A.sl.r_17, kernelRun0_A.sl.r_21, kernelRun0_A.sl.r_22, kernelRun0_A.sl.r_23, kernelRun0_A.sl.r_24, kernelRun0_A.sl.v70, kernelRun0_A.sl.v71,
    harg4.read_unread, harg7.read_unread, harg8.read_unread, harg11.read_unread, View.readAt_eq_ld, readCov_ld, View.ld_unit_zero (S := S128x1024) hz2, View.ld_unit_zero (S := S1x128) hz2, View.ld_unit_zero (S := S1x128x128) hz3,
    View.ld_unit_zero (S := S1x1024) hz2, View.ld_unit_zero (S := S1x128x1024) hz3, convA]
  case piece0 | piece1 | piece2 | piece3 | piece4 | piece5 | piece6 | piece7 =>
    all_goals
      refine head1 _ _ _ hE _ _ _ _ _ _ (by decide) (by decide) (by decide) rfl (by decide) (by decide) (by decide) h0 ?_
      exact h1
  all_goals
    refine head0 _ _ _ hE _ _ _ _ _ _ (by decide) (by decide) (by decide) rfl (by decide) (by decide) h0 ?_
    first | exact h1 | exact h1.trans (Nat.zero_add _).symm

/-- The state's first half, as it was cleared. -/
theorem prev0A (n : Fin 128) (k : Fin 512) : kernelRun0_A.sl.v217 (F := Ideal) c arg14 (ix3 0 n k) = 0 := by
  simp only [kernelRun0_A.sl.v217, kernelRun0_A.sl.HS1_1, readCov_ld]
  refine (ldst _ 0 _ n k).trans ((View.read_writes_cons_unit_of_mem arg14.view _ _ _ _ _ (ix3 0 n k) rfl ?_).trans (p2 0 n k))
  intro a
  match a with
  | ⟨0, _⟩ => rfl
  | ⟨1, _⟩ => exact (Nat.zero_add _).symm
  | ⟨2, _⟩ => exact (Nat.zero_add _).symm

/-- Its second half: the first half's store does not reach it. -/
theorem prev1A (n : Fin 128) (k : Fin 512) : kernelRun0_A.sl.v359 c arg3 harg3 arg4 harg4 arg5 harg5 arg6 harg6 arg7 harg7 arg8 harg8 arg11 harg11
    arg13 arg14 x1 x2 x3 x4 x5 x6 x9 (ix3 0 n k) = 0 := by
  simp only [kernelRun0_A.sl.v359, kernelRun0_A.sl.HS1_2, kernelRun0_A.sl.HS1_1, readCov_ld]
  refine (ldst _ 1 _ n k).trans ((View.read_writes_cons_unit_of_not_mem arg14.view _ _ _ _ _ rfl 0 (Or.inr ?_)).trans
    ((View.read_writes_cons_unit_of_mem arg14.view _ _ _ _ _ (ix3 1 n k) rfl ?_).trans (p2 1 n k)))
  · show 0 + 1 ≤ 1; omega
  intro a
  match a with
  | ⟨0, _⟩ => rfl
  | ⟨1, _⟩ => exact (Nat.zero_add _).symm
  | ⟨2, _⟩ => exact (Nat.zero_add _).symm

/-- The chunk's rows of the result. -/
theorem outA (hE : OneHot x9) (d : Fin 16 → EReal) (hd7 : ∀ e : Fin 1024, x7 (ix2 0 e) = d (hd e)) (l : Fin 128) (e : Fin 1024) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 (ix3 0 l e)
      = oChunk (actOf (convOf (fun _ _ => 0) x1 x3 x4)) (heads (k0_pay10 x2 x5)) (heads (k0_pay11 x2 x5 x6)) d (fun _ _ => 0) (fun l e => x0 (ix3 0 l e)) (fun e => x8 (ix2 0 e)) l e := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  rw [View.canon_cons_unit_lit (h := by decide)]
  simp only [kernelRun0_A.sl.r_1, kernelRun0_A.sl.r_2, kernelRun0_A.sl.r_3, kernelRun0_A.sl.r_4, kernelRun0_A.sl.r_5, kernelRun0_A.sl.r_10, kernelRun0_A.sl.r_13, kernelRun0_A.sl.r_18, kernelRun0_A.sl.r_20, kernelRun0_A.sl.r_25, kernelRun0_A.sl.r_26, kernelRun0_A.sl.v70, kernelRun0_A.sl.v71,
    harg2.read_unread, harg4.read_unread, harg7.read_unread, harg8.read_unread, harg9.read_unread, harg10.read_unread, harg11.read_unread, View.readAt_eq_ld, readCov_ld, View.ld_unit_zero (S := S128x1024) hz2, View.ld_unit_zero (S := S1x128) hz2, View.ld_unit_zero (S := S1x128x128) hz3,
    View.ld_unit_zero (S := S1x1024) hz2, View.ld_unit_zero (S := S1x128x1024) hz3, convA]
  exact out_eq _ _ _ hE _ _ _ (prev0A c arg14) (prev1A c arg3 harg3 arg4 harg4 arg5 harg5 arg6 harg6 arg7 harg7 arg8 harg8 arg11 harg11 arg13 arg14 x1 x2 x3 x4 x5 x6 x9) _ (ydA c arg3 harg3 arg4 harg4 arg5 harg5 arg6 harg6 arg7 harg7 arg8 harg8 arg11 harg11 arg13 arg15 x1 x2 x3 x4 x5 x6 x9 hE)
    x7 x8 x0 d hd7 l e

/-- The state that the chunk leaves. -/
theorem stateA (hE : OneHot x9) (e : Fin 1024) (n : Fin 128) :
    stateOf (sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9) e n = stChunk (actOf (convOf (fun _ _ => 0) x1 x3 x4)) (heads (k0_pay10 x2 x5)) (heads (k0_pay11 x2 x5 x6)) (fun _ _ => 0) e n := by
  unfold sout0_A_1 kernelRun0_A
  dsimp only
  simp only [kernelRun0_A.sl.HS1_2, kernelRun0_A.sl.HS1_1, kernelRun0_A.sl.r_1, kernelRun0_A.sl.r_2, kernelRun0_A.sl.r_3, kernelRun0_A.sl.r_4, kernelRun0_A.sl.r_5, kernelRun0_A.sl.r_9, kernelRun0_A.sl.r_11, kernelRun0_A.sl.r_12, kernelRun0_A.sl.r_19, kernelRun0_A.sl.v70, kernelRun0_A.sl.v71,
    harg4.read_unread, harg7.read_unread, harg8.read_unread, harg11.read_unread, View.readAt_eq_ld, readCov_ld, View.ld_unit_zero (S := S128x1024) hz2, View.ld_unit_zero (S := S1x128) hz2, View.ld_unit_zero (S := S1x128x128) hz3,
    View.ld_unit_zero (S := S1x1024) hz2, View.ld_unit_zero (S := S1x128x1024) hz3, convA]
  refine st_lane _ _ (fun n k => ?_) (fun n k => ?_) e n
  · exact (st_read _ _ _ _ _ _ _ 0 n k).trans (st0_eq _ _ _ hE _ _ (prev0A c arg14) n k)
  · exact (st_read _ _ _ _ _ _ _ 1 n k).trans (st1_eq _ _ _ hE _ _ (prev1A c arg3 harg3 arg4 harg4 arg5 harg5 arg6 harg6 arg7 harg7 arg8 harg8 arg11 harg11 arg13 arg14 x1 x2 x3 x4 x5 x6 x9) n k)

/-- The rows that the chunk leaves for the next one's convolution. -/
theorem haloA (k : Fin 8) (ch : Fin 1536) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 (ix2 (top k) ch) = x1 (ix3 0 (lastRow k) ch) := by
  unfold sout0_A_0 kernelRun0_A
  dsimp only
  simp only [kernelRun0_A.sl.v31, kernelRun0_A.sl.HS0_2, readCov_ld, View.readAt_eq_ld, harg3.read_unread, View.ld_unit_zero (S := S1x128x1536) hz3]
  refine (halo_read _ _ _ _ _ k ch).trans ?_
  rw [p5]
  exact lastAt arg13.view _ x1 _ _ _ k ch

end Cert.Ssd
-- ==== Proof.Ssd.KernelB.lean ====
/-
  A later chunk of a sequence: the kernel's results are the chunk's from the rows and the state that the chunk before
  left.
-/
module

public import proofs.«01_k».proof.Proof.Ssd.KernelBuf

@[expose] public section

set_option maxRecDepth 16384
set_option maxHeartbeats 1000000

noncomputable section

namespace Cert.Ssd

open Idealize.ShloMosaic Idealize.ShloMosaic.TcCoe Idealize.SL.Sem
open Cert.KernelIdeal Cert.KernelIdeal.Gen

variable (c : Dev nD) (i : grid0.Coords) (arg2 : Memref sig .tc .vmem S1x128x1024 .f32) (harg2 : arg2.IsWhole)
  (arg3 : Memref sig .tc .vmem S1x128x1536 .f32) (harg3 : arg3.IsWhole) (arg4 : Memref sig .tc .vmem S1x128x128 .f32) (harg4 : arg4.IsWhole)
  (arg5 : Memref sig .tc .vmem S4x1536 .f32) (harg5 : arg5.IsWhole) (arg6 : Memref sig .tc .vmem S1x1536 .f32) (harg6 : arg6.IsWhole)
  (arg7 : Memref sig .tc .vmem S1x128 .f32) (harg7 : arg7.IsWhole) (arg8 : Memref sig .tc .vmem S1x128 .f32) (harg8 : arg8.IsWhole)
  (arg9 : Memref sig .tc .vmem S1x1024 .f32) (harg9 : arg9.IsWhole) (arg10 : Memref sig .tc .vmem S1x1024 .f32) (harg10 : arg10.IsWhole)
  (arg11 : Memref sig .tc .vmem S128x1024 .f32) (harg11 : arg11.IsWhole) (arg12 : Memref sig .tc .vmem S1x128x1024 .bf16) (harg12 : arg12.IsWhole)
  (arg13 : Memref sig .tc .vmem S136x1536 .f32) (harg13 : arg13.IsWhole) (arg14 : Memref sig .tc .vmem S2x128x512 .f32) (harg14 : arg14.IsWhole)
  (arg15 : Memref sig .tc .vmem S128x1024 .f32) (harg15 : arg15.IsWhole)
  (x0 : Vec Ideal S1x128x1024 .f32) (x1 : Vec Ideal S1x128x1536 .f32) (x2 : Vec Ideal S1x128x128 .f32) (x3 : Vec Ideal S4x1536 .f32)
  (x4 : Vec Ideal S1x1536 .f32) (x5 x6 : Vec Ideal S1x128 .f32) (x7 x8 : Vec Ideal S1x1024 .f32) (x9 : Vec Ideal S128x1024 .f32)
  (xs0 : Vec Ideal S136x1536 .f32) (xs1 : Vec Ideal S2x128x512 .f32) (hc0 : ¬cond0_0 i)

/-- The chunk's convolution. -/
theorem convB : kernelRun0_B.sl.r c arg3 harg3 arg5 harg5 arg6 harg6 arg13 harg13 x1 x3 x4 xs0 = convOf (fun k ch => xs0 (ix2 k ch)) x1 x3 x4 := by
  funext j
  idx_vars j
  show _ = convAt _ x1 x3 x4 j0 j1
  unfold convAt conv4
  simp only [kernelRun0_B.sl.r, kernelRun0_B.sl.v11, kernelRun0_B.sl.HS0_1, p4, readCov_ld, View.readAt_eq_ld, harg3.read_unread, harg5.read_unread, harg6.read_unread,
    View.ld_unit_zero (S := S1x128x1536) hz3, View.ld_unit_zero (S := S1x1536) hz2]
  have hh : ∀ o : ℕ, ∀ k : Fin 136, o ≤ k.val → k.val < 8 →
      arg13.view.read (Elt Ideal) (arg13.view.writes (Elt Ideal) (harg13.unread xs0) []) (ix2 k j1) = (fun k ch => xs0 (ix2 k ch)) k j1 :=
    fun o k _ hk => congrFun (harg13.read_unread xs0) (ix2 k j1)
  refine congrArg₂ (· + ·) (congrArg₂ (· + ·) (congrArg₂ (· + ·) (congrArg₂ (· + ·) rfl (congrArg₂ (· * ·) ?_ ?_)) (congrArg₂ (· * ·) ?_ ?_))
    (congrArg₂ (· * ·) ?_ ?_)) (congrArg₂ (· * ·) ?_ ?_)
  · exact ldx3 x3 3 _ j1
  · exact rowAt arg13.view _ _ x1 _ 8 (by decide) _ _ j0 j1 (fun k h1 h2 => absurd h2 (by omega))
  · exact ldx3 x3 2 _ j1
  · exact rowAt arg13.view _ _ x1 _ 7 (by decide) _ _ j0 j1 (hh 7)
  · exact ldx3 x3 1 _ j1
  · exact rowAt arg13.view _ _ x1 _ 6 (by decide) _ _ j0 j1 (hh 6)
  · exact ldx3 x3 0 _ j1
  · exact rowAt arg13.view _ _ x1 _ 5 (by decide) _ _ j0 j1 (hh 5)

/-- The sixteen heads' tiles, read back as one. -/
theorem ydB (hE : OneHot x9) (l : Fin 128) (e : Fin 1024) :
    kernelRun0_B.sl.v376 c arg3 harg3 arg4 harg4 arg5 harg5 arg6 harg6 arg7 harg7 arg8 harg8 arg11 harg11 arg13 harg13 arg15 x1 x2 x3 x4
      x5 x6 x9 xs0 (ix2 l e) = yIn (actOf (convOf (fun k ch => xs0 (ix2 k ch)) x1 x3 x4)) (heads (k0_pay10 x2 x5)) (heads (k0_pay11 x2 x5 x6)) l e := by
  simp only [kernelRun0_B.sl.v376, readCov_ld]
  rw [View.ld_unit_lit (h := by decide), View.read_writes_junk_eq_canon]
  unfold kernelRun0_B.sl.HS2_16
  canon_tiles x h
  all_goals simp only [kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_14, kernelRun0_B.sl.r_15, kernelRun0_B.sl.r_16, kernelRun0_B.sl.r_17, kernelRun0_B.sl.r_21, kernelRun0_B.sl.r_22, kernelRun0_B.sl.r_23, kernelRun0_B.sl.r_24, kernelRun0_B.sl.v70, kernelRun0_B.sl.v71,
    harg4.read_unread, harg7.read_unread, harg8.read_unread, harg11.read_unread, View.readAt_eq_ld, readCov_ld, View.ld_unit_zero (S := S128x1024) hz2, View.ld_unit_zero (S := S1x128) hz2, View.ld_unit_zero (S := S1x128x128) hz3,
    View.ld_unit_zero (S := S1x1024) hz2, View.ld_unit_zero (S := S1x128x1024) hz3, convB]
  case piece0 | piece1 | piece2 | piece3 | piece4 | piece5 | piece6 | piece7 =>
    all_goals
      refine head1 _ _ _ hE _ _ _ _ _ _ (by decide) (by decide) (by decide) rfl (by decide) (by decide) (by decide) h0 ?_
      exact h1
  all_goals
    refine head0 _ _ _ hE _ _ _ _ _ _ (by decide) (by decide) (by decide) rfl (by decide) (by decide) h0 ?_
    first | exact h1 | exact h1.trans (Nat.zero_add _).symm

theorem prev0B (n : Fin 128) (k : Fin 512) :
    View.ld xs1 (Rect.unit ![0, 0, 0] S1x128x512.size inb_S2x128x512_S1x128x512_0_0_0) (ix3 0 n k) = stateOf xs1 (lo k) n :=
  (ldst xs1 0 _ n k).trans (stateOf_lo xs1 n k).symm

theorem prev1B (n : Fin 128) (k : Fin 512) :
    View.ld xs1 (Rect.unit ![1, 0, 0] S1x128x512.size inb_S2x128x512_S1x128x512_1_0_0) (ix3 0 n k) = stateOf xs1 (hi k) n :=
  (ldst xs1 1 _ n k).trans (stateOf_hi xs1 n k).symm

/-- The chunk's rows of the result. -/
theorem outB (hE : OneHot x9) (d : Fin 16 → EReal) (hd7 : ∀ e : Fin 1024, x7 (ix2 0 e) = d (hd e)) (l : Fin 128) (e : Fin 1024) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 (ix3 0 l e)
      = oChunk (actOf (convOf (fun k ch => xs0 (ix2 k ch)) x1 x3 x4)) (heads (k0_pay10 x2 x5)) (heads (k0_pay11 x2 x5 x6)) d (stateOf xs1) (fun l e => x0 (ix3 0 l e)) (fun e => x8 (ix2 0 e)) l e := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1)]
  unfold kernelRun0_B
  dsimp only
  rw [View.canon_cons_unit_lit (h := by decide)]
  simp only [kernelRun0_B.sl.r_1, kernelRun0_B.sl.r_2, kernelRun0_B.sl.r_3, kernelRun0_B.sl.r_4, kernelRun0_B.sl.r_5, kernelRun0_B.sl.r_10, kernelRun0_B.sl.r_13, kernelRun0_B.sl.r_18, kernelRun0_B.sl.r_20, kernelRun0_B.sl.r_25, kernelRun0_B.sl.r_26, kernelRun0_B.sl.v70, kernelRun0_B.sl.v71, kernelRun0_B.sl.v359,
    harg2.read_unread, harg4.read_unread, harg7.read_unread, harg8.read_unread, harg9.read_unread, harg10.read_unread, harg11.read_unread, harg14.read_unread, View.readAt_eq_ld, readCov_ld, View.ld_unit_zero (S := S128x1024) hz2, View.ld_unit_zero (S := S1x128) hz2, View.ld_unit_zero (S := S1x128x128) hz3,
    View.ld_unit_zero (S := S1x1024) hz2, View.ld_unit_zero (S := S1x128x1024) hz3, convB]
  exact out_eq _ _ _ hE _ _ _ (prev0B xs1) (prev1B xs1) _ (ydB c arg3 harg3 arg4 harg4 arg5 harg5 arg6 harg6 arg7 harg7 arg8 harg8 arg11 harg11 arg13 harg13 arg15 x1 x2 x3 x4 x5 x6 x9 xs0 hE)
    x7 x8 x0 d hd7 l e

/-- The state that the chunk leaves. -/
theorem stateB (hE : OneHot x9) (e : Fin 1024) (n : Fin 128) :
    stateOf (sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1) e n = stChunk (actOf (convOf (fun k ch => xs0 (ix2 k ch)) x1 x3 x4)) (heads (k0_pay10 x2 x5)) (heads (k0_pay11 x2 x5 x6)) (stateOf xs1) e n := by
  unfold sout0_B_1 kernelRun0_B
  dsimp only
  simp only [kernelRun0_B.sl.r_1, kernelRun0_B.sl.r_2, kernelRun0_B.sl.r_3, kernelRun0_B.sl.r_4, kernelRun0_B.sl.r_5, kernelRun0_B.sl.r_9, kernelRun0_B.sl.r_11, kernelRun0_B.sl.r_12, kernelRun0_B.sl.r_19, kernelRun0_B.sl.v70, kernelRun0_B.sl.v71, kernelRun0_B.sl.v359,
    harg4.read_unread, harg7.read_unread, harg8.read_unread, harg11.read_unread, harg14.read_unread, View.readAt_eq_ld, readCov_ld, View.ld_unit_zero (S := S128x1024) hz2, View.ld_unit_zero (S := S1x128) hz2, View.ld_unit_zero (S := S1x128x128) hz3,
    View.ld_unit_zero (S := S1x1024) hz2, View.ld_unit_zero (S := S1x128x1024) hz3, convB]
  refine st_lane _ _ (fun n k => ?_) (fun n k => ?_) e n
  · exact (st_read _ _ _ _ _ _ _ 0 n k).trans (st0_eq _ _ _ hE _ _ (prev0B xs1) n k)
  · exact (st_read _ _ _ _ _ _ _ 1 n k).trans (st1_eq _ _ _ hE _ _ (prev1B xs1) n k)

/-- The rows that the chunk leaves for the next one's convolution. -/
theorem haloB (k : Fin 8) (ch : Fin 1536) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 (ix2 (top k) ch) = x1 (ix3 0 (lastRow k) ch) := by
  unfold sout0_B_0 kernelRun0_B
  dsimp only
  simp only [kernelRun0_B.sl.v31, kernelRun0_B.sl.HS0_1, readCov_ld, View.readAt_eq_ld, harg3.read_unread, View.ld_unit_zero (S := S1x128x1536) hz3]
  refine (halo_read _ _ _ _ _ k ch).trans ?_
  rw [p5]
  exact lastAt arg13.view _ x1 _ _ _ k ch

end Cert.Ssd
-- ==== Proof.Ssd.KernelHost.lean ====
/-
  The kernel's blocks at a grid point, from the program's arguments: point `32 b + k` is chunk `k` of sequence `b`.
-/
module

public import proofs.«01_k».proof.Proof.Ssd.KernelA
public import proofs.«01_k».proof.Proof.Ssd.KernelB
public import Idealize.ShloMosaic.Lib.Pointwise
public import Idealize.ShloMosaic.Lib.Routing.OpsPair
public import Idealize.ShloMosaic.Lib.StableHlo.ReadAt

@[expose] public section

set_option maxRecDepth 16384
set_option maxHeartbeats 1000000

noncomputable section

namespace Cert.Ssd

open Idealize.ShloMosaic Idealize.ShloMosaic.TcCoe Idealize.SL.Sem
open Cert.KernelIdeal Cert.KernelIdeal.Gen

variable (m : (l : Loc nD τ sig) → Buf (Elt Ideal) l) (c : Dev nD)

/-- The spreading matrix is the comparison of row numbers with head numbers. -/
theorem onehot : OneHot (V m c main_v4) := by
  intro j e
  unfold V
  after_reads_at
  have hq : ∀ e : Fin 1024, Scalar.select
          (IntOp.andi
            (IntOp.cmpi CmpIPredicate.ne
              (if BitVec.ofNat 32 e.val = 0 then (0 : BitVec 32) else if (BitVec.ofNat 32 e.val).msb = true then -1 else 1) 1#32)
            (IntOp.cmpi CmpIPredicate.ne
              (IntOp.remsi ArithUnit.host (BitVec.ofNat 32 e.val) 64#32) 0#32))
          (IntOp.subi (IntOp.divsi ArithUnit.host (BitVec.ofNat 32 e.val) 64#32) 1#32)
          (IntOp.divsi ArithUnit.host (BitVec.ofNat 32 e.val) 64#32) = BitVec.ofNat 32 (e.val / 64) := by decide +kernel
  refine (congrArg (fun w => FloatOps.uitofp (F := Ideal) FTy.f32 (IntOp.cmpi CmpIPredicate.eq (BitVec.ofNat 32 j.val) w)) (hq e)).trans ?_
  have hj : (BitVec.ofNat 32 j.val = BitVec.ofNat 32 (e.val / 64)) ↔ j.val = e.val / 64 := by
    constructor
    · intro h
      have := congrArg BitVec.toNat h
      simp only [BitVec.toNat_ofNat] at this
      omega
    · intro h; rw [h]
  have hw : IntOp.cmpi CmpIPredicate.eq (BitVec.ofNat 32 j.val) (BitVec.ofNat 32 (e.val / 64)) = if j.val = e.val / 64 then 1#1 else 0#1 := by
    by_cases h : j.val = e.val / 64
    · rw [if_pos h, h]; simp [IntOp.cmpi]
    · rw [if_neg h]; show BitVec.ofBool _ = _; rw [beq_eq_false_iff_ne.mpr (mt hj.mp h)]; rfl
  rw [hw]
  by_cases h : j.val = e.val / 64
  · simp only [if_pos h]
    show ((1 : ℕ) : EReal) = 1
    exact Nat.cast_one
  · simp only [if_neg h]
    show ((0 : ℕ) : EReal) = 0
    exact Nat.cast_zero

/-- A fold that keeps only what one member brings. -/
theorem foldl_hit {ι α : Type} [DecidableEq ι] (u : ι → α) (k : ι) : ∀ (L : List ι) (x : α), k ∈ L ∨ x = u k →
    L.foldl (fun a n => if n = k then u n else a) x = u k
  | [], x, h => h.resolve_left (List.not_mem_nil)
  | n :: L, x, h => by
    refine foldl_hit u k L _ ?_
    by_cases hn : n = k
    · exact Or.inr ((if_pos hn).trans (congrArg u hn))
    · show k ∈ L ∨ (if n = k then u n else x) = u k
      rw [if_neg hn]
      exact h.imp_left fun hk => (List.mem_cons.mp hk).resolve_left (Ne.symm hn)

/-- Sixteen numbers written at the start of a padded row. -/
theorem scatter_head (x0 : Vec Ideal S1x128 .f32) (idx : IVec S2 32) (hi : idx = fun _ => 0#32) (u : Vec Ideal S16 .f32) (h : Fin 16) :
    Host.scatter scatter_S1x128_S2_S16_0_0_01_0 (fun _ b => b) x0 idx u (ix2 0 (up h)) = u (ix1 h) := by
  subst hi
  rw [Routing.scatter_at]
  have hhit : ∀ h n : Fin 16, scatter_S1x128_S2_S16_0_0_01_0.resultIdx? (S16.rowMajor.symm n) (fun _ => 0#32) = some (ix2 0 (up h)) ↔ n = h := by
    decide +kernel
  have hn : ∀ n : Fin 16, (S16.rowMajor.symm n 0).val = n.val := by decide +kernel
  refine Eq.trans ?_ (foldl_hit (fun n : Fin 16 => u (ix1 n)) h (List.finRange 16) (x0 (ix2 0 (up h))) (Or.inl (List.mem_finRange h)))
  refine congrArg (fun f => List.foldl f (x0 (ix2 0 (up h))) (List.finRange 16)) (funext fun a => funext fun n => ?_)
  by_cases hnh : n = h
  · refine ((if_pos ((hhit h n).mpr hnh)).trans ?_).trans (if_pos hnh).symm
    refine congrArg u (funext fun a => Fin.ext ?_)
    match a with
    | ⟨0, _⟩ => exact hn n
  · exact (if_neg fun q => hnh ((hhit h n).mp q)).trans (if_neg hnh).symm

theorem V_arg0 : V m c main_arg0 = m ((c : Thread nD τ).loc main_arg0) := by
  unfold V
  after_reads_simp

theorem V_arg1 : V m c main_arg1 = m ((c : Thread nD τ).loc main_arg1) := by
  unfold V
  after_reads_simp

theorem V_arg2 : V m c main_arg2 = m ((c : Thread nD τ).loc main_arg2) := by
  unfold V
  after_reads_simp

theorem V_arg3 : V m c main_arg3 = m ((c : Thread nD τ).loc main_arg3) := by
  unfold V
  after_reads_simp

theorem V_dtb (h : Fin 16) : V m c (Pipeline.arrRef spec0 5) (ix2 0 (up h)) = m ((c : Thread nD τ).loc main_arg5) (ix1 h) := by
  unfold V
  after_reads_simp
  refine scatter_head _ _ ?_ _ h
  funext k
  idx_vars k
  pointwise
  split <;> after_reads_at

theorem V_al (h : Fin 16) : V m c (Pipeline.arrRef spec0 6) (ix2 0 (up h)) = m ((c : Thread nD τ).loc main_arg6) (ix1 h) := by
  unfold V
  after_reads_simp
  refine scatter_head _ _ ?_ _ h
  funext k
  idx_vars k
  pointwise
  split <;> after_reads_at

theorem V_cb (ch : Fin 1536) : V m c (Pipeline.arrRef spec0 4) (ix2 0 ch) = m ((c : Thread nD τ).loc main_arg4) (ix1 ch) := by
  unfold V
  after_reads_at

theorem V_d (e : Fin 1024) : V m c (Pipeline.arrRef spec0 7) (ix2 0 e) = m ((c : Thread nD τ).loc main_arg7) (ix1 (hd e)) := by
  unfold V
  after_reads_at
  rfl

theorem V_ng (e : Fin 1024) : V m c (Pipeline.arrRef spec0 8) (ix2 0 e) = m ((c : Thread nD τ).loc main_arg8) (ix1 e) := by
  unfold V
  after_reads_at

theorem idx0 : ∀ t : Fin cfg0.N, win0_0.index t (0 : Fin 3) = t.val / 32 ∧ win0_0.index t (1 : Fin 3) = t.val % 32
    ∧ win0_0.index t (2 : Fin 3) = 0 := (by decide +kernel : ∀ t : Fin grid0.N, _)

theorem idx1 : ∀ t : Fin cfg0.N, win0_1.index t (0 : Fin 3) = t.val / 32 ∧ win0_1.index t (1 : Fin 3) = t.val % 32
    ∧ win0_1.index t (2 : Fin 3) = 0 := (by decide +kernel : ∀ t : Fin grid0.N, _)

theorem idx2 : ∀ t : Fin cfg0.N, win0_2.index t (0 : Fin 3) = t.val / 32 ∧ win0_2.index t (1 : Fin 3) = t.val % 32
    ∧ win0_2.index t (2 : Fin 3) = 0 := (by decide +kernel : ∀ t : Fin grid0.N, _)

theorem idx3 : ∀ t : Fin cfg0.N, ∀ a : Fin 2, win0_3.index t a = 0 := (by decide +kernel : ∀ t : Fin grid0.N, _)

theorem idx4 : ∀ t : Fin cfg0.N, ∀ a : Fin 2, win0_4.index t a = 0 := (by decide +kernel : ∀ t : Fin grid0.N, _)

theorem idx5 : ∀ t : Fin cfg0.N, ∀ a : Fin 2, win0_5.index t a = 0 := (by decide +kernel : ∀ t : Fin grid0.N, _)

theorem idx6 : ∀ t : Fin cfg0.N, ∀ a : Fin 2, win0_6.index t a = 0 := (by decide +kernel : ∀ t : Fin grid0.N, _)

theorem idx7 : ∀ t : Fin cfg0.N, ∀ a : Fin 2, win0_7.index t a = 0 := (by decide +kernel : ∀ t : Fin grid0.N, _)

theorem idx8 : ∀ t : Fin cfg0.N, ∀ a : Fin 2, win0_8.index t a = 0 := (by decide +kernel : ∀ t : Fin grid0.N, _)

theorem idx9 : ∀ t : Fin cfg0.N, ∀ a : Fin 2, win0_9.index t a = 0 := (by decide +kernel : ∀ t : Fin grid0.N, _)

section Blocks

variable (t : Fin cfg0.N) (b : Fin 16) (k : Fin 32) (ht : t.val = 32 * b.val + k.val)

include ht in
theorem blk0 (l : Fin 128) (ch : Fin 1024) : iblk m c 0 t (ix3 0 l ch) = m ((c : Thread nD τ).loc main_arg0) (ix3 b (rowOf k.val l) ch) := by
  obtain ⟨e0, e1, e2⟩ := idx0 t
  unfold iblk
  rw [View.read_apply, ← V_arg0 m c]
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 128 + 1 * l.val = (128 * k.val + l.val) % 4096; omega
  | ⟨2, _⟩ => show win0_0.index t (2 : Fin 3) * 1024 + 1 * ch.val = ch.val; omega

include ht in
theorem blk1 (l : Fin 128) (ch : Fin 1536) : iblk m c 1 t (ix3 0 l ch) = m ((c : Thread nD τ).loc main_arg1) (ix3 b (rowOf k.val l) ch) := by
  obtain ⟨e0, e1, e2⟩ := idx1 t
  unfold iblk
  rw [View.read_apply, ← V_arg1 m c]
  refine congrArg (V m c main_arg1) (funext fun a => Fin.ext ?_)
  match a with
  | ⟨0, _⟩ => show win0_1.index t (0 : Fin 3) * 1 + 1 * 0 = b.val; omega
  | ⟨1, _⟩ => show win0_1.index t (1 : Fin 3) * 128 + 1 * l.val = (128 * k.val + l.val) % 4096; omega
  | ⟨2, _⟩ => show win0_1.index t (2 : Fin 3) * 1536 + 1 * ch.val = ch.val; omega

include ht in
theorem blk2 (l : Fin 128) (ch : Fin 128) : iblk m c 2 t (ix3 0 l ch) = m ((c : Thread nD τ).loc main_arg2) (ix3 b (rowOf k.val l) ch) := by
  obtain ⟨e0, e1, e2⟩ := idx2 t
  unfold iblk
  rw [View.read_apply, ← V_arg2 m c]
  refine congrArg (V m c main_arg2) (funext fun a => Fin.ext ?_)
  match a with
  | ⟨0, _⟩ => show win0_2.index t (0 : Fin 3) * 1 + 1 * 0 = b.val; omega
  | ⟨1, _⟩ => show win0_2.index t (1 : Fin 3) * 128 + 1 * l.val = (128 * k.val + l.val) % 4096; omega
  | ⟨2, _⟩ => show win0_2.index t (2 : Fin 3) * 128 + 1 * ch.val = ch.val; omega

theorem blk3 (i : Fin 4) (j : Fin 1536) : iblk m c 3 t (ix2 i j) = V m c (Pipeline.arrRef spec0 3) (ix2 i j) := by
  have e0 := idx3 t 0
  have e1 := idx3 t 1
  unfold iblk
  rw [View.read_apply]
  refine congrArg (V m c (Pipeline.arrRef spec0 3)) (funext fun a => Fin.ext ?_)
  match a with
  | ⟨0, _⟩ => show win0_3.index t (0 : Fin 2) * 4 + 1 * i.val = i.val; omega
  | ⟨1, _⟩ => show win0_3.index t (1 : Fin 2) * 1536 + 1 * j.val = j.val; omega

theorem blk4 (i : Fin 1) (j : Fin 1536) : iblk m c 4 t (ix2 i j) = V m c (Pipeline.arrRef spec0 4) (ix2 i j) := by
  have e0 := idx4 t 0
  have e1 := idx4 t 1
  unfold iblk
  rw [View.read_apply]
  refine congrArg (V m c (Pipeline.arrRef spec0 4)) (funext fun a => Fin.ext ?_)
  match a with
  | ⟨0, _⟩ => show win0_4.index t (0 : Fin 2) * 1 + 1 * i.val = i.val; omega
  | ⟨1, _⟩ => show win0_4.index t (1 : Fin 2) * 1536 + 1 * j.val = j.val; omega

theorem blk5 (i : Fin 1) (j : Fin 128) : iblk m c 5 t (ix2 i j) = V m c (Pipeline.arrRef spec0 5) (ix2 i j) := by
  have e0 := idx5 t 0
  have e1 := idx5 t 1
  unfold iblk
  rw [View.read_apply]
  refine congrArg (V m c (Pipeline.arrRef spec0 5)) (funext fun a => Fin.ext ?_)
  match a with
  | ⟨0, _⟩ => show win0_5.index t (0 : Fin 2) * 1 + 1 * i.val = i.val; omega
  | ⟨1, _⟩ => show win0_5.index t (1 : Fin 2) * 128 + 1 * j.val = j.val; omega

theorem blk6 (i : Fin 1) (j : Fin 128) : iblk m c 6 t (ix2 i j) = V m c (Pipeline.arrRef spec0 6) (ix2 i j) := by
  have e0 := idx6 t 0
  have e1 := idx6 t 1
  unfold iblk
  rw [View.read_apply]
  refine congrArg (V m c (Pipeline.arrRef spec0 6)) (funext fun a => Fin.ext ?_)
  match a with
  | ⟨0, _⟩ => show win0_6.index t (0 : Fin 2) * 1 + 1 * i.val = i.val; omega
  | ⟨1, _⟩ => show win0_6.index t (1 : Fin 2) * 128 + 1 * j.val = j.val; omega

theorem blk7 (i : Fin 1) (j : Fin 1024) : iblk m c 7 t (ix2 i j) = V m c (Pipeline.arrRef spec0 7) (ix2 i j) := by
  have e0 := idx7 t 0
  have e1 := idx7 t 1
  unfold iblk
  rw [View.read_apply]
  refine congrArg (V m c (Pipeline.arrRef spec0 7)) (funext fun a => Fin.ext ?_)
  match a with
  | ⟨0, _⟩ => show win0_7.index t (0 : Fin 2) * 1 + 1 * i.val = i.val; omega
  | ⟨1, _⟩ => show win0_7.index t (1 : Fin 2) * 1024 + 1 * j.val = j.val; omega

theorem blk8 (i : Fin 1) (j : Fin 1024) : iblk m c 8 t (ix2 i j) = V m c (Pipeline.arrRef spec0 8) (ix2 i j) := by
  have e0 := idx8 t 0
  have e1 := idx8 t 1
  unfold iblk
  rw [View.read_apply]
  refine congrArg (V m c (Pipeline.arrRef spec0 8)) (funext fun a => Fin.ext ?_)
  match a with
  | ⟨0, _⟩ => show win0_8.index t (0 : Fin 2) * 1 + 1 * i.val = i.val; omega
  | ⟨1, _⟩ => show win0_8.index t (1 : Fin 2) * 1024 + 1 * j.val = j.val; omega

theorem blk9 (i : Fin 128) (j : Fin 1024) : iblk m c 9 t (ix2 i j) = V m c (Pipeline.arrRef spec0 9) (ix2 i j) := by
  have e0 := idx9 t 0
  have e1 := idx9 t 1
  unfold iblk
  rw [View.read_apply]
  refine congrArg (V m c (Pipeline.arrRef spec0 9)) (funext fun a => Fin.ext ?_)
  match a with
  | ⟨0, _⟩ => show win0_9.index t (0 : Fin 2) * 128 + 1 * i.val = i.val; omega
  | ⟨1, _⟩ => show win0_9.index t (1 : Fin 2) * 1024 + 1 * j.val = j.val; omega

end Blocks

end Cert.Ssd
-- ==== Proof.Ssd.Kernel.lean ====
/-
  The kernel's result: after the point of chunk `k` of sequence `b` the carried state is the sequence's state, the carried
  rows are the chunk's last eight, and the stored block is the chunk's rows of the result.
-/
module

public import proofs.«01_k».proof.Proof.Ssd.KernelHost

@[expose] public section

set_option maxRecDepth 16384
set_option maxHeartbeats 1000000

noncomputable section

namespace Cert.Ssd

open Idealize.ShloMosaic Idealize.ShloMosaic.TcCoe Idealize.SL.Sem
open Cert.KernelIdeal Cert.KernelIdeal.Gen Cert.KernelIdeal.Value

variable (m : (l : Loc nD τ sig) → Buf (Elt Ideal) l) (c : Dev nD)

/-- Sequence `b`'s operands, from the kernel program's arguments. -/
def kArgs (b : Fin 16) : Args where
  z := fun r e => m ((c : Thread nD τ).loc main_arg0) (ix3 b r e)
  x := fun r ch => m ((c : Thread nD τ).loc main_arg1) (ix3 b r ch)
  sm := fun r h => m ((c : Thread nD τ).loc main_arg2) (ix3 b r (up h))
  w := fun k ch => m ((c : Thread nD τ).loc main_arg3) (ix2 k ch)
  cb := fun ch => m ((c : Thread nD τ).loc main_arg4) (ix1 ch)
  dtb := fun h => m ((c : Thread nD τ).loc main_arg5) (ix1 h)
  al := fun h => m ((c : Thread nD τ).loc main_arg6) (ix1 h)
  d := fun h => m ((c : Thread nD τ).loc main_arg7) (ix1 h)
  ng := fun e => m ((c : Thread nD τ).loc main_arg8) (ix1 e)

variable (t : Fin cfg0.N) (b : Fin 16) (k : Fin 32) (ht : t.val = 32 * b.val + k.val)

include ht in
theorem dt_pt : heads (k0_pay10 (iblk m c 2 t) (iblk m c 5 t)) = dtv (kArgs m c b) k.val := by
  funext l h
  unfold heads dtv
  rw [p10, blk2 m c t b k ht, blk5, V_dtb]
  rfl

include ht in
theorem da_pt : heads (k0_pay11 (iblk m c 2 t) (iblk m c 5 t) (iblk m c 6 t)) = dav (kArgs m c b) k.val := by
  funext l h
  unfold heads dav dtv
  rw [p11, blk2 m c t b k ht, blk5, blk6, V_dtb, V_al]
  rfl

include ht in
/-- A row of the convolution's buffer is the row so far back. -/
theorem ext_pt (halo : Fin 136 → Fin 1536 → EReal)
    (hh : ∀ (i : Fin 136) (ch : Fin 1536), 5 ≤ i.val → i.val < 8 → halo i ch = tap (fun r => (kArgs m c b).x r ch) (8 - i.val) (128 * k.val))
    (j : ℕ) (hj : j ≤ 3) (l : Fin 128) (ch : Fin 1536) (i : Fin 136) (hi : i.val + j = 8 + l.val) :
    ext halo (iblk m c 1 t) i ch = tap (fun r => (kArgs m c b).x r ch) j (128 * k.val + l.val) := by
  unfold ext
  by_cases h8 : 8 ≤ i.val
  · rw [dif_pos h8, blk1 m c t b k ht]
    unfold tap
    rw [if_pos (by omega)]
    refine congrArg (fun r => m ((c : Thread nD τ).loc main_arg1) (ix3 b r ch)) (Fin.ext ?_)
    show (128 * k.val + (i.val - 8)) % 4096 = (128 * k.val + l.val - j) % 4096
    congr 1; omega
  · rw [dif_neg h8, hh i ch (by omega) (by omega)]
    unfold tap
    by_cases hc : 8 - i.val ≤ 128 * k.val
    · rw [if_pos hc, if_pos (by omega)]
      exact congrArg (fun r => (kArgs m c b).x r ch) (Fin.ext (by show (128 * k.val - (8 - i.val)) % 4096 = (128 * k.val + l.val - j) % 4096; congr 1; omega))
    · rw [if_neg hc, if_neg (by omega)]

include ht in
theorem act_pt (halo : Fin 136 → Fin 1536 → EReal)
    (hh : ∀ (i : Fin 136) (ch : Fin 1536), 5 ≤ i.val → i.val < 8 → halo i ch = tap (fun r => (kArgs m c b).x r ch) (8 - i.val) (128 * k.val)) :
    actOf (convOf halo (iblk m c 1 t) (iblk m c 3 t) (iblk m c 4 t)) = act (kArgs m c b) k.val := by
  funext l ch
  unfold actOf act actRow
  show silu (convAt halo (iblk m c 1 t) (iblk m c 3 t) (iblk m c 4 t) l ch) = _
  unfold convAt
  rw [ext_pt m c t b k ht halo hh 3 (by omega) l ch _ (by show 5 + l.val + 3 = 8 + l.val; omega),
    ext_pt m c t b k ht halo hh 2 (by omega) l ch _ (by show 6 + l.val + 2 = 8 + l.val; omega),
    ext_pt m c t b k ht halo hh 1 (by omega) l ch _ (by show 7 + l.val + 1 = 8 + l.val; omega),
    ext_pt m c t b k ht halo hh 0 (by omega) l ch _ (by show 8 + l.val + 0 = 8 + l.val; omega), blk4, V_cb]
  simp only [blk3]
  refine congrArg silu (congrArg (fun w => conv4 w _ _ _ _ _) (funext fun i => ?_))
  exact congrFun (V_arg3 m c) (ix2 i ch)

theorem onehot_pt : OneHot (iblk m c 9 t) := fun j e => (blk9 m c t j e).trans (onehot m c j e)

theorem d_pt (e : Fin 1024) : iblk m c 7 t (ix2 0 e) = (kArgs m c b).d (hd e) := (blk7 m c t 0 e).trans (V_d m c e)

theorem ng_pt : (fun e => iblk m c 8 t (ix2 0 e)) = (kArgs m c b).ng := funext fun e => (blk8 m c t 0 e).trans (V_ng m c e)

include ht in
theorem z_pt : (fun l e => iblk m c 0 t (ix3 0 l e)) = fun l e => (kArgs m c b).z (rowOf k.val l) e :=
  funext fun l => funext fun e => blk0 m c t b k ht l e

/-- What holds after the point. -/
structure After (o : Vec Ideal S1x128x1024 .bf16 × Vec Ideal S136x1536 .f32 × Vec Ideal S2x128x512 .f32) : Prop where
  out : ∀ l e, o.1 (ix3 0 l e) = result (kArgs m c b) k.val l e
  state : stateOf o.2.2 = stateSeq (kArgs m c b) (k.val + 1)
  halo : ∀ (i : Fin 8) (ch : Fin 1536), o.2.1 (ix2 (top i) ch) = (kArgs m c b).x (rowOf k.val (lastRow i)) ch

include ht in
/-- The first chunk of a sequence. -/
theorem after_first (hk : k.val = 0) (acc) : After m c b k (stAt0 m c t.val t.isLt acc) := by
  have h0 : t.val % 32 = 0 := by omega
  have hact := act_pt m c t b k ht (fun _ _ => 0) (fun i ch h5 h8 => by unfold tap; rw [if_neg (by omega)])
  have hS : (fun _ _ => 0 : Fin 1024 → Fin 128 → EReal) = stateSeq (kArgs m c b) k.val := by rw [hk]; rfl
  rw [stAt0_A m c t acc h0]
  refine ⟨fun l e => ?_, ?_, fun i ch => ?_⟩
  · have h := outA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _)
      (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) (onehot_pt m c t) (kArgs m c b).d (d_pt m c t b) l e
    dsimp only
    rw [h, hact, dt_pt m c t b k ht, da_pt m c t b k ht, ng_pt m c t b, z_pt m c t b k ht, hS]
    rfl
  · funext e n
    have h := stateA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _)
      (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) (onehot_pt m c t) e n
    dsimp only
    rw [h, hact, dt_pt m c t b k ht, da_pt m c t b k ht, hS]
    rfl
  · have h := haloA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _)
      (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) i ch
    dsimp only
    rw [h]
    exact blk1 m c t b k ht (lastRow i) ch

include ht in
/-- A later chunk, from what the chunk before left. -/
theorem after_next (k' : Fin 32) (hk : k.val = k'.val + 1) (acc) (hacc : After m c b k' acc) : After m c b k (stAt0 m c t.val t.isLt acc) := by
  have h0 : ¬t.val % 32 = 0 := by omega
  have hact := act_pt m c t b k ht (fun i ch => acc.2.1 (ix2 i ch)) (fun i ch h5 h8 => by
    refine (congrArg (fun r => acc.2.1 (ix2 r ch)) (Fin.ext rfl : i = top ⟨i.val, h8⟩)).trans ((hacc.halo ⟨i.val, h8⟩ ch).trans ?_)
    unfold tap
    rw [if_pos (by omega)]
    exact congrArg (fun r => (kArgs m c b).x r ch) (Fin.ext (by
      show (128 * k'.val + (120 + i.val)) % 4096 = (128 * k.val - (8 - i.val)) % 4096; congr 1; omega)))
  have hS : stateOf acc.2.2 = stateSeq (kArgs m c b) k.val := by rw [hk]; exact hacc.state
  rw [stAt0_B m c t acc h0]
  refine ⟨fun l e => ?_, ?_, fun i ch => ?_⟩
  · have h := outB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _)
      (iblk m c 0 t) (iblk m c 1 t) (iblk m c 2 t) (iblk m c 3 t) (iblk m c 4 t) (iblk m c 5 t) (iblk m c 6 t) (iblk m c 7 t) (iblk m c 8 t) (iblk m c 9 t) acc.2.1 acc.2.2 (fun h => h0 ((hcond0_0 t).mp h)) (onehot_pt m c t) (kArgs m c b).d (d_pt m c t b) l e
    dsimp only
    rw [h, hact, dt_pt m c t b k ht, da_pt m c t b k ht, ng_pt m c t b, z_pt m c t b k ht, hS]
    rfl
  · funext e n
    have h := stateB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _)
      (iblk m c 0 t) (iblk m c 1 t) (iblk m c 2 t) (iblk m c 3 t) (iblk m c 4 t) (iblk m c 5 t) (iblk m c 6 t) (iblk m c 7 t) (iblk m c 8 t) (iblk m c 9 t) acc.2.1 acc.2.2 (fun h => h0 ((hcond0_0 t).mp h)) (onehot_pt m c t) e n
    dsimp only
    rw [h, hact, dt_pt m c t b k ht, da_pt m c t b k ht, hS, hk]
    rfl
  · have h := haloB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _)
      (iblk m c 0 t) (iblk m c 1 t) (iblk m c 2 t) (iblk m c 3 t) (iblk m c 4 t) (iblk m c 5 t) (iblk m c 6 t) (iblk m c 7 t) (iblk m c 8 t) (iblk m c 9 t) acc.2.1 acc.2.2 (fun h => h0 ((hcond0_0 t).mp h)) i ch
    dsimp only
    rw [h]
    exact blk1 m c t b k ht (lastRow i) ch

omit t b k in
/-- After every point. -/
theorem after_all : ∀ (n : ℕ) (hn : n < cfg0.N) (b : Fin 16) (k : Fin 32), n = 32 * b.val + k.val → After m c b k (outsAt0 m c n hn)
  | 0, hn, b, k, e => by
    rw [outsAt0_zero]
    exact after_first m c ⟨0, hn⟩ b k e (by omega) _
  | n + 1, hn, b, k, e => by
    rw [outsAt0_succ]
    by_cases hk : k.val = 0
    · exact after_first m c ⟨n + 1, hn⟩ b k e hk _
    · exact after_next m c ⟨n + 1, hn⟩ b k e ⟨k.val - 1, by omega⟩ (by show k.val = k.val - 1 + 1; omega) _
        (after_all n _ b ⟨k.val - 1, by omega⟩ (by show n = 32 * b.val + (k.val - 1); omega))

omit t b k in
/-- The kernel's result at a sequence, a row and a lane. -/
theorem kernel_result (b : Fin 16) (k : Fin 32) (l : Fin 128) (e : Fin 1024) :
    G10 m c (ix3 b (rowOf k.val l) e) = result (kArgs m c b) k.val l e := by
  have hN : cfg0.N = 512 := N_0
  have hrow : (rowOf k.val l).val = 128 * k.val + l.val := by show (128 * k.val + l.val) % 4096 = _; omega
  have hp : pt10Of (ix3 b (rowOf k.val l) e) = 32 * b.val + k.val := by
    show 32 * (b.val / 1 - 0) + 1 * ((rowOf k.val l).val / 128 - 0) + 1 * (e.val / 1024 - 0) = _
    rw [hrow]; omega
  have hlt : 32 * b.val + k.val < cfg0.N := by omega
  unfold G10
  rw [dif_pos (by rw [hp]; exact hlt)]
  have hl : loc10Of (ix3 b (rowOf k.val l) e) = ix3 0 l e := by
    funext a
    match a with
    | ⟨0, _⟩ => exact Fin.ext (by show b.val % 1 = 0; omega)
    | ⟨1, _⟩ => exact Fin.ext (by show (rowOf k.val l).val % 128 = l.val; rw [hrow]; omega)
    | ⟨2, _⟩ => exact Fin.ext (by show e.val % 1024 = e.val; omega)
  rw [hl]
  refine Eq.trans ?_ ((after_all m c _ hlt b k rfl).out l e)
  rw [outsAt0_sweep]
  have hcongr : ∀ (p q : ℕ) (h : p = q) (hp hq), (Pipeline.accAt (fun n h => stAt0 m c n h junk0) (stAt0 m c) 0 p hp).1 (ix3 0 l e)
      = (Pipeline.accAt (fun n h => stAt0 m c n h junk0) (stAt0 m c) 0 q hq).1 (ix3 0 l e) := by
    rintro p _ rfl _ _
    rfl
  exact hcongr _ _ hp _ _

end Cert.Ssd
-- ==== Proof.Ssd.Lanes.lean ====
/-
  The reference's coordinates of a lane: its group, its head within the group and its element within the head.
-/
module

public import proofs.«01_k».proof.Proof.Ssd.Spec

@[expose] public section

noncomputable section

namespace Cert.Ssd

open Idealize.ShloMosaic

/-- The lane of element `p` of head `hh` of group `g`. -/
def ln (g : Fin 2) (hh : Fin 8) (p : Fin 64) : Fin 1024 := ⟨512 * g.val + 64 * hh.val + p.val, by omega⟩
/-- Head `hh` of group `g`. -/
def hdOf (g : Fin 2) (hh : Fin 8) : Fin 16 := ⟨8 * g.val + hh.val, by omega⟩
/-- Column `n` of group `g`'s B part. -/
def bcol (g : Fin 2) (n : Fin 128) : Fin 1536 := ⟨1024 + 128 * g.val + n.val, by omega⟩
/-- Column `n` of group `g`'s C part. -/
def ccol (g : Fin 2) (n : Fin 128) : Fin 1536 := ⟨1280 + 128 * g.val + n.val, by omega⟩
/-- Head `h`'s column among the 128 step projections. -/
def stepCol (h : Fin 16) : Fin 128 := ⟨h.val, by omega⟩

theorem hd_ln (g : Fin 2) (hh : Fin 8) (p : Fin 64) : hd (ln g hh p) = hdOf g hh := Fin.ext (by simp only [hd, ln, hdOf]; omega)
theorem bch_ln (g : Fin 2) (hh : Fin 8) (p : Fin 64) (n : Fin 128) : bch (ln g hh p) n = bcol g n :=
  Fin.ext (by simp only [bch, ln, bcol]; omega)
theorem cch_ln (g : Fin 2) (hh : Fin 8) (p : Fin 64) (n : Fin 128) : cch (ln g hh p) n = ccol g n :=
  Fin.ext (by simp only [cch, ln, ccol]; omega)

end Cert.Ssd
-- ==== Proof.Ssd.RefStep.lean ====
/-
  One trip of the reference's loop, read at an index: what it takes from the stacked chunks, its row of results and the
  state that it leaves, as sums.
-/
module

public import proofs.«01_k».proof.Proof.Gen.ReferenceIdeal.Step
public import proofs.«01_k».proof.Proof.Ssd.Lanes
public import Idealize.ShloMosaic.Lib.DynamicIndex
public import Idealize.ShloMosaic.Lib.Pipeline.Value

@[expose] public section

set_option maxRecDepth 16384

noncomputable section

namespace Cert.Ssd

open Idealize.ShloMosaic Idealize.ShloMosaic.TcCoe Idealize.SL.Sem
open Cert.ReferenceIdeal Cert.ReferenceIdeal.Gen Cert.ReferenceIdeal.Step

variable (j : Fin 32) (s : State Ideal)

/-- The start of member `j` of a stack of chunks, read signed. -/
theorem start_eq (j : Fin 32) : (BitVec.ofNat 32 j.val).toInt = (j.val : ℤ) := toInt_ofNat_of_lt (by omega)

theorem fits6 (j : Fin 32) : S32x16x128x2x8x64.Slices ![j.val, 0, 0, 0, 0, 0] S1x16x128x2x8x64 :=
  ⟨rfl, fun a => by
    have := j.isLt
    fin_cases a
    · show j.val + 1 ≤ 32; omega
    all_goals exact Nat.le_of_eq rfl⟩

theorem fits5 (j : Fin 32) : S32x16x128x2x8.Slices ![j.val, 0, 0, 0, 0] S1x16x128x2x8 :=
  ⟨rfl, fun a => by
    have := j.isLt
    fin_cases a
    · show j.val + 1 ≤ 32; omega
    all_goals exact Nat.le_of_eq rfl⟩

theorem fitsN (j : Fin 32) : S32x16x128x2x128.Slices ![j.val, 0, 0, 0, 0] S1x16x128x2x128 :=
  ⟨rfl, fun a => by
    have := j.isLt
    fin_cases a
    · show j.val + 1 ≤ 32; omega
    all_goals exact Nat.le_of_eq rfl⟩

theorem xn_at (b : Fin 16) (l : Fin 128) (g : Fin 2) (hh : Fin 8) (p : Fin 64) :
    b6 j.val s (ix5 b l g hh p) = s.main_v68_0 (ix6 j b l g hh p) := by
  unfold b6 b5
  rw [Host.dynamicSlice_eq_extractStridedSlice _ _ _ ![j.val, 0, 0, 0, 0, 0] _ (fits6 j) (by
    intro a; fin_cases a
    · exact start_eq j
    all_goals rfl)]
  pointwise []

theorem xd_at (b : Fin 16) (l : Fin 128) (g : Fin 2) (hh : Fin 8) (p : Fin 64) :
    b13 j.val s (ix5 b l g hh p) = s.main_v68_1 (ix6 j b l g hh p) := by
  unfold b13 b12
  rw [Host.dynamicSlice_eq_extractStridedSlice _ _ _ ![j.val, 0, 0, 0, 0, 0] _ (fits6 j) (by
    intro a; fin_cases a
    · exact start_eq j
    all_goals rfl)]
  pointwise []

theorem ac_at (b : Fin 16) (l : Fin 128) (g : Fin 2) (hh : Fin 8) :
    b19 j.val s (ix4 b l g hh) = s.main_v68_2 (ix5 j b l g hh) := by
  unfold b19 b18
  rw [Host.dynamicSlice_eq_extractStridedSlice _ _ _ ![j.val, 0, 0, 0, 0] _ (fits5 j) (by
    intro a; fin_cases a
    · exact start_eq j
    all_goals rfl)]
  pointwise []

theorem bn_at (b : Fin 16) (l : Fin 128) (g : Fin 2) (n : Fin 128) :
    b25 j.val s (ix4 b l g n) = s.main_v68_3 (ix5 j b l g n) := by
  unfold b25 b24
  rw [Host.dynamicSlice_eq_extractStridedSlice _ _ _ ![j.val, 0, 0, 0, 0] _ (fitsN j) (by
    intro a; fin_cases a
    · exact start_eq j
    all_goals rfl)]
  pointwise []

theorem cn_at (b : Fin 16) (l : Fin 128) (g : Fin 2) (n : Fin 128) :
    b31 j.val s (ix4 b l g n) = s.main_v68_4 (ix5 j b l g n) := by
  unfold b31 b30
  rw [Host.dynamicSlice_eq_extractStridedSlice _ _ _ ![j.val, 0, 0, 0, 0] _ (fitsN j) (by
    intro a; fin_cases a
    · exact start_eq j
    all_goals rfl)]
  pointwise []

/-- The causal mask, as jax's triangle writes it. -/
theorem mask_sge : ∀ (l r : Fin 128),
    Scalar.select (IntOp.cmpi CmpIPredicate.sge (IntOp.addi (BitVec.ofNat 32 l.val) 0#32) (BitVec.ofNat 32 r.val)) 1#1 0#1
      = if r ≤ l then 1#1 else 0#1 := by
  decide +kernel

theorem cb_at (b : Fin 16) (g : Fin 2) (r l : Fin 128) :
    b44 j.val s (ix4 b g r l) = ∑ n : Fin 128, b25 j.val s (ix4 b r g n) * b31 j.val s (ix4 b l g n) := by
  pointwise [b44]

theorem lmat_at (b : Fin 16) (l r : Fin 128) (g : Fin 2) (hh : Fin 8) :
    b43 j.val s (ix5 b l r g hh)
      = Ideal.exp (if r ≤ l then b19 j.val s (ix4 b l g hh) - b19 j.val s (ix4 b r g hh) else ninf) := by
  pointwise [b43, b42, b41, b40, b39, b38, b37, b36, b35, b34, b33, b32, K_main_v65, K_main_call4_v4, K_main_call4_v3,
    K_main_call4_v2, K_main_call4_v1, K_main_call4_c, K_main_call4_v0, K_main_v64, K_main_call4_v5, K_main_c_0, K_main_call4_c_0]
  rw [mask_sge]
  by_cases h : r ≤ l
  · rw [if_pos h, if_pos h]; rfl
  · rw [if_neg h, if_neg h]; rfl

theorem cbl_at (b : Fin 16) (l r : Fin 128) (g : Fin 2) (hh : Fin 8) :
    b48 j.val s (ix5 b l r g hh) = b44 j.val s (ix4 b g r l) * b43 j.val s (ix5 b l r g hh) := by
  pointwise [b48, b47, b46, b45]

theorem diag_at (b : Fin 16) (g : Fin 2) (hh : Fin 8) (p : Fin 64) (l : Fin 128) :
    b49 j.val s (ix5 b g hh p l) = ∑ r : Fin 128, b13 j.val s (ix5 b r g hh p) * b48 j.val s (ix5 b l r g hh) := by
  pointwise [b49]

theorem dxd_at (b : Fin 16) (l : Fin 128) (g : Fin 2) (hh : Fin 8) (p : Fin 64) :
    b57 j.val s (ix5 b l g hh p)
      = Ideal.exp (b19 j.val s (ix4 b 127 g hh) - b19 j.val s (ix4 b l g hh)) * b13 j.val s (ix5 b l g hh p) := by
  pointwise [b57, b56, b55, b54, b53, b52, b51]

theorem st_at (b : Fin 16) (g : Fin 2) (hh : Fin 8) (p : Fin 64) (n : Fin 128) :
    b58 j.val s (ix5 b g hh p n) = ∑ l : Fin 128, b57 j.val s (ix5 b l g hh p) * b25 j.val s (ix4 b l g n) := by
  pointwise [b58]

theorem off_at (b : Fin 16) (g : Fin 2) (hh : Fin 8) (p : Fin 64) (l : Fin 128) :
    b59 j.val s (ix5 b g hh p l) = ∑ n : Fin 128, s.main_v68_8 (ix5 b g hh p n) * b31 j.val s (ix4 b l g n) := by
  pointwise [b59]

theorem yoff_at (b : Fin 16) (l : Fin 128) (g : Fin 2) (hh : Fin 8) (p : Fin 64) :
    b64 j.val s (ix5 b l g hh p) = b59 j.val s (ix5 b g hh p l) * Ideal.exp (b19 j.val s (ix4 b l g hh)) := by
  pointwise [b64, b63, b62, b61, b60]

theorem skip_at (b : Fin 16) (l : Fin 128) (g : Fin 2) (hh : Fin 8) (p : Fin 64) :
    b68 j.val s (ix5 b l g hh p) = s.main_v68_6 (ix3 g hh 0) * b6 j.val s (ix5 b l g hh p) := by
  pointwise [b68, b67, b66]

theorem y_at (b : Fin 16) (l : Fin 128) (g : Fin 2) (hh : Fin 8) (p : Fin 64) :
    b69 j.val s (ix5 b l g hh p)
      = b49 j.val s (ix5 b g hh p l) + b64 j.val s (ix5 b l g hh p) + b68 j.val s (ix5 b l g hh p) := by
  pointwise [b69, b65, b50]

theorem carry_at (b : Fin 16) (g : Fin 2) (hh : Fin 8) (p : Fin 64) (n : Fin 128) :
    b76 j.val s (ix5 b g hh p n)
      = s.main_v68_8 (ix5 b g hh p n) * Ideal.exp (b19 j.val s (ix4 b 127 g hh)) + b58 j.val s (ix5 b g hh p n) := by
  pointwise [b76, b75, b74, b73, b72, b71, b70]

theorem row_at (b : Fin 16) (l : Fin 128) (g : Fin 2) (hh : Fin 8) (p : Fin 64) :
    b77 j.val s (ix6 0 b l g hh p) = b69 j.val s (ix5 b l g hh p) := by
  pointwise [b77]

/-- The trip writes its own member of the results and leaves the others. -/
theorem ys_at (k : Fin 32) (b : Fin 16) (l : Fin 128) (g : Fin 2) (hh : Fin 8) (p : Fin 64) :
    b83 j.val s (ix6 k b l g hh p)
      = if k = j then b69 j.val s (ix5 b l g hh p) else s.main_v68_9 (ix6 k b l g hh p) := by
  unfold b83
  rw [Host.dynamicUpdateSlice_eq_updateSlice _ _ _ _ ![j.val, 0, 0, 0, 0, 0] (by
    intro a; fin_cases a
    · have h := start_eq j
      have hj := j.isLt
      show (min (max (BitVec.ofNat 32 j.val).toInt 0) ((32 - 1 : ℕ) : ℤ)).toNat = j.val
      rw [h]; omega
    all_goals rfl) (fits6 j)]
  pointwise []
  by_cases h : k = j
  · subst h
    rw [dif_pos ⟨le_refl _, by omega⟩, if_pos rfl, ← row_at]
    exact congrArg (fun i : Fin 1 => b77 k.val s (ix6 i b l g hh p)) (Subsingleton.elim _ _)
  · rw [if_neg h, dif_neg (fun hc => h (Fin.ext (by omega)))]

end Cert.Ssd
-- ==== Proof.Ssd.RefLoop.lean ====
/-
  The reference's loop: after `n` trips the carried state is the sequence's state before chunk `n`, and the members of
  the results up to `n` are the chunks' rows.
-/
module

public import proofs.«01_k».proof.Proof.Ssd.RefStep

@[expose] public section

set_option maxRecDepth 16384

noncomputable section

namespace Cert.Ssd

open Idealize.ShloMosaic Idealize.ShloMosaic.TcCoe Idealize.SL.Sem
open Cert.ReferenceIdeal Cert.ReferenceIdeal.Gen Cert.ReferenceIdeal.Step

/-- What the loop's state holds before trip `n`, for the sequences' operands `P`. -/
structure Inv (P : Fin 16 → Args) (n : ℕ) (s : State Ideal) : Prop where
  xc : ∀ (k : Fin 32) b l g hh p, s.main_v68_0 (ix6 k b l g hh p) = act (P b) k.val l (xch (ln g hh p))
  xd : ∀ (k : Fin 32) b l g hh p, s.main_v68_1 (ix6 k b l g hh p) = xdt (act (P b) k.val) (dtv (P b) k.val) l (ln g hh p)
  ac : ∀ (k : Fin 32) b l g hh, s.main_v68_2 (ix5 k b l g hh) = acs (dav (P b) k.val) l (hdOf g hh)
  bc : ∀ (k : Fin 32) b l g n, s.main_v68_3 (ix5 k b l g n) = act (P b) k.val l (bcol g n)
  cc : ∀ (k : Fin 32) b l g n, s.main_v68_4 (ix5 k b l g n) = act (P b) k.val l (ccol g n)
  d : ∀ b g hh, s.main_v68_6 (ix3 g hh 0) = (P b).d (hdOf g hh)
  carry : ∀ b g hh p i, s.main_v68_8 (ix5 b g hh p i) = stateSeq (P b) n (ln g hh p) i
  ys : ∀ (k : Fin 32) b l g hh p, k.val < n → s.main_v68_9 (ix6 k b l g hh p)
    = yChunk (act (P b) k.val) (dtv (P b) k.val) (dav (P b) k.val) (P b).d (stateSeq (P b) k.val) l (ln g hh p)

variable {P : Fin 16 → Args} {s : State Ideal} {j : Fin 32}

theorem y_step (h : Inv P j.val s) (b : Fin 16) (l : Fin 128) (g : Fin 2) (hh : Fin 8) (p : Fin 64) :
    b69 j.val s (ix5 b l g hh p)
      = yChunk (act (P b) j.val) (dtv (P b) j.val) (dav (P b) j.val) (P b).d (stateSeq (P b) j.val) l (ln g hh p) := by
  unfold yChunk
  simp only [hd_ln, bch_ln, cch_ln]
  rw [y_at, diag_at, yoff_at, off_at, skip_at, xn_at, ac_at, h.ac, h.xc, h.d b]
  simp only [cbl_at, cb_at, lmat_at, xd_at, bn_at, cn_at, ac_at, h.ac, h.xd, h.bc, h.cc, h.carry]
  refine congrArg (· + _) (congrArg₂ (· + ·) (Finset.sum_congr rfl fun r _ => ?_) (congrArg (· * _) (Finset.sum_congr rfl fun n _ => mul_comm _ _)))
  rw [mul_comm]
  exact congrArg (· * _) (congrArg (· * _) (Finset.sum_congr rfl fun n _ => mul_comm _ _))

theorem carry_step (h : Inv P j.val s) (b : Fin 16) (g : Fin 2) (hh : Fin 8) (p : Fin 64) (i : Fin 128) :
    b76 j.val s (ix5 b g hh p i) = stateSeq (P b) (j.val + 1) (ln g hh p) i := by
  show _ = stChunk (act (P b) j.val) (dtv (P b) j.val) (dav (P b) j.val) (stateSeq (P b) j.val) (ln g hh p) i
  unfold stChunk
  simp only [hd_ln, bch_ln]
  rw [carry_at, st_at, ac_at, h.ac, h.carry]
  simp only [dxd_at, xd_at, bn_at, ac_at, h.ac, h.xd, h.bc]
  refine congrArg (_ + ·) (Finset.sum_congr rfl fun l _ => ?_)
  rw [mul_comm, mul_comm (Ideal.exp _)]

theorem Inv.next (h : Inv P j.val s) : Inv P (j.val + 1) (step j.val s) where
  xc := h.xc
  xd := h.xd
  ac := h.ac
  bc := h.bc
  cc := h.cc
  d := h.d
  carry := fun b g hh p i => carry_step h b g hh p i
  ys := fun k b l g hh p hk => by
    refine (ys_at j s k b l g hh p).trans ?_
    by_cases hkj : k = j
    · subst hkj
      rw [if_pos rfl]
      exact y_step h b l g hh p
    · rw [if_neg hkj]
      exact h.ys k b l g hh p (by have : k.val ≠ j.val := fun e => hkj (Fin.ext e); omega)

end Cert.Ssd
-- ==== Proof.Ssd.Cumsum.lean ====
/-
  A running sum along the rows of a chunk: the host's sum over the window of 128 rows that ends at a row, the positions
  before the chunk being zeros.
-/
module

public import Idealize.ShloMosaic.Lib.Pointwise

@[expose] public section

set_option maxRecDepth 16384

noncomputable section

namespace Cert.Ssd

open Idealize.ShloMosaic

theorem foldl_add_eq {α : Type} (f : α → EReal) : ∀ (L : List α) (z : EReal), L.foldl (fun r n => r + f n) z = z + (L.map f).sum
  | [], z => by simp
  | a :: L, z => by rw [List.foldl_cons, foldl_add_eq f L, List.map_cons, List.sum_cons, add_assoc]

/-- What one position of the window that ends at row `l` adds: the operand's element there, or zero before the chunk. -/
def windowTerm (v : FVec Ideal (⟨5, ![32, 16, 128, 2, 8]⟩ : Shape) .f32) (j : (⟨5, ![32, 16, 128, 2, 8]⟩ : Shape).Idx)
    (w : (⟨5, ![1, 1, 128, 1, 1]⟩ : Shape).Idx) : EReal :=
  if h : ∀ a : Fin 5, (![0, 0, 127, 0, 0] : Fin 5 → ℕ) a ≤ (j a).val * (![1, 1, 1, 1, 1] : Fin 5 → ℕ) a + (w a).val
      ∧ (j a).val * (![1, 1, 1, 1, 1] : Fin 5 → ℕ) a + (w a).val - (![0, 0, 127, 0, 0] : Fin 5 → ℕ) a < (![32, 16, 128, 2, 8] : Fin 5 → ℕ) a then
    v fun a => ⟨(j a).val * (![1, 1, 1, 1, 1] : Fin 5 → ℕ) a + (w a).val - (![0, 0, 127, 0, 0] : Fin 5 → ℕ) a, (h a).2⟩
  else 0

theorem windowTerm_eq (v : FVec Ideal (⟨5, ![32, 16, 128, 2, 8]⟩ : Shape) .f32)
    (k : Fin 32) (b : Fin 16) (l : Fin 128) (g : Fin 2) (hh : Fin 8) (c : Fin 128) :
    windowTerm v (ix5 k b l g hh) (ix5 0 0 c 0 0) = if l + 1 + c ≤ l then v (ix5 k b (l + 1 + c) g hh) else 0 := by
  have hval : (l + 1 + c).val = (l.val + 1 + c.val) % 128 := by simp [Fin.val_add]
  by_cases hc : 127 ≤ l.val + c.val
  · have hr : (l + 1 + c).val = l.val + c.val - 127 := by omega
    unfold windowTerm
    rw [dif_pos, if_pos (show l + 1 + c ≤ l from Fin.le_def.mpr (by omega))]
    · congr 1
      funext a
      fin_cases a <;> apply Fin.ext
      · show k.val * 1 + 0 - 0 = k.val; omega
      · show b.val * 1 + 0 - 0 = b.val; omega
      · show l.val * 1 + c.val - 127 = (l + 1 + c).val; omega
      · show g.val * 1 + 0 - 0 = g.val; omega
      · show hh.val * 1 + 0 - 0 = hh.val; omega
    · intro a
      fin_cases a
      · show 0 ≤ k.val * 1 + 0 ∧ k.val * 1 + 0 - 0 < 32; omega
      · show 0 ≤ b.val * 1 + 0 ∧ b.val * 1 + 0 - 0 < 16; omega
      · show 127 ≤ l.val * 1 + c.val ∧ l.val * 1 + c.val - 127 < 128; omega
      · show 0 ≤ g.val * 1 + 0 ∧ g.val * 1 + 0 - 0 < 2; omega
      · show 0 ≤ hh.val * 1 + 0 ∧ hh.val * 1 + 0 - 0 < 8; omega
  · have hr : (l + 1 + c).val = l.val + c.val + 1 := by omega
    unfold windowTerm
    rw [dif_neg, if_neg (fun h => by have := Fin.le_def.mp h; omega)]
    intro h
    have h2 : 127 ≤ l.val * 1 + c.val := (h 2).1
    omega

/-- The sum over the window that ends at row `l` is the sum of the rows up to `l`. -/
theorem cumsum_at (v : FVec Ideal (⟨5, ![32, 16, 128, 2, 8]⟩ : Shape) .f32) (z : FVec Ideal (⟨0, ![]⟩ : Shape) .f32) (hz : ∀ i, z i = 0)
    (hw : (⟨5, ![32, 16, 128, 2, 8]⟩ : Shape).ReduceWindows ![1, 1, 128, 1, 1] ![1, 1, 1, 1, 1] ![0, 0, 127, 0, 0] ![0, 0, 0, 0, 0]
      (⟨5, ![32, 16, 128, 2, 8]⟩ : Shape)) (hu : 0 < (⟨0, ![]⟩ : Shape).numel)
    (k : Fin 32) (b : Fin 16) (l : Fin 128) (g : Fin 2) (hh : Fin 8) :
    Host.reduceWindowAdd ![1, 1, 128, 1, 1] ![1, 1, 1, 1, 1] ![0, 0, 127, 0, 0] ![0, 0, 0, 0, 0] v z hw hu (ix5 k b l g hh)
      = ∑ r : Fin 128, if r ≤ l then v (ix5 k b r g hh) else 0 := by
  unfold Host.reduceWindowAdd
  simp only [Ideal.hostReduceWindowAdd_def, Ideal.hostReduceWindowAdd, Host.reduceWindow]
  rw [foldl_add_eq, hz, zero_add, ← Fin.sum_univ_def]
  refine Eq.trans (b := ∑ n, windowTerm v (ix5 k b l g hh) ((Shape.rowMajor (⟨5, ![1, 1, 128, 1, 1]⟩ : Shape)).symm n)) rfl ?_
  rw [Equiv.sum_comp (Shape.rowMajor (⟨5, ![1, 1, 128, 1, 1]⟩ : Shape)).symm (windowTerm v (ix5 k b l g hh))]
  refine (sum_idx5 _).trans ?_
  simp only [Fin.sum_univ_one]
  exact Fintype.sum_equiv (Equiv.addLeft (l + 1)) _ _ fun c => windowTerm_eq v k b l g hh c

end Cert.Ssd
-- ==== Proof.Ssd.RefPre.lean ====
/-
  The reference's values before its loop, read at an index, against the sequence's plain sums (`Spec.lean`).
-/
module

public import proofs.«01_k».proof.Proof.Gen.ReferenceIdeal.Step
public import proofs.«01_k».proof.Proof.Ssd.Lanes
public import proofs.«01_k».proof.Proof.Ssd.Cumsum
public import Idealize.ShloMosaic.Lib.IdealHost

@[expose] public section

set_option maxRecDepth 16384

noncomputable section

namespace Cert.Ssd

open Idealize.ShloMosaic Idealize.ShloMosaic.TcCoe Idealize.SL.Sem
open Cert.ReferenceIdeal Cert.ReferenceIdeal.Gen Cert.ReferenceIdeal.Step

variable (a0 : FVec Ideal S16x4096x1024 .f32) (a1 : FVec Ideal S16x4096x1536 .f32) (a2 : FVec Ideal S16x4096x128 .f32)
  (a3 : FVec Ideal S4x1536 .f32) (a4 : FVec Ideal S1536 .f32) (a5 a6 a7 : FVec Ideal S16 .f32) (a8 : FVec Ideal S1024 .f32)

/-- Sequence `b`'s operands, from the reference's arguments. -/
def rArgs (b : Fin 16) : Args where
  z := fun r e => a0 (ix3 b r e)
  x := fun r ch => a1 (ix3 b r ch)
  sm := fun r h => a2 (ix3 b r (stepCol h))
  w := fun k ch => a3 (ix2 k ch)
  cb := fun ch => a4 (ix1 ch)
  dtb := fun h => a5 (ix1 h)
  al := fun h => a6 (ix1 h)
  d := fun h => a7 (ix1 h)
  ng := fun e => a8 (ix1 e)

theorem at3 {n0 n1 n2 : ℕ} {α : Type} (f : (⟨3, ![n0, n1, n2]⟩ : Shape).Idx → α) (b : Fin n0) {r r' : Fin n1} {e e' : Fin n2}
    (hr : r.val = r'.val) (he : e.val = e'.val) : f (ix3 b r e) = f (ix3 b r' e') := by
  obtain rfl := Fin.ext hr; obtain rfl := Fin.ext he; rfl

theorem exp_nonneg : ∀ v : EReal, 0 ≤ Ideal.exp v
  | ⊥ => by simp
  | ⊤ => by simp
  | (r : ℝ) => by rw [Ideal.exp_coe]; exact EReal.coe_nonneg.mpr (Real.exp_pos r).le

theorem silu_mul (v : EReal) : v * Ideal.div 1 (1 + Ideal.exp (-v)) = silu v := by
  unfold silu
  rw [zero_sub]
  refine Ideal.mul_one_div ?_
  have h := Ideal.one_add_sum_ne_zero (Finset.univ : Finset (Fin 1)) (fun _ => Ideal.exp (-v)) (fun _ _ => exp_nonneg _)
  simpa using h

theorem pad_at (b : Fin 16) (r : Fin 4099) (ch : Fin 1536) :
    A_main_v0 (F := Ideal) a1 a2 a3 a4 a5 a6 a7 (ix3 b r ch)
      = if h : 3 ≤ r.val then a1 (ix3 b ⟨r.val - 3, by omega⟩ ch) else 0 := by
  pointwise [A_main_v0, K_main_call0_v0, K_main_c]
  by_cases h : 3 ≤ r.val
  · rw [dif_pos ⟨h, by omega⟩, dif_pos h]
  · rw [dif_neg (fun hc => h hc.1), dif_neg h]
    show (((0#32 : BitVec 32).toInt : ℝ) : EReal) = 0
    simp

/-- The four taps and the bias, added in the other order. -/
theorem conv_order (b w3 w2 w1 w0 x3 x2 x1 x0 : EReal) :
    x3 * w0 + x2 * w1 + x1 * w2 + x0 * w3 + b = b + w3 * x0 + w2 * x1 + w1 * x2 + w0 * x3 := by
  simp only [mul_comm w3, mul_comm w2, mul_comm w1, mul_comm w0]
  ac_rfl

theorem conv_at (b : Fin 16) (r : Fin 4096) (ch : Fin 1536) :
    A_main_v32 (F := Ideal) a1 a2 a3 a4 a5 a6 a7 (ix3 b r ch)
      = conv4 (fun k => a3 (ix2 k ch)) (a4 (ix1 ch)) (A_main_v0 (F := Ideal) a1 a2 a3 a4 a5 a6 a7 (ix3 b ⟨0 + r.val, by omega⟩ ch))
          (A_main_v0 (F := Ideal) a1 a2 a3 a4 a5 a6 a7 (ix3 b ⟨1 + r.val, by omega⟩ ch)) (A_main_v0 (F := Ideal) a1 a2 a3 a4 a5 a6 a7 (ix3 b ⟨2 + r.val, by omega⟩ ch))
          (A_main_v0 (F := Ideal) a1 a2 a3 a4 a5 a6 a7 (ix3 b ⟨3 + r.val, by omega⟩ ch)) := by
  unfold conv4
  pointwise [A_main_v32, A_main_v29, A_main_v22, A_main_v15, A_main_v8, A_main_v6, A_main_v14, A_main_v21, A_main_v28,
    A_main_v1, A_main_v9, A_main_v16, A_main_v23, A_main_v5, A_main_v13, A_main_v20, A_main_v27, A_main_v4, A_main_v12,
    A_main_v19, A_main_v26, A_main_v3, A_main_v11, A_main_v18, A_main_v25, A_main_v2, A_main_v10, A_main_v17, A_main_v24,
    A_main_v30, A_main_v31, K_main_v7, K_main_cst]
  exact conv_order _ _ _ _ _ _ _ _ _

theorem silu_at (b : Fin 16) (r : Fin 4096) (ch : Fin 1536) :
    A_main_v33 (F := Ideal) a1 a2 a3 a4 a5 a6 a7 (ix3 b r ch) = silu (A_main_v32 (F := Ideal) a1 a2 a3 a4 a5 a6 a7 (ix3 b r ch)) := by
  pointwise [A_main_v33, A_main_call1_v5, A_main_call1_v3, A_main_call1_v1, A_main_call1_v0, K_main_call1_v2, K_main_call1_v4,
    K_main_call1_cst, K_main_call1_cst_0]
  exact silu_mul _

theorem dt_at (b : Fin 16) (r : Fin 4096) (h : Fin 16) :
    A_main_v42 (F := Ideal) a1 a2 a3 a4 a5 a6 a7 (ix3 b r h) = softplus (a2 (ix3 b r (stepCol h)) + a5 (ix1 h)) := by
  unfold softplus
  pointwise [A_main_v42, A_main_call2_v4, A_main_call2_v6, A_main_call2_v11, A_main_call2_v10, A_main_call2_v9, A_main_call2_v8,
    A_main_call2_v7, A_main_call2_v3, A_main_call2_v1, A_main_v41, A_main_v40, A_main_v39, A_main_v38, K_main_call2_v0,
    K_main_call2_v2, K_main_call2_v5, K_main_call2_cst]
  rw [if_neg (not_not.mpr rfl)]
  simp only [sub_zero, zero_sub]
  rfl

theorem da_at (b : Fin 16) (r : Fin 4096) (h : Fin 16) :
    A_main_v54 (F := Ideal) a1 a2 a3 a4 a5 a6 a7 (ix3 b r h)
      = A_main_v42 (F := Ideal) a1 a2 a3 a4 a5 a6 a7 (ix3 b r h) * (0 - Ideal.exp (a6 (ix1 h))) := by
  rw [zero_sub]
  pointwise [A_main_v54, A_main_v53, A_main_v52, A_main_v44, A_main_v43]

theorem xc_at (k : Fin 32) (b : Fin 16) (l : Fin 128) (g : Fin 2) (hh : Fin 8) (p : Fin 64) :
    A_main_v46 (F := Ideal) a1 a2 a3 a4 a5 a6 a7 (ix6 k b l g hh p) = A_main_v33 (F := Ideal) a1 a2 a3 a4 a5 a6 a7 (ix3 b (rowOf k.val l) (xch (ln g hh p))) := by
  pointwise [A_main_v46, A_main_v45, A_main_v37, A_main_v34]
  refine at3 _ b ?_ ?_
  · simp only [rowOf]; omega
  · simp only [xch, ln]; omega

theorem head_at (b : Fin 16) (r : Fin 4096) (h : Fin 16) (p : Fin 64) :
    A_main_v37 (F := Ideal) a1 a2 a3 a4 a5 a6 a7 (ix4 b r h p) = A_main_v33 (F := Ideal) a1 a2 a3 a4 a5 a6 a7 (ix3 b r ⟨64 * h.val + p.val, by omega⟩) := by
  pointwise [A_main_v37, A_main_v34]
  refine at3 _ b rfl ?_
  show h.val * 64 + p.val = 64 * h.val + p.val
  omega

theorem dtRow_at (b : Fin 16) (r : Fin 4096) (h : Fin 16) : A_main_v47 (F := Ideal) a1 a2 a3 a4 a5 a6 a7 (ix4 b r h 0) = A_main_v42 (F := Ideal) a1 a2 a3 a4 a5 a6 a7 (ix3 b r h) := by
  pointwise [A_main_v47]

theorem dtLane_at (b : Fin 16) (r : Fin 4096) (h : Fin 16) (p : Fin 64) :
    A_main_v48 (F := Ideal) a1 a2 a3 a4 a5 a6 a7 (ix4 b r h p) = A_main_v47 (F := Ideal) a1 a2 a3 a4 a5 a6 a7 (ix4 b r h 0) := by
  pointwise [A_main_v48]

theorem prod_at (b : Fin 16) (r : Fin 4096) (h : Fin 16) (p : Fin 64) :
    A_main_v49 (F := Ideal) a1 a2 a3 a4 a5 a6 a7 (ix4 b r h p) = A_main_v37 (F := Ideal) a1 a2 a3 a4 a5 a6 a7 (ix4 b r h p) * A_main_v48 (F := Ideal) a1 a2 a3 a4 a5 a6 a7 (ix4 b r h p) := by
  unfold A_main_v49
  exact ValueIdx.mulf_apply _ _ _

theorem heads_at (b : Fin 16) (r : Fin 4096) (h : Fin 16) (p : Fin 64) :
    A_main_v49 (F := Ideal) a1 a2 a3 a4 a5 a6 a7 (ix4 b r h p)
      = A_main_v33 (F := Ideal) a1 a2 a3 a4 a5 a6 a7 (ix3 b r ⟨64 * h.val + p.val, by omega⟩) * A_main_v42 (F := Ideal) a1 a2 a3 a4 a5 a6 a7 (ix3 b r h) := by
  rw [prod_at, head_at, dtLane_at, dtRow_at]

theorem xdt_at (k : Fin 32) (b : Fin 16) (l : Fin 128) (g : Fin 2) (hh : Fin 8) (p : Fin 64) :
    A_main_v51 (F := Ideal) a1 a2 a3 a4 a5 a6 a7 (ix6 k b l g hh p)
      = A_main_v33 (F := Ideal) a1 a2 a3 a4 a5 a6 a7 (ix3 b (rowOf k.val l) (xch (ln g hh p))) * A_main_v42 (F := Ideal) a1 a2 a3 a4 a5 a6 a7 (ix3 b (rowOf k.val l) (hdOf g hh)) := by
  have h : A_main_v51 (F := Ideal) a1 a2 a3 a4 a5 a6 a7 (ix6 k b l g hh p) = A_main_v49 (F := Ideal) a1 a2 a3 a4 a5 a6 a7 (ix4 b (rowOf k.val l) (hdOf g hh) p) := by
    pointwise [A_main_v51, A_main_v50]
    congr 2
    · apply Fin.ext; simp only [rowOf]; omega
    · apply Fin.ext; simp only [hdOf]; omega
  rw [h, heads_at]
  refine congrArg (· * _) (at3 _ b rfl ?_)
  simp only [hdOf, xch, ln]; omega

theorem cdt_at (k : Fin 32) (b : Fin 16) (l : Fin 128) (g : Fin 2) (hh : Fin 8) :
    A_main_v56 (F := Ideal) a1 a2 a3 a4 a5 a6 a7 (ix5 k b l g hh) = A_main_v54 (F := Ideal) a1 a2 a3 a4 a5 a6 a7 (ix3 b (rowOf k.val l) (hdOf g hh)) := by
  pointwise [A_main_v56, A_main_v55]
  refine at3 _ b ?_ ?_
  · simp only [rowOf]; omega
  · simp only [hdOf]; omega

theorem bc_at (k : Fin 32) (b : Fin 16) (l : Fin 128) (g : Fin 2) (n : Fin 128) :
    A_main_v59 (F := Ideal) a1 a2 a3 a4 a5 a6 a7 (ix5 k b l g n) = A_main_v33 (F := Ideal) a1 a2 a3 a4 a5 a6 a7 (ix3 b (rowOf k.val l) (bcol g n)) := by
  pointwise [A_main_v59, A_main_v58, A_main_v35]
  refine at3 _ b ?_ ?_
  · simp only [rowOf]; omega
  · simp only [bcol]; omega

theorem cc_at (k : Fin 32) (b : Fin 16) (l : Fin 128) (g : Fin 2) (n : Fin 128) :
    A_main_v61 (F := Ideal) a1 a2 a3 a4 a5 a6 a7 (ix5 k b l g n) = A_main_v33 (F := Ideal) a1 a2 a3 a4 a5 a6 a7 (ix3 b (rowOf k.val l) (ccol g n)) := by
  pointwise [A_main_v61, A_main_v60, A_main_v36]
  refine at3 _ b ?_ ?_
  · simp only [rowOf]; omega
  · simp only [ccol]; omega

theorem d_at (g : Fin 2) (hh : Fin 8) :
    A_main_v63 (F := Ideal) a1 a2 a3 a4 a5 a6 a7 (ix3 g hh 0) = a7 (ix1 (hdOf g hh)) := by
  pointwise [A_main_v63, A_main_v62]
  congr 2
  apply Fin.ext; simp only [hdOf]; omega

end Cert.Ssd
-- ==== Proof.Ssd.RefPost.lean ====
/-
  The reference's values after its loop, read at an index: the gate, the root mean square of a group and the scale.
-/
module

public import proofs.«01_k».proof.Proof.Ssd.RefPre

@[expose] public section

set_option maxRecDepth 16384

noncomputable section

namespace Cert.Ssd

open Idealize.ShloMosaic Idealize.ShloMosaic.TcCoe Idealize.SL.Sem
open Cert.ReferenceIdeal Cert.ReferenceIdeal.Gen Cert.ReferenceIdeal.Step

variable (y : FVec Ideal S32x16x128x2x8x64 .f32) (z : FVec Ideal S16x4096x1024 .f32) (ng : FVec Ideal S1024 .f32)

/-- The gate. -/
def gateOf : FVec Ideal S16x4096x1024 .f32 :=
  mulf z (Host.divf (broadcastInDim S16x4096x1024 ![] bcast_S_S16x4096x1024 (constant S_ .f32 0x3F800000#32))
    (addf (broadcastInDim S16x4096x1024 ![] bcast_S_S16x4096x1024 (constant S_ .f32 0x3F800000#32)) (Host.exp (Host.negf z))))

/-- The rows in their order. -/
def flatOf : FVec Ideal S16x4096x1024 .f32 :=
  shapeCast _ (transpose S16x32x128x2x8x64 [1, 0, 2, 3, 4, 5] y transposes_S32x16x128x2x8x64_S16x32x128x2x8x64_1_0_2_3_4_5)
    shapeCasts_S16x32x128x2x8x64_S16x4096x1024

/-- The gated rows, a group at a time. -/
def groupsOf (v : FVec Ideal S16x4096x1024 .f32) : FVec Ideal S16x4096x2x512 .f32 := shapeCast _ v shapeCasts_S16x4096x1024_S16x4096x2x512

/-- One over a group's root mean square. -/
def scaleOf (v : FVec Ideal S16x4096x2x512 .f32) : FVec Ideal S16x4096x2x1 .f32 :=
  Host.rsqrt (addf (Host.divf (broadcastInDim S16x4096x2x1 ![0, 1, 2] bcast_S16x4096x2_S16x4096x2x1_0_1_2
      (Host.reduceAdd (mulf v v) (constant S_ .f32 0x00000000#32) reducesTo_S16x4096x2x512_S16x4096x2_d3 h_S_))
    (broadcastInDim S16x4096x2x1 ![] bcast_S_S16x4096x2x1 (constant S_ .f32 0x44000000#32)))
    (broadcastInDim S16x4096x2x1 ![] bcast_S_S16x4096x2x1 (constant S_ .f32 0x3727C5AC#32)))

/-- The normalized rows. -/
def normOf (v : FVec Ideal S16x4096x2x512 .f32) (w : FVec Ideal S16x4096x2x1 .f32) : FVec Ideal S16x4096x2x512 .f32 :=
  mulf v (broadcastInDim S16x4096x2x512 ![0, 1, 2, 3] bcast_S16x4096x2x1_S16x4096x2x512_0_1_2_3 w)

/-- The scaled rows. -/
def scaledOf (v : FVec Ideal S16x4096x2x512 .f32) : FVec Ideal S16x4096x1024 .f32 :=
  mulf (shapeCast _ v shapeCasts_S16x4096x2x512_S16x4096x1024)
    (broadcastInDim S16x4096x1024 ![0, 1, 2] bcast_S1x1x1024_S16x4096x1024_0_1_2 (broadcastInDim S1x1x1024 ![2] bcast_S1024_S1x1x1024_2 ng))

theorem result_eq (s : State Ideal) (i : S16x4096x1024.Idx) :
    R_main_v88 (F := Ideal) s z ng i
      = scaledOf ng (normOf (groupsOf (mulf (flatOf s.main_v68_9) (gateOf z))) (scaleOf (groupsOf (mulf (flatOf s.main_v68_9) (gateOf z))))) i := rfl

theorem gate_at (b : Fin 16) (r : Fin 4096) (e : Fin 1024) : gateOf z (ix3 b r e) = silu (z (ix3 b r e)) := by
  pointwise [gateOf]
  exact silu_mul _

theorem flat_at (k : Fin 32) (b : Fin 16) (l : Fin 128) (g : Fin 2) (hh : Fin 8) (p : Fin 64) :
    flatOf y (ix3 b (rowOf k.val l) (ln g hh p)) = y (ix6 k b l g hh p) := by
  pointwise [flatOf]
  refine congrArg y ((ix6_inj _ _ _ _ _ _ _ _ _ _ _ _).mpr ⟨Fin.ext ?_, rfl, Fin.ext ?_, Fin.ext ?_, Fin.ext ?_, Fin.ext ?_⟩)
    <;> simp only [rowOf, ln] <;> omega

theorem groups_at (v : FVec Ideal S16x4096x1024 .f32) (b : Fin 16) (r : Fin 4096) (g : Fin 2) (q : Fin 512) :
    groupsOf v (ix4 b r g q) = v (ix3 b r ⟨512 * g.val + q.val, by omega⟩) := by
  pointwise [groupsOf]
  refine at3 _ b rfl ?_
  show g.val * 512 + q.val = 512 * g.val + q.val
  omega

theorem scale_at (v : FVec Ideal S16x4096x2x512 .f32) (b : Fin 16) (r : Fin 4096) (g : Fin 2) :
    scaleOf v (ix4 b r g 0) = Ideal.rsqrt (Ideal.div (∑ q : Fin 512, v (ix4 b r g q) * v (ix4 b r g q))
      (Ideal.ofBits FTy.f32 1140850688#32) + Ideal.ofBits FTy.f32 925353388#32) := by
  pointwise [scaleOf]

theorem norm_at (v : FVec Ideal S16x4096x2x512 .f32) (w : FVec Ideal S16x4096x2x1 .f32) (b : Fin 16) (r : Fin 4096) (g : Fin 2) (q : Fin 512) :
    normOf v w (ix4 b r g q) = v (ix4 b r g q) * w (ix4 b r g 0) := by
  pointwise [normOf]

theorem scaled_at (v : FVec Ideal S16x4096x2x512 .f32) (b : Fin 16) (r : Fin 4096) (e : Fin 1024) :
    scaledOf ng v (ix3 b r e) = v (ix4 b r ⟨e.val / 512, by omega⟩ ⟨e.val % 512, by omega⟩) * ng (ix1 e) := by
  pointwise [scaledOf]

end Cert.Ssd
-- ==== Proof.RefRun.lean ====
/-
  The reference's run, stated over the one-chunk step of its generated `Step` module: a valuation that carries a state
  at the loop's buffers carries `step` of that state after one trip, so the result of the run is the result of 32 steps.
-/
module

public import proofs.«01_k».proof.Proof.Gen.ReferenceIdeal.Run
public import proofs.«01_k».proof.Proof.Gen.ReferenceIdeal.Step

@[expose] public section

noncomputable section

namespace Cert.Ssd.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The loop's buffers hold the state `s`, the causal mask and the number `j` of the coming trip. -/
structure Carries (V : Valuation τ sig (Elt F)) (s : State F) (j : ℕ) : Prop where
  carry : V (Proc.devRef .tc main_v68_8) = s.main_v68_8
  ys : V (Proc.devRef .tc main_v68_9) = s.main_v68_9
  xc : V (Proc.devRef .tc main_v68_0) = s.main_v68_0
  xdt : V (Proc.devRef .tc main_v68_1) = s.main_v68_1
  acs : V (Proc.devRef .tc main_v68_2) = s.main_v68_2
  bc : V (Proc.devRef .tc main_v68_3) = s.main_v68_3
  cc : V (Proc.devRef .tc main_v68_4) = s.main_v68_4
  skip : V (Proc.devRef .tc main_v68_6) = s.main_v68_6
  num : V (Proc.devRef .tc main_v68_7) = constantI S_ 32 (BitVec.ofNat 32 j)
  mask : V (Proc.devRef .tc main_v68_5) = Cert.ReferenceIdeal.Step.K_main_v65 (F := F)

section
variable {V : Valuation τ sig (Elt F)} {s : State F} {j : ℕ}

set_option maxRecDepth 8192 in
theorem carry_step (h : Carries V s j) : step_main_v68_8 V = (step j s).main_v68_8 := by
  unfold step_main_v68_8 res_main_while0b_v90 res_main_while0b_v91 res_main_while0b_v92
  rw [h.carry, h.xdt, h.acs, h.bc, h.num]
  rfl

set_option maxRecDepth 8192 in
theorem ys_step (h : Carries V s j) : step_main_v68_9 V = (step j s).main_v68_9 := by
  unfold step_main_v68_9 res_main_while0b_v90 res_main_while0b_v91 res_main_while0b_v92 res_main_while0b_v93
  rw [h.carry, h.ys, h.xc, h.xdt, h.acs, h.bc, h.cc, h.skip, h.num, h.mask]
  rfl

theorem num_step (h : Carries V s j) : step_main_v68_7 V = constantI S_ 32 (BitVec.ofNat 32 (j + 1)) := by
  unfold step_main_v68_7
  rw [h.num]
  funext i
  show BitVec.ofNat 32 j + 1#32 = BitVec.ofNat 32 (j + 1)
  rw [BitVec.ofNat_add]

theorem Carries.trip (h : Carries V s j) : Carries (STEP V) (step j s) (j + 1) where
  carry := (STEP_main_v68_8 V).trans (carry_step h)
  ys := (STEP_main_v68_9 V).trans (ys_step h)
  num := (STEP_main_v68_7 V).trans (num_step h)
  mask := (STEP_main_v68_5 V).trans h.mask
  xc := (STEP_main_v68_0 V).trans h.xc
  xdt := (STEP_main_v68_1 V).trans h.xdt
  acs := (STEP_main_v68_2 V).trans h.acs
  bc := (STEP_main_v68_3 V).trans h.bc
  cc := (STEP_main_v68_4 V).trans h.cc
  skip := (STEP_main_v68_6 V).trans h.skip

end

/-- The states of the loop: `init` of the arguments, then `step` chunk by chunk. -/
def refIter (a1 : Vec F S16x4096x1536 .f32) (a2 : Vec F S16x4096x128 .f32) (a3 : Vec F S4x1536 .f32)
    (a4 : Vec F S1536 .f32) (a5 a6 a7 : Vec F S16 .f32) : ℕ → State F
  | 0 => init a1 a2 a3 a4 a5 a6 a7
  | n + 1 => step n (refIter a1 a2 a3 a4 a5 a6 a7 n)

variable (m : (ℓ : Loc nD τ sig) → Buf (Elt F) ℓ)

/-- The states of the loop of the memory a run starts from. -/
abbrev iterOf (c : Dev nD) : ℕ → State F :=
  refIter (m ((c.tc : Thread nD τ).loc main_arg1)) (m ((c.tc : Thread nD τ).loc main_arg2))
    (m ((c.tc : Thread nD τ).loc main_arg3)) (m ((c.tc : Thread nD τ).loc main_arg4))
    (m ((c.tc : Thread nD τ).loc main_arg5)) (m ((c.tc : Thread nD τ).loc main_arg6))
    (m ((c.tc : Thread nD τ).loc main_arg7))

set_option maxRecDepth 65536 in
set_option maxHeartbeats 900000 in
theorem carries_entry (c : Dev nD) : Carries (entryContents preI m c) (iterOf m c 0) 0 := by
  constructor <;> (simp only [entryContents, afterL_cons, afterL_nil]; after_reads_simp) <;> rfl

theorem carries_iter (c : Dev nD) (k : ℕ) : Carries (STEP^[k] (entryContents preI m c)) (iterOf m c k) k := by
  induction k with
  | zero => exact carries_entry m c
  | succ k ih => rw [Function.iterate_succ_apply']; exact ih.trip

set_option maxRecDepth 8192 in
/-- The run ends with the result at what `R_main_v88` computes from the state after 32 chunks, and keeps the arguments. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v88)
          = Cert.ReferenceIdeal.Step.R_main_v88 (iterOf m c 32) (m ((c.tc : Thread nD τ).loc main_arg0))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun _ h c => ⟨(h c).1.trans ?_, (h c).2⟩) (Value.run m ρ)
  have hk := carries_iter m c 32
  unfold out_main_v88 Cert.ReferenceIdeal.Step.R_main_v88
  rw [hk.ys, iter_main_arg0 m c 32, iter_main_arg8 m c 32]
  rfl

end Cert.Ssd.RefRun

end
-- ==== Proof.Ssd.Ref.lean ====
/-
  The reference's result: row `l` of chunk `k` of sequence `b` is the sequence's result there.
-/
module

public import proofs.«01_k».proof.Proof.Ssd.RefLoop
public import proofs.«01_k».proof.Proof.Ssd.RefPost
public import proofs.«01_k».proof.Proof.RefRun

@[expose] public section

set_option maxRecDepth 16384

noncomputable section

namespace Cert.Ssd

open Idealize.ShloMosaic Idealize.ShloMosaic.TcCoe Idealize.SL.Sem
open Cert.ReferenceIdeal Cert.ReferenceIdeal.Gen Cert.ReferenceIdeal.Step

section
variable (a0 : FVec Ideal S16x4096x1024 .f32) (a1 : FVec Ideal S16x4096x1536 .f32) (a2 : FVec Ideal S16x4096x128 .f32)
  (a3 : FVec Ideal S4x1536 .f32) (a4 : FVec Ideal S1536 .f32) (a5 a6 a7 : FVec Ideal S16 .f32) (a8 : FVec Ideal S1024 .f32)

theorem rowOf_val (k : Fin 32) (l : Fin 128) : (rowOf k.val l).val = 128 * k.val + l.val := by
  simp only [rowOf]; omega

theorem pad_tap (b : Fin 16) (r : Fin 4096) (ch : Fin 1536) (i j : ℕ) (hij : i + j = 3) (hi : i + r.val < 4099) :
    A_main_v0 (F := Ideal) a1 a2 a3 a4 a5 a6 a7 (ix3 b ⟨i + r.val, hi⟩ ch) = tap (fun r => a1 (ix3 b r ch)) j r.val := by
  rw [pad_at]
  unfold tap
  by_cases h : j ≤ r.val
  · rw [dif_pos (show 3 ≤ i + r.val by omega), if_pos h]
    refine at3 a1 b ?_ rfl
    show i + r.val - 3 = (r.val - j) % 4096
    omega
  · rw [dif_neg (show ¬ 3 ≤ i + r.val by omega), if_neg h]

theorem act_at (b : Fin 16) (k : Fin 32) (l : Fin 128) (ch : Fin 1536) :
    A_main_v33 (F := Ideal) a1 a2 a3 a4 a5 a6 a7 (ix3 b (rowOf k.val l) ch) = act (rArgs a0 a1 a2 a3 a4 a5 a6 a7 a8 b) k.val l ch := by
  rw [silu_at, conv_at, pad_tap _ _ _ _ _ _ _ _ _ _ 0 3 rfl, pad_tap _ _ _ _ _ _ _ _ _ _ 1 2 rfl, pad_tap _ _ _ _ _ _ _ _ _ _ 2 1 rfl,
    pad_tap _ _ _ _ _ _ _ _ _ _ 3 0 rfl, rowOf_val]
  rfl

theorem dtv_at (b : Fin 16) (k : Fin 32) (l : Fin 128) (h : Fin 16) :
    A_main_v42 (F := Ideal) a1 a2 a3 a4 a5 a6 a7 (ix3 b (rowOf k.val l) h) = dtv (rArgs a0 a1 a2 a3 a4 a5 a6 a7 a8 b) k.val l h := dt_at a1 a2 a3 a4 a5 a6 a7 b _ h

theorem dav_at (b : Fin 16) (k : Fin 32) (l : Fin 128) (h : Fin 16) :
    A_main_v54 (F := Ideal) a1 a2 a3 a4 a5 a6 a7 (ix3 b (rowOf k.val l) h) = dav (rArgs a0 a1 a2 a3 a4 a5 a6 a7 a8 b) k.val l h := by
  rw [da_at, dtv_at a0 a1 a2 a3 a4 a5 a6 a7 a8]
  rfl

theorem sums_at (k : Fin 32) (b : Fin 16) (l : Fin 128) (g : Fin 2) (hh : Fin 8) :
    A_main_v57 (F := Ideal) a1 a2 a3 a4 a5 a6 a7 (ix5 k b l g hh) = acs (dav (rArgs a0 a1 a2 a3 a4 a5 a6 a7 a8 b) k.val) l (hdOf g hh) := by
  unfold A_main_v57
  refine (cumsum_at _ _ (fun i => ?_) _ _ k b l g hh).trans ?_
  · obtain rfl : i = ix0 := (ix0_eta i).symm
    pointwise [K_main_call3_call0_v0, K_main_call3_call0_cst]
  · refine Finset.sum_congr rfl fun r _ => ?_
    rw [cdt_at, dav_at a0 a1 a2 a3 a4 a5 a6 a7 a8]

theorem inv_init : Inv (rArgs a0 a1 a2 a3 a4 a5 a6 a7 a8) 0 (init (F := Ideal) a1 a2 a3 a4 a5 a6 a7) where
  xc := fun k b l g hh p => (xc_at a1 a2 a3 a4 a5 a6 a7 k b l g hh p).trans (act_at a0 a1 a2 a3 a4 a5 a6 a7 a8 b k l _)
  xd := fun k b l g hh p => by
    refine (xdt_at a1 a2 a3 a4 a5 a6 a7 k b l g hh p).trans ?_
    rw [act_at a0 a1 a2 a3 a4 a5 a6 a7 a8, dtv_at a0 a1 a2 a3 a4 a5 a6 a7 a8]
    unfold xdt
    rw [hd_ln]
  ac := fun k b l g hh => sums_at a0 a1 a2 a3 a4 a5 a6 a7 a8 k b l g hh
  bc := fun k b l g n => (bc_at a1 a2 a3 a4 a5 a6 a7 k b l g n).trans (act_at a0 a1 a2 a3 a4 a5 a6 a7 a8 b k l _)
  cc := fun k b l g n => (cc_at a1 a2 a3 a4 a5 a6 a7 k b l g n).trans (act_at a0 a1 a2 a3 a4 a5 a6 a7 a8 b k l _)
  d := fun b g hh => d_at a1 a2 a3 a4 a5 a6 a7 g hh
  carry := fun b g hh p i => by
    show K_main_v66 (F := Ideal) (ix5 b g hh p i) = 0
    pointwise [K_main_v66, K_main_cst_1]
  ys := fun k b l g hh p hk => absurd hk (Nat.not_lt_zero _)

theorem inv_iter : ∀ n : ℕ, n ≤ 32 → Inv (rArgs a0 a1 a2 a3 a4 a5 a6 a7 a8) n (RefRun.refIter a1 a2 a3 a4 a5 a6 a7 n)
  | 0, _ => inv_init a0 a1 a2 a3 a4 a5 a6 a7 a8
  | n + 1, h => Inv.next (j := ⟨n, h⟩) (inv_iter n (Nat.le_of_succ_le h))

theorem gated_at {P : Fin 16 → Args} {s : State Ideal} (h : Inv P 32 s) (hz : ∀ b r e, a0 (ix3 b r e) = (P b).z r e)
    (k : Fin 32) (b : Fin 16) (l : Fin 128) (e : Fin 1024) :
    (mulf (flatOf s.main_v68_9) (gateOf a0)) (ix3 b (rowOf k.val l) e)
      = gChunk (act (P b) k.val) (dtv (P b) k.val) (dav (P b) k.val) (P b).d (stateSeq (P b) k.val) (fun l e => (P b).z (rowOf k.val l) e) l e := by
  have he : e = ln ⟨e.val / 512, by omega⟩ ⟨e.val / 64 % 8, by omega⟩ ⟨e.val % 64, by omega⟩ := Fin.ext (by simp only [ln]; omega)
  rw [ValueIdx.mulf_apply, gate_at, hz]
  conv_lhs => rw [he, flat_at, h.ys k _ _ _ _ _ k.isLt, ← he]
  rfl

theorem post_at {P : Fin 16 → Args} {s : State Ideal} (h : Inv P 32 s) (hz : ∀ b r e, a0 (ix3 b r e) = (P b).z r e)
    (hg : ∀ b e, a8 (ix1 e) = (P b).ng e) (k : Fin 32) (b : Fin 16) (l : Fin 128) (e : Fin 1024) :
    R_main_v88 (F := Ideal) s a0 a8 (ix3 b (rowOf k.val l) e) = result (P b) k.val l e := by
  rw [result_eq, scaled_at, norm_at, scale_at]
  simp only [groups_at, gated_at a0 h hz]
  unfold result oChunk
  rw [hg b]
  have he : (⟨512 * (e.val / 512) + e.val % 512, by omega⟩ : Fin 1024) = e := Fin.ext (by show 512 * (e.val / 512) + e.val % 512 = e.val; omega)
  rw [he]
  rfl

end

variable (m : (l : Loc nD τ sig) → Buf (Elt Ideal) l) (c : Dev nD)

/-- Sequence `b`'s operands, from the reference program's arguments. -/
def refArgs (b : Fin 16) : Args :=
  rArgs (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) b

theorem reference_result (b : Fin 16) (k : Fin 32) (l : Fin 128) (e : Fin 1024) :
    R_main_v88 (F := Ideal) (RefRun.iterOf m c 32) (m ((c.tc : Thread nD τ).loc main_arg0)) (m ((c.tc : Thread nD τ).loc main_arg8))
      (ix3 b (rowOf k.val l) e) = result (refArgs m c b) k.val l e :=
  post_at _ _ (P := refArgs m c) (inv_iter _ _ _ _ _ _ _ _ _ 32 le_rfl) (fun _ _ _ => rfl) (fun _ _ => rfl) k b l e

end Cert.Ssd
-- ==== Proof.Ssd.Equal.lean ====
/-
  The recurrence's claim: from memories that agree on the arguments the kernel and the reference end with one result.
-/
module

public import proofs.«01_k».proof.Defs
public import proofs.«01_k».proof.Proof.Ssd.Kernel
public import proofs.«01_k».proof.Proof.Ssd.Ref

@[expose] public section

set_option maxRecDepth 16384

noncomputable section

namespace Cert.Ssd

open Idealize.ShloMosaic Idealize.ShloMosaic.TcCoe Idealize.SL.Sem

variable (m : (l : Loc Cert.KernelIdeal.nD Cert.KernelIdeal.τ Cert.KernelIdeal.sig) → Buf (Elt Ideal) l)
  (m' : (l : Loc Cert.ReferenceIdeal.nD Cert.ReferenceIdeal.τ Cert.ReferenceIdeal.sig) → Buf (Elt Ideal) l)

theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Value.G10 m c, Cert.KernelIdeal.Value.run (F := Ideal) m g, ?_⟩
  refine (θ_run _ _ _).mono (fun _ h c => ⟨(h c).1.trans ?_, (h c).2⟩) (RefRun.run (F := Ideal) m' g')
  obtain ⟨h0, h1, h2, h3, h4, h5, h6, h7, h8⟩ := hagree c
  have hargs : ∀ b, refArgs m' c b = kArgs m c b := by
    intro b
    unfold refArgs
    rw [h0, h1, h2, h3, h4, h5, h6, h7, h8]
    rfl
  funext i
  obtain ⟨b, r, e, rfl⟩ : ∃ (b : Fin 16) (r : Fin 4096) (e : Fin 1024), i = ix3 b r e := ⟨i 0, i 1, i 2, eq_ix3 i⟩
  have hr : r = rowOf (⟨r.val / 128, by omega⟩ : Fin 32).val ⟨r.val % 128, by omega⟩ := Fin.ext (by
    show r.val = (128 * (r.val / 128) + r.val % 128) % 4096
    omega)
  rw [hr]
  refine (reference_result m' c b _ _ e).trans ?_
  rw [hargs b]
  exact (kernel_result m c b _ _ e).symm

end Cert.Ssd
-- ==== Proof.Norm.lean ====
/-
  The layer norm of a row of 1,024 lanes, in plain sums over the extended reals, with the constants as their words read.
-/
module

public import Idealize.ShloMosaic.Lib.Pointwise

@[expose] public section

noncomputable section

namespace Cert.Norm

open Idealize.ShloMosaic

/-- The number of lanes. -/
def lanes : EReal := Ideal.ofBits FTy.f32 0x44800000#32

/-- What is added to the variance. -/
def eps : EReal := Ideal.ofBits FTy.f32 0x3727C5AC#32

/-- The weight of the residual. -/
def alpha : EReal := Ideal.ofBits FTy.f32 0x3F9837F0#32

/-- The mean of a row. -/
def mean (x : Fin 1024 → EReal) : EReal := Ideal.div (∑ e, x e) lanes

/-- The row less its mean. -/
def centred (x : Fin 1024 → EReal) (e : Fin 1024) : EReal := x e - mean x

/-- The row less its mean, over the root of its variance, scaled and shifted. -/
def norm (x g b : Fin 1024 → EReal) (e : Fin 1024) : EReal :=
  centred x e * Ideal.rsqrt (mean (fun i => centred x i * centred x i) + eps) * g e + b e

end Cert.Norm

end
-- ==== Proof.Ffn.Spec.lean ====
/-
  The feed-forward part on one sequence of 4,096 rows, in plain sums over the extended reals: the up-projection, the causal
  convolution of three taps along the rows, the gated product, the down-projection, the residual and the layer norm.
-/
module

public import proofs.«01_k».proof.Proof.Norm
public import proofs.«01_k».proof.Proof.Ssd.RefPre

@[expose] public section

noncomputable section

namespace Cert.Ffn

open Idealize.ShloMosaic
open Cert.Ssd (silu)

/-- Column `n` of the up-projection. -/
def col (n : ℕ) : Fin 5632 := Fin.ofNat 5632 n

/-- Row `n` of the down-projection's matrix. -/
def kin (n : ℕ) : Fin 2816 := Fin.ofNat 2816 n

/-- Row `n` of the sequence. -/
def row (n : ℕ) : Fin 4096 := Fin.ofNat 4096 n

/-- What the part takes, for one sequence. -/
structure Args where
  h : Fin 4096 → Fin 1024 → EReal
  wup : Fin 1024 → Fin 5632 → EReal
  cw : Fin 3 → Fin 5632 → EReal
  cb : Fin 5632 → EReal
  wdn : Fin 2816 → Fin 1024 → EReal
  g : Fin 1024 → EReal
  b : Fin 1024 → EReal

/-- The up-projection `j` rows back, and zero before the sequence. -/
def back (A : Args) (j r : ℕ) (ch : Fin 5632) : EReal :=
  if j ≤ r then ∑ d, A.h (row (r - j)) d * A.wup d ch else 0

/-- The convolution, from the row itself and the two before it. -/
def conv3 (w : Fin 3 → EReal) (b x2 x1 x0 : EReal) : EReal := b + w 2 * x0 + w 1 * x1 + w 0 * x2

/-- The convolution at a row. -/
def conv (A : Args) (r : ℕ) (ch : Fin 5632) : EReal :=
  conv3 (fun k => A.cw k ch) (A.cb ch) (back A 2 r ch) (back A 1 r ch) (back A 0 r ch)

/-- The gated product. -/
def act (A : Args) (r k : ℕ) : EReal := silu (conv A r (col k)) * conv A r (col (2816 + k))

/-- The down-projection. -/
def down (A : Args) (r : ℕ) (e : Fin 1024) : EReal := ∑ k : Fin 2816, act A r k.val * A.wdn (kin k.val) e

/-- A row of the result. -/
def result (A : Args) (r : ℕ) (e : Fin 1024) : EReal :=
  Norm.norm (fun i => Norm.alpha * A.h (row r) i + down A r i) A.g A.b e

end Cert.Ffn

end
-- ==== Proof.Ffn.KernelBuf.lean ====
/-
  The up-projection's buffer: eight rows left by the block before, and below them the block's 512 rows, which are stored
  256 columns at a time.
-/
module

public import proofs.«01_k».proof.Proof.Ffn.Spec
public import proofs.«01_k».proof.Proof.Gen.Kernel2Ideal.Frame
public import Idealize.ShloMosaic.Lib.WritesUnit
public import Idealize.ShloMosaic.Lib.Pipeline.ValueKit
public import Idealize.ShloMosaic.Lib.Pointwise

@[expose] public section

set_option maxRecDepth 16384
set_option maxHeartbeats 1000000

noncomputable section

namespace Cert.Ffn

open Idealize.ShloMosaic Idealize.ShloMosaic.TcCoe Idealize.SL.Sem
open Cert.Kernel2Ideal Cert.Kernel2Ideal.Gen
open Cert.Ssd (silu)

/-- The up-projection of the block. -/
def upB (x0 : Vec Ideal S1x512x1024 .f32) (x1 : Vec Ideal S1024x5632 .bf16) (l : Fin 512) (ch : Fin 5632) : EReal :=
  ∑ d : Fin 1024, x0 (ix3 0 l d) * x1 (ix2 d ch)

/-- Row `r` of the buffer: the block's rows from row 8 on, what was there before above them. -/
def ubuf (halo : ℕ → Fin 5632 → EReal) (x0 : Vec Ideal S1x512x1024 .f32) (x1 : Vec Ideal S1024x5632 .bf16) (r : ℕ) (ch : Fin 5632) : EReal :=
  if 8 ≤ r then upB x0 x1 (Fin.ofNat 512 (r - 8)) ch else halo r ch

/-- That after `L` the buffer holds `U` below row 8 in the columns before `s`, and elsewhere what it holds after `L0`. -/
def Cols {sg : RefSig} {κ : Kind} {sp : Space} (v : View sg κ sp S520x5632 .f32) (f : v.ty.Contents (Elt Ideal)) (U : Fin 512 → Fin 5632 → EReal)
    (L0 L : List (View.Piece (Elt Ideal) S520x5632 .f32)) (s : ℕ) : Prop :=
  ∀ (k : Fin 520) (ch : Fin 5632), v.read (Elt Ideal) (v.writes (Elt Ideal) f L) (ix2 k ch)
    = if 8 ≤ k.val ∧ ch.val < s then U (Fin.ofNat 512 (k.val - 8)) ch else v.read (Elt Ideal) (v.writes (Elt Ideal) f L0) (ix2 k ch)

variable {sg : RefSig} {κ : Kind} {sp : Space} {v : View sg κ sp S520x5632 .f32} {f : v.ty.Contents (Elt Ideal)} {U : Fin 512 → Fin 5632 → EReal}
  {L0 L : List (View.Piece (Elt Ideal) S520x5632 .f32)}

theorem cols_zero : Cols v f U L0 L0 0 := fun k ch => (if_neg (by omega)).symm

/-- The next 256 columns. -/
theorem cols_step (s s' : ℕ) (hs : s' = s + 256) (inb : ∀ a, (![8, s] : Fin 2 → ℕ) a + (![512, 256] : Fin 2 → ℕ) a ≤ S520x5632.size a)
    (w : S512x256.Idx → Elt Ideal .f32) (hw : ∀ (r : Fin 512) (k : Fin 256), w (ix2 r k) = U r (col (s + k.val))) (h : Cols v f U L0 L s) :
    Cols v f U L0 ((⟨Rect.unit ![8, s] ![512, 256] inb, w⟩ : View.Piece (Elt Ideal) S520x5632 .f32) :: L) s' := by
  intro k ch
  have hk := k.isLt
  have hc := ch.isLt
  have hb : s + 256 ≤ 5632 := inb 1
  by_cases h8 : 8 ≤ k.val
  · by_cases h1 : s ≤ ch.val ∧ ch.val < s + 256
    · rw [if_pos ⟨h8, by omega⟩]
      refine (View.read_writes_cons_unit_of_mem v f inb w L _ (ix2 ⟨k.val - 8, by omega⟩ ⟨ch.val - s, by omega⟩) rfl ?_).trans ((hw _ _).trans ?_)
      · refine Fin.forall_fin_two.mpr ⟨?_, ?_⟩
        · show k.val = 8 + (k.val - 8); omega
        · show ch.val = s + (ch.val - s); omega
      · refine congrArg₂ U (Fin.ext ?_) (Fin.ext ?_)
        · show k.val - 8 = (k.val - 8) % 512; omega
        · show (s + (ch.val - s)) % 5632 = ch.val; omega
    · refine (View.read_writes_cons_unit_of_not_mem v f inb w L _ rfl 1 ?_).trans ((h k ch).trans ?_)
      · show ch.val < s ∨ s + 256 ≤ ch.val; omega
      · by_cases h2 : ch.val < s
        · rw [if_pos ⟨h8, h2⟩, if_pos ⟨h8, by omega⟩]
        · rw [if_neg (by omega), if_neg (by omega)]
  · refine (View.read_writes_cons_unit_of_not_mem v f inb w L _ rfl 0 (Or.inl (by show k.val < 8; omega))).trans ((h k ch).trans ?_)
    rw [if_neg (by omega), if_neg (by omega)]

theorem col_mk (n : ℕ) (h : n < 5632) : (⟨n, h⟩ : Fin 5632) = col n := Fin.ext (Nat.mod_eq_of_lt h).symm

theorem kin_mk (n : ℕ) (h : n < 2816) : (⟨n, h⟩ : Fin 2816) = kin n := Fin.ext (Nat.mod_eq_of_lt h).symm

/-- The buffer after all the stores. -/
theorem buf_at (halo : ℕ → Fin 5632 → EReal) (x0 : Vec Ideal S1x512x1024 .f32) (x1 : Vec Ideal S1024x5632 .bf16)
    (h : Cols v f (upB x0 x1) L0 L 5632)
    (hh : ∀ (k : Fin 520) (ch : Fin 5632), k.val < 8 → v.read (Elt Ideal) (v.writes (Elt Ideal) f L0) (ix2 k ch) = halo k.val ch) (r : ℕ) (hr : r < 520)
    (ch : Fin 5632) : v.read (Elt Ideal) (v.writes (Elt Ideal) f L) (ix2 ⟨r, hr⟩ ch) = ubuf halo x0 x1 r ch := by
  refine (h _ ch).trans ?_
  unfold ubuf
  by_cases h8 : 8 ≤ r
  · exact (if_pos ⟨h8, ch.isLt⟩).trans (if_pos h8).symm
  · exact (if_neg (fun h => h8 h.1)).trans ((hh _ _ (Nat.lt_of_not_le h8)).trans (if_neg h8).symm)

/-- The convolution at a row of the block, from the buffer's rows. -/
def convB (rd : ℕ → Fin 5632 → EReal) (x2 : Vec Ideal S3x5632 .f32) (x3 : Vec Ideal S1x5632 .f32) (l : Fin 512) (ch : Fin 5632) : EReal :=
  conv3 (fun k => x2 (ix2 k ch)) (x3 (ix2 0 ch)) (rd (6 + l.val) ch) (rd (7 + l.val) ch) (rd (8 + l.val) ch)

/-- What 256 columns of the gated product, from column `s` on, add to the down-projection. -/
def blkB (rd : ℕ → Fin 5632 → EReal) (x2 : Vec Ideal S3x5632 .f32) (x3 : Vec Ideal S1x5632 .f32) (x4 : Vec Ideal S2816x1024 .bf16)
    (s : ℕ) (l : Fin 512) (e : Fin 1024) : EReal :=
  ∑ k : Fin 256, silu (convB rd x2 x3 l (col (s + k.val))) * convB rd x2 x3 l (col (2816 + s + k.val)) * x4 (ix2 (kin (s + k.val)) e)

/-- The down-projection after `n` such steps. -/
def accB (rd : ℕ → Fin 5632 → EReal) (x2 : Vec Ideal S3x5632 .f32) (x3 : Vec Ideal S1x5632 .f32) (x4 : Vec Ideal S2816x1024 .bf16)
    (l : Fin 512) (e : Fin 1024) : ℕ → EReal
  | 0 => 0
  | n + 1 => accB rd x2 x3 x4 l e n + blkB rd x2 x3 x4 (256 * n) l e

theorem hz2 : (![0, 0] : Fin 2 → ℕ) = 0 := by decide
theorem hz3 : (![0, 0, 0] : Fin 3 → ℕ) = 0 := by decide

theorem readCov_ld {Val : EltTy → Type} [∀ e, Nonempty (Val e)] {sg : RefSig} {κ : Kind} {sp : Space} {s : Shape} {e : EltTy}
    (v : View sg κ sp s e) (L : List (View.Piece Val s e)) (r : Rect s) : v.readCov L r.toLoadRect = View.ld (v.read Val (v.writes Val v.junk L)) r := rfl

/-- Row `k` of the eight above the block. -/
def top8 (k : Fin 8) : Fin 520 := ⟨k.val, by omega⟩

/-- The last eight rows of the buffer copied to its first eight. -/
theorem halo_read {sg : RefSig} {κ : Kind} {sp : Space} (v : View sg κ sp S520x5632 .f32) (f : v.ty.Contents (Elt Ideal))
    (inb : ∀ a, (![0, 0] : Fin 2 → ℕ) a + S8x5632.size a ≤ S520x5632.size a)
    (w : S8x5632.Idx → Elt Ideal .f32) (L : List (View.Piece (Elt Ideal) S520x5632 .f32)) (k : Fin 8) (ch : Fin 5632) :
    v.read (Elt Ideal) (v.writes (Elt Ideal) f ((⟨Rect.unit ![0, 0] S8x5632.size inb, w⟩ : View.Piece (Elt Ideal) S520x5632 .f32) :: L))
      (ix2 (top8 k) ch) = w (ix2 k ch) := by
  refine View.read_writes_cons_unit_of_mem v f inb w L _ (ix2 k ch) rfl ?_
  refine Fin.forall_fin_two.mpr ⟨?_, ?_⟩
  · exact (Nat.zero_add _).symm
  · exact (Nat.zero_add _).symm

/-- A load of eight rows from row 512. -/
theorem ld_last (X : Vec Ideal S520x5632 .f32) (inb : ∀ a, (![512, 0] : Fin 2 → ℕ) a + S8x5632.size a ≤ S520x5632.size a) (k : Fin 8)
    (ch : Fin 5632) : View.ld X (Rect.unit ![512, 0] S8x5632.size inb) (ix2 k ch) = X (ix2 ⟨512 + k.val, by omega⟩ ch) :=
  View.ld_unit_apply_of (S := S520x5632) X ![512, 0] S8x5632.size inb (ix2 k ch) _ (Fin.forall_fin_two.mpr ⟨rfl, (Nat.zero_add _).symm⟩)

theorem p68 (x : Vec Ideal S8x5632 .f32) (k : Fin 8) (ch : Fin 5632) : k0_pay68 x (ix2 k ch) = x (ix2 k ch) := by
  pointwise [k0_pay68]

theorem p2 (k : Fin 8) (ch : Fin 5632) : (k0_pay2 (F := Ideal)) (ix2 k ch) = 0 := by
  pointwise [k0_pay2]

/-- The layer norm of the block's rows, from the rows less their means. -/
theorem p1 (x : Fin 1024 → EReal) (x5 x6 : FVec Ideal S1x1024 .f32) (X : FVec Ideal S512x1024 .f32) (l : Fin 512)
    (hX : ∀ e, X (ix2 l e) = Norm.centred x e) (e : Fin 1024) :
    k0_pay1 (k0_pay69 x5) (k0_pay70 x6) X (ix3 0 l e) = Norm.norm x (fun e => x5 (ix2 0 e)) (fun e => x6 (ix2 0 e)) e := by
  pointwise [k0_pay1, k0_pay69, k0_pay70]
  simp only [hX]
  rfl

end Cert.Ffn

end
-- ==== Proof.Ffn.KernelA.lean ====
/-
  The first block of a sequence: the kernel clears the eight rows above the block, so its convolution starts from rows of
  zeros.
-/
module

public import proofs.«01_k».proof.Proof.Ffn.KernelBuf

@[expose] public section

set_option maxRecDepth 16384
set_option maxHeartbeats 1000000

noncomputable section

namespace Cert.Ffn

open Idealize.ShloMosaic Idealize.ShloMosaic.TcCoe Idealize.SL.Sem
open Cert.Kernel2Ideal Cert.Kernel2Ideal.Gen
open Cert.Ssd (silu)

variable (c : Dev nD) (i : grid0.Coords) (arg2 : Memref sig .tc .vmem S1x512x1024 .f32) (harg2 : arg2.IsWhole)
  (arg3 : Memref sig .tc .vmem S1024x5632 .bf16) (harg3 : arg3.IsWhole) (arg4 : Memref sig .tc .vmem S3x5632 .f32) (harg4 : arg4.IsWhole)
  (arg5 : Memref sig .tc .vmem S1x5632 .f32) (harg5 : arg5.IsWhole) (arg6 : Memref sig .tc .vmem S2816x1024 .bf16) (harg6 : arg6.IsWhole)
  (arg7 : Memref sig .tc .vmem S1x1024 .f32) (harg7 : arg7.IsWhole) (arg8 : Memref sig .tc .vmem S1x1024 .f32) (harg8 : arg8.IsWhole)
  (arg9 : Memref sig .tc .vmem S1x512x1024 .f32) (harg9 : arg9.IsWhole) (arg10 : Memref sig .tc .vmem S520x5632 .f32) (harg10 : arg10.IsWhole)
  (x0 : Vec Ideal S1x512x1024 .f32) (x1 : Vec Ideal S1024x5632 .bf16) (x2 : Vec Ideal S3x5632 .f32) (x3 : Vec Ideal S1x5632 .f32)
  (x4 : Vec Ideal S2816x1024 .bf16) (x5 x6 : Vec Ideal S1x1024 .f32) (hc0 : cond0_0 i)

/-- The buffer after the block's stores. -/
theorem colsA (f : arg10.view.ty.Contents (Elt Ideal)) :
    Cols arg10.view f (upB x0 x1) [(⟨Rect.unit ![0, 0] S8x5632.size inb_S520x5632_S8x5632_0_0, k0_pay2 (F := Ideal)⟩ : View.Piece (Elt Ideal) S520x5632 .f32)]
      (kernelRun0_A.sl.HS0_23 c arg2 harg2 arg3 harg3 x0 x1) 5632 := by
  unfold kernelRun0_A.sl.HS0_23
  simp only [kernelRun0_A.sl.r_1, kernelRun0_A.sl.r_2, kernelRun0_A.sl.r_3, kernelRun0_A.sl.r_4, kernelRun0_A.sl.r_5, View.readAt_eq_ld, harg2.read_unread, harg3.read_unread,
    View.ld_unit_zero (S := S1x512x1024) hz3]
  iterate 22 (refine cols_step _ _ (by rfl) _ _ ?_ ?_; rotate_left)
  · exact cols_zero
  all_goals
    intro r k
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
    simp only [col_mk]
    rfl

/-- The buffer's rows after the block's stores. -/
theorem readA (r : ℕ) (hr : r < 520) (ch : Fin 5632) :
    arg10.view.read (Elt Ideal) (arg10.view.writes (Elt Ideal) arg10.view.junk (kernelRun0_A.sl.HS0_23 c arg2 harg2 arg3 harg3 x0 x1)) (ix2 ⟨r, hr⟩ ch) = ubuf (fun _ _ => 0) x0 x1 r ch :=
  buf_at (fun _ _ => 0) x0 x1 (colsA c arg2 harg2 arg3 harg3 arg10 x0 x1 _)
    (fun k ch hk => (halo_read arg10.view arg10.view.junk inb_S520x5632_S8x5632_0_0 (k0_pay2 (F := Ideal)) [] ⟨k.val, hk⟩ ch).trans (p2 _ _)) r hr ch

/-- What each step adds to the down-projection. -/
theorem stepsA (l : Fin 512) (e : Fin 1024) :
    kernelRun0_A.sl.r_9 c arg2 harg2 arg3 harg3 arg4 harg4 arg5 harg5 arg6 harg6 arg10 x0 x1 x2 x3 x4 (ix2 l e) = 0 + blkB (ubuf (fun _ _ => 0) x0 x1) x2 x3 x4 0 l e
      ∧ kernelRun0_A.sl.r_13 c arg2 harg2 arg3 harg3 arg4 harg4 arg5 harg5 arg6 harg6 arg10 x0 x1 x2 x3 x4 (ix2 l e) = kernelRun0_A.sl.r_9 c arg2 harg2 arg3 harg3 arg4 harg4 arg5 harg5 arg6 harg6 arg10 x0 x1 x2 x3 x4 (ix2 l e) + blkB (ubuf (fun _ _ => 0) x0 x1) x2 x3 x4 256 l e
      ∧ kernelRun0_A.sl.r_16 c arg2 harg2 arg3 harg3 arg4 harg4 arg5 harg5 arg6 harg6 arg10 x0 x1 x2 x3 x4 (ix2 l e) = kernelRun0_A.sl.r_13 c arg2 harg2 arg3 harg3 arg4 harg4 arg5 harg5 arg6 harg6 arg10 x0 x1 x2 x3 x4 (ix2 l e) + blkB (ubuf (fun _ _ => 0) x0 x1) x2 x3 x4 512 l e
      ∧ kernelRun0_A.sl.r_21 c arg2 harg2 arg3 harg3 arg4 harg4 arg5 harg5 arg6 harg6 arg10 x0 x1 x2 x3 x4 (ix2 l e) = kernelRun0_A.sl.r_16 c arg2 harg2 arg3 harg3 arg4 harg4 arg5 harg5 arg6 harg6 arg10 x0 x1 x2 x3 x4 (ix2 l e) + blkB (ubuf (fun _ _ => 0) x0 x1) x2 x3 x4 768 l e
      ∧ kernelRun0_A.sl.r_24 c arg2 harg2 arg3 harg3 arg4 harg4 arg5 harg5 arg6 harg6 arg10 x0 x1 x2 x3 x4 (ix2 l e) = kernelRun0_A.sl.r_21 c arg2 harg2 arg3 harg3 arg4 harg4 arg5 harg5 arg6 harg6 arg10 x0 x1 x2 x3 x4 (ix2 l e) + blkB (ubuf (fun _ _ => 0) x0 x1) x2 x3 x4 1024 l e
      ∧ kernelRun0_A.sl.r_27 c arg2 harg2 arg3 harg3 arg4 harg4 arg5 harg5 arg6 harg6 arg10 x0 x1 x2 x3 x4 (ix2 l e) = kernelRun0_A.sl.r_24 c arg2 harg2 arg3 harg3 arg4 harg4 arg5 harg5 arg6 harg6 arg10 x0 x1 x2 x3 x4 (ix2 l e) + blkB (ubuf (fun _ _ => 0) x0 x1) x2 x3 x4 1280 l e
      ∧ kernelRun0_A.sl.r_30 c arg2 harg2 arg3 harg3 arg4 harg4 arg5 harg5 arg6 harg6 arg10 x0 x1 x2 x3 x4 (ix2 l e) = kernelRun0_A.sl.r_27 c arg2 harg2 arg3 harg3 arg4 harg4 arg5 harg5 arg6 harg6 arg10 x0 x1 x2 x3 x4 (ix2 l e) + blkB (ubuf (fun _ _ => 0) x0 x1) x2 x3 x4 1536 l e
      ∧ kernelRun0_A.sl.r_34 c arg2 harg2 arg3 harg3 arg4 harg4 arg5 harg5 arg6 harg6 arg10 x0 x1 x2 x3 x4 (ix2 l e) = kernelRun0_A.sl.r_30 c arg2 harg2 arg3 harg3 arg4 harg4 arg5 harg5 arg6 harg6 arg10 x0 x1 x2 x3 x4 (ix2 l e) + blkB (ubuf (fun _ _ => 0) x0 x1) x2 x3 x4 1792 l e
      ∧ kernelRun0_A.sl.r_36 c arg2 harg2 arg3 harg3 arg4 harg4 arg5 harg5 arg6 harg6 arg10 x0 x1 x2 x3 x4 (ix2 l e) = kernelRun0_A.sl.r_34 c arg2 harg2 arg3 harg3 arg4 harg4 arg5 harg5 arg6 harg6 arg10 x0 x1 x2 x3 x4 (ix2 l e) + blkB (ubuf (fun _ _ => 0) x0 x1) x2 x3 x4 2048 l e
      ∧ kernelRun0_A.sl.r_42 c arg2 harg2 arg3 harg3 arg4 harg4 arg5 harg5 arg6 harg6 arg10 x0 x1 x2 x3 x4 (ix2 l e) = kernelRun0_A.sl.r_36 c arg2 harg2 arg3 harg3 arg4 harg4 arg5 harg5 arg6 harg6 arg10 x0 x1 x2 x3 x4 (ix2 l e) + blkB (ubuf (fun _ _ => 0) x0 x1) x2 x3 x4 2304 l e := by
  have h8 := fun (l : Fin 512) ch => readA c arg2 harg2 arg3 harg3 arg10 x0 x1 (8 + l.val) (by omega) ch
  have h7 := fun (l : Fin 512) ch => readA c arg2 harg2 arg3 harg3 arg10 x0 x1 (7 + l.val) (by omega) ch
  have h6 := fun (l : Fin 512) ch => readA c arg2 harg2 arg3 harg3 arg10 x0 x1 (6 + l.val) (by omega) ch
  refine ⟨?_, ?_, ?_, ?_, ?_, ?_, ?_, ?_, ?_, ?_⟩
  on_goal 1 => unfold kernelRun0_A.sl.r_9
  on_goal 2 => unfold kernelRun0_A.sl.r_13
  on_goal 3 => unfold kernelRun0_A.sl.r_16
  on_goal 4 => unfold kernelRun0_A.sl.r_21
  on_goal 5 => unfold kernelRun0_A.sl.r_24
  on_goal 6 => unfold kernelRun0_A.sl.r_27
  on_goal 7 => unfold kernelRun0_A.sl.r_30
  on_goal 8 => unfold kernelRun0_A.sl.r_34
  on_goal 9 => unfold kernelRun0_A.sl.r_36
  on_goal 10 => unfold kernelRun0_A.sl.r_42
  all_goals
    simp only [kernelRun0_A.sl.r_6, kernelRun0_A.sl.r_7, kernelRun0_A.sl.r_8, kernelRun0_A.sl.r_10, kernelRun0_A.sl.r_11, kernelRun0_A.sl.r_12, kernelRun0_A.sl.r_14, kernelRun0_A.sl.r_15, kernelRun0_A.sl.r_17, kernelRun0_A.sl.r_18, kernelRun0_A.sl.r_19, kernelRun0_A.sl.r_20, kernelRun0_A.sl.r_22, kernelRun0_A.sl.r_23, kernelRun0_A.sl.r_25, kernelRun0_A.sl.r_26, kernelRun0_A.sl.r_28, kernelRun0_A.sl.r_29, kernelRun0_A.sl.r_31, kernelRun0_A.sl.r_32, kernelRun0_A.sl.r_33, kernelRun0_A.sl.r_35, kernelRun0_A.sl.r_37, kernelRun0_A.sl.r_38, kernelRun0_A.sl.r_39, kernelRun0_A.sl.r_40, kernelRun0_A.sl.r_41, kernelRun0_A.sl.r_43, kernelRun0_A.sl.r_44, kernelRun0_A.sl.r_45, kernelRun0_A.sl.v142, kernelRun0_A.sl.v148, kernelRun0_A.sl.v153, kernelRun0_A.sl.v166, kernelRun0_A.sl.v172, kernelRun0_A.sl.v177, kernelRun0_A.sl.v190, kernelRun0_A.sl.v196, kernelRun0_A.sl.v201, kernelRun0_A.sl.v214, kernelRun0_A.sl.v220, kernelRun0_A.sl.v225, kernelRun0_A.sl.v238, kernelRun0_A.sl.v244, kernelRun0_A.sl.v249, kernelRun0_A.sl.v262, kernelRun0_A.sl.v268, kernelRun0_A.sl.v273, kernelRun0_A.sl.v286, kernelRun0_A.sl.v292, kernelRun0_A.sl.v297, kernelRun0_A.sl.v310, kernelRun0_A.sl.v316, kernelRun0_A.sl.v321, kernelRun0_A.sl.v334, kernelRun0_A.sl.v340, kernelRun0_A.sl.v345, kernelRun0_A.sl.v358, kernelRun0_A.sl.v364, kernelRun0_A.sl.v369, kernelRun0_A.sl.v382, kernelRun0_A.sl.v388, kernelRun0_A.sl.v393, kernelRun0_A.sl.v406, kernelRun0_A.sl.v412, kernelRun0_A.sl.v417, kernelRun0_A.sl.v430, kernelRun0_A.sl.v436, kernelRun0_A.sl.v441, kernelRun0_A.sl.v454, kernelRun0_A.sl.v460, kernelRun0_A.sl.v465, kernelRun0_A.sl.v478, kernelRun0_A.sl.v484, kernelRun0_A.sl.v489, kernelRun0_A.sl.v502, kernelRun0_A.sl.v508, kernelRun0_A.sl.v513, kernelRun0_A.sl.v526, kernelRun0_A.sl.v532, kernelRun0_A.sl.v537, kernelRun0_A.sl.v550, kernelRun0_A.sl.v556, kernelRun0_A.sl.v561, kernelRun0_A.sl.v574, kernelRun0_A.sl.v580, kernelRun0_A.sl.v585, kernelRun0_A.sl.v598, kernelRun0_A.sl.v604, kernelRun0_A.sl.v609, kernelRun0_A.sl.v622, kernelRun0_A.sl.v628, kernelRun0_A.sl.v633, kernelRun0_A.sl.v646, kernelRun0_A.sl.v652, kernelRun0_A.sl.v657,
      readCov_ld, View.readAt_eq_ld, harg4.read_unread, harg5.read_unread, harg6.read_unread]
    pointwise [k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
    simp only [h8, h7, h6, col_mk, kin_mk]
    rfl

/-- The down-projection after ten steps. -/
theorem tenA (l : Fin 512) (e : Fin 1024) : kernelRun0_A.sl.r_42 c arg2 harg2 arg3 harg3 arg4 harg4 arg5 harg5 arg6 harg6 arg10 x0 x1 x2 x3 x4 (ix2 l e) = accB (ubuf (fun _ _ => 0) x0 x1) x2 x3 x4 l e 10 := by
  obtain ⟨h0, h1, h2, h3, h4, h5, h6, h7, h8, h9⟩ := stepsA c arg2 harg2 arg3 harg3 arg4 harg4 arg5 harg5 arg6 harg6 arg10 x0 x1 x2 x3 x4 l e
  rw [h9, h8, h7, h6, h5, h4, h3, h2, h1, h0]
  rfl

/-- The rows less their means. -/
theorem centredA (l : Fin 512) (e : Fin 1024) : kernelRun0_A.sl.r_48 c arg2 harg2 arg3 harg3 arg4 harg4 arg5 harg5 arg6 harg6 arg10 x0 x1 x2 x3 x4 (ix2 l e)
    = Norm.centred (fun i => Norm.alpha * x0 (ix3 0 l i) + accB (ubuf (fun _ _ => 0) x0 x1) x2 x3 x4 l i 11) e := by
  have h8 := fun (l : Fin 512) ch => readA c arg2 harg2 arg3 harg3 arg10 x0 x1 (8 + l.val) (by omega) ch
  have h7 := fun (l : Fin 512) ch => readA c arg2 harg2 arg3 harg3 arg10 x0 x1 (7 + l.val) (by omega) ch
  have h6 := fun (l : Fin 512) ch => readA c arg2 harg2 arg3 harg3 arg10 x0 x1 (6 + l.val) (by omega) ch
  have h10 := tenA c arg2 harg2 arg3 harg3 arg4 harg4 arg5 harg5 arg6 harg6 arg10 x0 x1 x2 x3 x4
  unfold kernelRun0_A.sl.r_48
  simp only [kernelRun0_A.sl.r, kernelRun0_A.sl.r_6, kernelRun0_A.sl.r_7, kernelRun0_A.sl.r_8, kernelRun0_A.sl.r_10, kernelRun0_A.sl.r_11, kernelRun0_A.sl.r_12, kernelRun0_A.sl.r_14, kernelRun0_A.sl.r_15, kernelRun0_A.sl.r_17, kernelRun0_A.sl.r_18, kernelRun0_A.sl.r_19, kernelRun0_A.sl.r_20, kernelRun0_A.sl.r_22, kernelRun0_A.sl.r_23, kernelRun0_A.sl.r_25, kernelRun0_A.sl.r_26, kernelRun0_A.sl.r_28, kernelRun0_A.sl.r_29, kernelRun0_A.sl.r_31, kernelRun0_A.sl.r_32, kernelRun0_A.sl.r_33, kernelRun0_A.sl.r_35, kernelRun0_A.sl.r_37, kernelRun0_A.sl.r_38, kernelRun0_A.sl.r_39, kernelRun0_A.sl.r_40, kernelRun0_A.sl.r_41, kernelRun0_A.sl.r_43, kernelRun0_A.sl.r_44, kernelRun0_A.sl.r_45, kernelRun0_A.sl.v142, kernelRun0_A.sl.v148, kernelRun0_A.sl.v153, kernelRun0_A.sl.v166, kernelRun0_A.sl.v172, kernelRun0_A.sl.v177, kernelRun0_A.sl.v190, kernelRun0_A.sl.v196, kernelRun0_A.sl.v201, kernelRun0_A.sl.v214, kernelRun0_A.sl.v220, kernelRun0_A.sl.v225, kernelRun0_A.sl.v238, kernelRun0_A.sl.v244, kernelRun0_A.sl.v249, kernelRun0_A.sl.v262, kernelRun0_A.sl.v268, kernelRun0_A.sl.v273, kernelRun0_A.sl.v286, kernelRun0_A.sl.v292, kernelRun0_A.sl.v297, kernelRun0_A.sl.v310, kernelRun0_A.sl.v316, kernelRun0_A.sl.v321, kernelRun0_A.sl.v334, kernelRun0_A.sl.v340, kernelRun0_A.sl.v345, kernelRun0_A.sl.v358, kernelRun0_A.sl.v364, kernelRun0_A.sl.v369, kernelRun0_A.sl.v382, kernelRun0_A.sl.v388, kernelRun0_A.sl.v393, kernelRun0_A.sl.v406, kernelRun0_A.sl.v412, kernelRun0_A.sl.v417, kernelRun0_A.sl.v430, kernelRun0_A.sl.v436, kernelRun0_A.sl.v441, kernelRun0_A.sl.v454, kernelRun0_A.sl.v460, kernelRun0_A.sl.v465, kernelRun0_A.sl.v478, kernelRun0_A.sl.v484, kernelRun0_A.sl.v489, kernelRun0_A.sl.v502, kernelRun0_A.sl.v508, kernelRun0_A.sl.v513, kernelRun0_A.sl.v526, kernelRun0_A.sl.v532, kernelRun0_A.sl.v537, kernelRun0_A.sl.v550, kernelRun0_A.sl.v556, kernelRun0_A.sl.v561, kernelRun0_A.sl.v574, kernelRun0_A.sl.v580, kernelRun0_A.sl.v585, kernelRun0_A.sl.v598, kernelRun0_A.sl.v604, kernelRun0_A.sl.v609, kernelRun0_A.sl.v622, kernelRun0_A.sl.v628, kernelRun0_A.sl.v633, kernelRun0_A.sl.v646, kernelRun0_A.sl.v652, kernelRun0_A.sl.v657,
    readCov_ld, View.readAt_eq_ld, harg2.read_unread, harg4.read_unread, harg5.read_unread, harg6.read_unread, View.ld_unit_zero (S := S1x512x1024) hz3]
  pointwise [k0_pay3, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay71]
  simp only [h10, h8, h7, h6, col_mk, kin_mk]
  rfl

/-- The block's rows of the result. -/
theorem outA (l : Fin 512) (e : Fin 1024) :
    out0_A_7 c i arg2 harg2 arg3 harg3 arg4 harg4 arg5 harg5 arg6 harg6 arg7 harg7 arg8 harg8 arg9 harg9 arg10 harg10 hc0 x0 x1 x2 x3 x4 x5 x6 (ix3 0 l e)
      = Norm.norm (fun i => Norm.alpha * x0 (ix3 0 l i) + accB (ubuf (fun _ _ => 0) x0 x1) x2 x3 x4 l i 11) (fun e => x5 (ix2 0 e)) (fun e => x6 (ix2 0 e)) e := by
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2 x3 x4 x5 x6)]
  unfold kernelRun0_A
  dsimp only
  rw [View.canon_cons_unit_lit (h := by decide)]
  simp only [kernelRun0_A.sl.r_46, kernelRun0_A.sl.r_47, harg7.read_unread, harg8.read_unread, View.readAt_eq_ld, View.ld_unit_zero (S := S1x1024) hz2]
  exact p1 _ _ _ _ l (centredA c arg2 harg2 arg3 harg3 arg4 harg4 arg5 harg5 arg6 harg6 arg10 x0 x1 x2 x3 x4 l) e

/-- The rows that the block leaves for the next one's convolution. -/
theorem haloA (k : Fin 8) (ch : Fin 5632) :
    sout0_A_0 c i arg2 harg2 arg3 harg3 arg4 harg4 arg5 harg5 arg6 harg6 arg7 harg7 arg8 harg8 arg9 harg9 arg10 harg10 hc0 x0 x1 x2 x3 x4 x5 x6 (ix2 (top8 k) ch) = ubuf (fun _ _ => 0) x0 x1 (512 + k.val) ch := by
  unfold sout0_A_0 kernelRun0_A
  dsimp only
  simp only [kernelRun0_A.sl.v667, readCov_ld]
  refine (halo_read _ _ _ _ _ k ch).trans ?_
  rw [p68, ld_last]
  exact readA c arg2 harg2 arg3 harg3 arg10 x0 x1 (512 + k.val) (by omega) ch

end Cert.Ffn

end
-- ==== Proof.Ffn.KernelB.lean ====
/-
  A later block of a sequence: its convolution starts from the eight rows that the block before left above it.
-/
module

public import proofs.«01_k».proof.Proof.Ffn.KernelBuf

@[expose] public section

set_option maxRecDepth 16384
set_option maxHeartbeats 1000000

noncomputable section

namespace Cert.Ffn

open Idealize.ShloMosaic Idealize.ShloMosaic.TcCoe Idealize.SL.Sem
open Cert.Kernel2Ideal Cert.Kernel2Ideal.Gen
open Cert.Ssd (silu)

variable (c : Dev nD) (i : grid0.Coords) (arg2 : Memref sig .tc .vmem S1x512x1024 .f32) (harg2 : arg2.IsWhole)
  (arg3 : Memref sig .tc .vmem S1024x5632 .bf16) (harg3 : arg3.IsWhole) (arg4 : Memref sig .tc .vmem S3x5632 .f32) (harg4 : arg4.IsWhole)
  (arg5 : Memref sig .tc .vmem S1x5632 .f32) (harg5 : arg5.IsWhole) (arg6 : Memref sig .tc .vmem S2816x1024 .bf16) (harg6 : arg6.IsWhole)
  (arg7 : Memref sig .tc .vmem S1x1024 .f32) (harg7 : arg7.IsWhole) (arg8 : Memref sig .tc .vmem S1x1024 .f32) (harg8 : arg8.IsWhole)
  (arg9 : Memref sig .tc .vmem S1x512x1024 .f32) (harg9 : arg9.IsWhole) (arg10 : Memref sig .tc .vmem S520x5632 .f32) (harg10 : arg10.IsWhole)
  (x0 : Vec Ideal S1x512x1024 .f32) (x1 : Vec Ideal S1024x5632 .bf16) (x2 : Vec Ideal S3x5632 .f32) (x3 : Vec Ideal S1x5632 .f32)
  (x4 : Vec Ideal S2816x1024 .bf16) (x5 x6 : Vec Ideal S1x1024 .f32) (hc0 : ¬cond0_0 i) (xs0 : Vec Ideal S520x5632 .f32)

/-- The buffer after the block's stores. -/
theorem colsB (f : arg10.view.ty.Contents (Elt Ideal)) :
    Cols arg10.view f (upB x0 x1) []
      (kernelRun0_B.sl.HS0_22 c arg2 harg2 arg3 harg3 x0 x1) 5632 := by
  unfold kernelRun0_B.sl.HS0_22
  simp only [kernelRun0_B.sl.r_1, kernelRun0_B.sl.r_2, kernelRun0_B.sl.r_3, kernelRun0_B.sl.r_4, kernelRun0_B.sl.r_5, View.readAt_eq_ld, harg2.read_unread, harg3.read_unread,
    View.ld_unit_zero (S := S1x512x1024) hz3]
  iterate 22 (refine cols_step _ _ (by rfl) _ _ ?_ ?_; rotate_left)
  · exact cols_zero
  all_goals
    intro r k
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
    simp only [col_mk]
    rfl

/-- The buffer's rows after the block's stores. -/
theorem readB (r : ℕ) (hr : r < 520) (ch : Fin 5632) :
    arg10.view.read (Elt Ideal) (arg10.view.writes (Elt Ideal) (harg10.unread xs0) (kernelRun0_B.sl.HS0_22 c arg2 harg2 arg3 harg3 x0 x1)) (ix2 ⟨r, hr⟩ ch) = ubuf (fun r ch => xs0 (ix2 (Fin.ofNat 520 r) ch)) x0 x1 r ch :=
  buf_at (fun r ch => xs0 (ix2 (Fin.ofNat 520 r) ch)) x0 x1 (colsB c arg2 harg2 arg3 harg3 arg10 x0 x1 _)
    (fun k ch hk => (congrFun (harg10.read_unread xs0) (ix2 k ch)).trans (congrArg (fun r => xs0 (ix2 r ch)) (Fin.ext (Nat.mod_eq_of_lt k.isLt).symm))) r hr ch

/-- The block's own rows, whatever the buffer held. -/
theorem lowB (r : ℕ) (hr : r < 520) (h8 : 8 ≤ r) (ch : Fin 5632) :
    arg10.view.read (Elt Ideal) (arg10.view.writes (Elt Ideal) arg10.view.junk (kernelRun0_B.sl.HS0_22 c arg2 harg2 arg3 harg3 x0 x1)) (ix2 ⟨r, hr⟩ ch) = ubuf (fun r ch => xs0 (ix2 (Fin.ofNat 520 r) ch)) x0 x1 r ch :=
  (colsB c arg2 harg2 arg3 harg3 arg10 x0 x1 _ ⟨r, hr⟩ ch).trans ((if_pos ⟨h8, ch.isLt⟩).trans (if_pos h8).symm)

/-- What each step adds to the down-projection. -/
theorem stepsB (l : Fin 512) (e : Fin 1024) :
    kernelRun0_B.sl.r_10 c arg2 harg2 arg3 harg3 arg4 harg4 arg5 harg5 arg6 harg6 arg10 harg10 x0 x1 x2 x3 x4 xs0 (ix2 l e) = 0 + blkB (ubuf (fun r ch => xs0 (ix2 (Fin.ofNat 520 r) ch)) x0 x1) x2 x3 x4 0 l e
      ∧ kernelRun0_B.sl.r_14 c arg2 harg2 arg3 harg3 arg4 harg4 arg5 harg5 arg6 harg6 arg10 harg10 x0 x1 x2 x3 x4 xs0 (ix2 l e) = kernelRun0_B.sl.r_10 c arg2 harg2 arg3 harg3 arg4 harg4 arg5 harg5 arg6 harg6 arg10 harg10 x0 x1 x2 x3 x4 xs0 (ix2 l e) + blkB (ubuf (fun r ch => xs0 (ix2 (Fin.ofNat 520 r) ch)) x0 x1) x2 x3 x4 256 l e
      ∧ kernelRun0_B.sl.r_17 c arg2 harg2 arg3 harg3 arg4 harg4 arg5 harg5 arg6 harg6 arg10 harg10 x0 x1 x2 x3 x4 xs0 (ix2 l e) = kernelRun0_B.sl.r_14 c arg2 harg2 arg3 harg3 arg4 harg4 arg5 harg5 arg6 harg6 arg10 harg10 x0 x1 x2 x3 x4 xs0 (ix2 l e) + blkB (ubuf (fun r ch => xs0 (ix2 (Fin.ofNat 520 r) ch)) x0 x1) x2 x3 x4 512 l e
      ∧ kernelRun0_B.sl.r_22 c arg2 harg2 arg3 harg3 arg4 harg4 arg5 harg5 arg6 harg6 arg10 harg10 x0 x1 x2 x3 x4 xs0 (ix2 l e) = kernelRun0_B.sl.r_17 c arg2 harg2 arg3 harg3 arg4 harg4 arg5 harg5 arg6 harg6 arg10 harg10 x0 x1 x2 x3 x4 xs0 (ix2 l e) + blkB (ubuf (fun r ch => xs0 (ix2 (Fin.ofNat 520 r) ch)) x0 x1) x2 x3 x4 768 l e
      ∧ kernelRun0_B.sl.r_25 c arg2 harg2 arg3 harg3 arg4 harg4 arg5 harg5 arg6 harg6 arg10 harg10 x0 x1 x2 x3 x4 xs0 (ix2 l e) = kernelRun0_B.sl.r_22 c arg2 harg2 arg3 harg3 arg4 harg4 arg5 harg5 arg6 harg6 arg10 harg10 x0 x1 x2 x3 x4 xs0 (ix2 l e) + blkB (ubuf (fun r ch => xs0 (ix2 (Fin.ofNat 520 r) ch)) x0 x1) x2 x3 x4 1024 l e
      ∧ kernelRun0_B.sl.r_28 c arg2 harg2 arg3 harg3 arg4 harg4 arg5 harg5 arg6 harg6 arg10 harg10 x0 x1 x2 x3 x4 xs0 (ix2 l e) = kernelRun0_B.sl.r_25 c arg2 harg2 arg3 harg3 arg4 harg4 arg5 harg5 arg6 harg6 arg10 harg10 x0 x1 x2 x3 x4 xs0 (ix2 l e) + blkB (ubuf (fun r ch => xs0 (ix2 (Fin.ofNat 520 r) ch)) x0 x1) x2 x3 x4 1280 l e
      ∧ kernelRun0_B.sl.r_31 c arg2 harg2 arg3 harg3 arg4 harg4 arg5 harg5 arg6 harg6 arg10 harg10 x0 x1 x2 x3 x4 xs0 (ix2 l e) = kernelRun0_B.sl.r_28 c arg2 harg2 arg3 harg3 arg4 harg4 arg5 harg5 arg6 harg6 arg10 harg10 x0 x1 x2 x3 x4 xs0 (ix2 l e) + blkB (ubuf (fun r ch => xs0 (ix2 (Fin.ofNat 520 r) ch)) x0 x1) x2 x3 x4 1536 l e
      ∧ kernelRun0_B.sl.r_35 c arg2 harg2 arg3 harg3 arg4 harg4 arg5 harg5 arg6 harg6 arg10 harg10 x0 x1 x2 x3 x4 xs0 (ix2 l e) = kernelRun0_B.sl.r_31 c arg2 harg2 arg3 harg3 arg4 harg4 arg5 harg5 arg6 harg6 arg10 harg10 x0 x1 x2 x3 x4 xs0 (ix2 l e) + blkB (ubuf (fun r ch => xs0 (ix2 (Fin.ofNat 520 r) ch)) x0 x1) x2 x3 x4 1792 l e
      ∧ kernelRun0_B.sl.r_37 c arg2 harg2 arg3 harg3 arg4 harg4 arg5 harg5 arg6 harg6 arg10 harg10 x0 x1 x2 x3 x4 xs0 (ix2 l e) = kernelRun0_B.sl.r_35 c arg2 harg2 arg3 harg3 arg4 harg4 arg5 harg5 arg6 harg6 arg10 harg10 x0 x1 x2 x3 x4 xs0 (ix2 l e) + blkB (ubuf (fun r ch => xs0 (ix2 (Fin.ofNat 520 r) ch)) x0 x1) x2 x3 x4 2048 l e
      ∧ kernelRun0_B.sl.r_43 c arg2 harg2 arg3 harg3 arg4 harg4 arg5 harg5 arg6 harg6 arg10 harg10 x0 x1 x2 x3 x4 xs0 (ix2 l e) = kernelRun0_B.sl.r_37 c arg2 harg2 arg3 harg3 arg4 harg4 arg5 harg5 arg6 harg6 arg10 harg10 x0 x1 x2 x3 x4 xs0 (ix2 l e) + blkB (ubuf (fun r ch => xs0 (ix2 (Fin.ofNat 520 r) ch)) x0 x1) x2 x3 x4 2304 l e := by
  have h8 := fun (l : Fin 512) ch => lowB c arg2 harg2 arg3 harg3 arg10 x0 x1 xs0 (8 + l.val) (by omega) (by omega) ch
  have h7 := fun (l : Fin 512) ch => readB c arg2 harg2 arg3 harg3 arg10 harg10 x0 x1 xs0 (7 + l.val) (by omega) ch
  have h6 := fun (l : Fin 512) ch => readB c arg2 harg2 arg3 harg3 arg10 harg10 x0 x1 xs0 (6 + l.val) (by omega) ch
  refine ⟨?_, ?_, ?_, ?_, ?_, ?_, ?_, ?_, ?_, ?_⟩
  on_goal 1 => unfold kernelRun0_B.sl.r_10
  on_goal 2 => unfold kernelRun0_B.sl.r_14
  on_goal 3 => unfold kernelRun0_B.sl.r_17
  on_goal 4 => unfold kernelRun0_B.sl.r_22
  on_goal 5 => unfold kernelRun0_B.sl.r_25
  on_goal 6 => unfold kernelRun0_B.sl.r_28
  on_goal 7 => unfold kernelRun0_B.sl.r_31
  on_goal 8 => unfold kernelRun0_B.sl.r_35
  on_goal 9 => unfold kernelRun0_B.sl.r_37
  on_goal 10 => unfold kernelRun0_B.sl.r_43
  all_goals
    simp only [kernelRun0_B.sl.r_6, kernelRun0_B.sl.r_7, kernelRun0_B.sl.r_8, kernelRun0_B.sl.r_9, kernelRun0_B.sl.r_11, kernelRun0_B.sl.r_12, kernelRun0_B.sl.r_13, kernelRun0_B.sl.r_15, kernelRun0_B.sl.r_16, kernelRun0_B.sl.r_18, kernelRun0_B.sl.r_19, kernelRun0_B.sl.r_20, kernelRun0_B.sl.r_21, kernelRun0_B.sl.r_23, kernelRun0_B.sl.r_24, kernelRun0_B.sl.r_26, kernelRun0_B.sl.r_27, kernelRun0_B.sl.r_29, kernelRun0_B.sl.r_30, kernelRun0_B.sl.r_32, kernelRun0_B.sl.r_33, kernelRun0_B.sl.r_34, kernelRun0_B.sl.r_36, kernelRun0_B.sl.r_38, kernelRun0_B.sl.r_39, kernelRun0_B.sl.r_40, kernelRun0_B.sl.r_41, kernelRun0_B.sl.r_42, kernelRun0_B.sl.r_44, kernelRun0_B.sl.r_45, kernelRun0_B.sl.r_46, kernelRun0_B.sl.v142, kernelRun0_B.sl.v166, kernelRun0_B.sl.v190, kernelRun0_B.sl.v214, kernelRun0_B.sl.v238, kernelRun0_B.sl.v262, kernelRun0_B.sl.v286, kernelRun0_B.sl.v310, kernelRun0_B.sl.v334, kernelRun0_B.sl.v358, kernelRun0_B.sl.v382, kernelRun0_B.sl.v406, kernelRun0_B.sl.v430, kernelRun0_B.sl.v454, kernelRun0_B.sl.v478, kernelRun0_B.sl.v502, kernelRun0_B.sl.v526, kernelRun0_B.sl.v550, kernelRun0_B.sl.v574, kernelRun0_B.sl.v598, kernelRun0_B.sl.v622, kernelRun0_B.sl.v646,
      readCov_ld, View.readAt_eq_ld, harg4.read_unread, harg5.read_unread, harg6.read_unread]
    pointwise [k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
    simp only [h8, h7, h6, col_mk, kin_mk]
    rfl

/-- The down-projection after ten steps. -/
theorem tenB (l : Fin 512) (e : Fin 1024) : kernelRun0_B.sl.r_43 c arg2 harg2 arg3 harg3 arg4 harg4 arg5 harg5 arg6 harg6 arg10 harg10 x0 x1 x2 x3 x4 xs0 (ix2 l e) = accB (ubuf (fun r ch => xs0 (ix2 (Fin.ofNat 520 r) ch)) x0 x1) x2 x3 x4 l e 10 := by
  obtain ⟨h0, h1, h2, h3, h4, h5, h6, h7, h8, h9⟩ := stepsB c arg2 harg2 arg3 harg3 arg4 harg4 arg5 harg5 arg6 harg6 arg10 harg10 x0 x1 x2 x3 x4 xs0 l e
  rw [h9, h8, h7, h6, h5, h4, h3, h2, h1, h0]
  rfl

/-- The rows less their means. -/
theorem centredB (l : Fin 512) (e : Fin 1024) : kernelRun0_B.sl.r_49 c arg2 harg2 arg3 harg3 arg4 harg4 arg5 harg5 arg6 harg6 arg10 harg10 x0 x1 x2 x3 x4 xs0 (ix2 l e)
    = Norm.centred (fun i => Norm.alpha * x0 (ix3 0 l i) + accB (ubuf (fun r ch => xs0 (ix2 (Fin.ofNat 520 r) ch)) x0 x1) x2 x3 x4 l i 11) e := by
  have h8 := fun (l : Fin 512) ch => lowB c arg2 harg2 arg3 harg3 arg10 x0 x1 xs0 (8 + l.val) (by omega) (by omega) ch
  have h7 := fun (l : Fin 512) ch => readB c arg2 harg2 arg3 harg3 arg10 harg10 x0 x1 xs0 (7 + l.val) (by omega) ch
  have h6 := fun (l : Fin 512) ch => readB c arg2 harg2 arg3 harg3 arg10 harg10 x0 x1 xs0 (6 + l.val) (by omega) ch
  have h10 := tenB c arg2 harg2 arg3 harg3 arg4 harg4 arg5 harg5 arg6 harg6 arg10 harg10 x0 x1 x2 x3 x4 xs0
  unfold kernelRun0_B.sl.r_49
  simp only [kernelRun0_B.sl.r, kernelRun0_B.sl.r_6, kernelRun0_B.sl.r_7, kernelRun0_B.sl.r_8, kernelRun0_B.sl.r_9, kernelRun0_B.sl.r_11, kernelRun0_B.sl.r_12, kernelRun0_B.sl.r_13, kernelRun0_B.sl.r_15, kernelRun0_B.sl.r_16, kernelRun0_B.sl.r_18, kernelRun0_B.sl.r_19, kernelRun0_B.sl.r_20, kernelRun0_B.sl.r_21, kernelRun0_B.sl.r_23, kernelRun0_B.sl.r_24, kernelRun0_B.sl.r_26, kernelRun0_B.sl.r_27, kernelRun0_B.sl.r_29, kernelRun0_B.sl.r_30, kernelRun0_B.sl.r_32, kernelRun0_B.sl.r_33, kernelRun0_B.sl.r_34, kernelRun0_B.sl.r_36, kernelRun0_B.sl.r_38, kernelRun0_B.sl.r_39, kernelRun0_B.sl.r_40, kernelRun0_B.sl.r_41, kernelRun0_B.sl.r_42, kernelRun0_B.sl.r_44, kernelRun0_B.sl.r_45, kernelRun0_B.sl.r_46, kernelRun0_B.sl.v142, kernelRun0_B.sl.v166, kernelRun0_B.sl.v190, kernelRun0_B.sl.v214, kernelRun0_B.sl.v238, kernelRun0_B.sl.v262, kernelRun0_B.sl.v286, kernelRun0_B.sl.v310, kernelRun0_B.sl.v334, kernelRun0_B.sl.v358, kernelRun0_B.sl.v382, kernelRun0_B.sl.v406, kernelRun0_B.sl.v430, kernelRun0_B.sl.v454, kernelRun0_B.sl.v478, kernelRun0_B.sl.v502, kernelRun0_B.sl.v526, kernelRun0_B.sl.v550, kernelRun0_B.sl.v574, kernelRun0_B.sl.v598, kernelRun0_B.sl.v622, kernelRun0_B.sl.v646,
    readCov_ld, View.readAt_eq_ld, harg2.read_unread, harg4.read_unread, harg5.read_unread, harg6.read_unread, View.ld_unit_zero (S := S1x512x1024) hz3]
  pointwise [k0_pay3, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay71]
  simp only [h10, h8, h7, h6, col_mk, kin_mk]
  rfl

/-- The block's rows of the result. -/
theorem outB (l : Fin 512) (e : Fin 1024) :
    out0_B_7 c i arg2 harg2 arg3 harg3 arg4 harg4 arg5 harg5 arg6 harg6 arg7 harg7 arg8 harg8 arg9 harg9 arg10 harg10 hc0 x0 x1 x2 x3 x4 x5 x6 xs0 (ix3 0 l e)
      = Norm.norm (fun i => Norm.alpha * x0 (ix3 0 l i) + accB (ubuf (fun r ch => xs0 (ix2 (Fin.ofNat 520 r) ch)) x0 x1) x2 x3 x4 l i 11) (fun e => x5 (ix2 0 e)) (fun e => x6 (ix2 0 e)) e := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 x3 x4 x5 x6 xs0)]
  unfold kernelRun0_B
  dsimp only
  rw [View.canon_cons_unit_lit (h := by decide)]
  simp only [kernelRun0_B.sl.r_47, kernelRun0_B.sl.r_48, harg7.read_unread, harg8.read_unread, View.readAt_eq_ld, View.ld_unit_zero (S := S1x1024) hz2]
  exact p1 _ _ _ _ l (centredB c arg2 harg2 arg3 harg3 arg4 harg4 arg5 harg5 arg6 harg6 arg10 harg10 x0 x1 x2 x3 x4 xs0 l) e

/-- The rows that the block leaves for the next one's convolution. -/
theorem haloB (k : Fin 8) (ch : Fin 5632) :
    sout0_B_0 c i arg2 harg2 arg3 harg3 arg4 harg4 arg5 harg5 arg6 harg6 arg7 harg7 arg8 harg8 arg9 harg9 arg10 harg10 hc0 x0 x1 x2 x3 x4 x5 x6 xs0 (ix2 (top8 k) ch) = ubuf (fun r ch => xs0 (ix2 (Fin.ofNat 520 r) ch)) x0 x1 (512 + k.val) ch := by
  unfold sout0_B_0 kernelRun0_B
  dsimp only
  simp only [kernelRun0_B.sl.v667, readCov_ld]
  refine (halo_read _ _ _ _ _ k ch).trans ?_
  rw [p68, ld_last]
  exact lowB c arg2 harg2 arg3 harg3 arg10 x0 x1 xs0 (512 + k.val) (by omega) (by omega) ch

end Cert.Ffn

end
-- ==== Proof.Ffn.KernelHost.lean ====
/-
  The kernel's blocks at a grid point, from the program's arguments: point `8 b + k` is block `k` of sequence `b`.
-/
module

public import proofs.«01_k».proof.Proof.Ffn.KernelA
public import proofs.«01_k».proof.Proof.Ffn.KernelB
public import Idealize.ShloMosaic.Lib.StableHlo.ReadAt

@[expose] public section

set_option maxRecDepth 16384
set_option maxHeartbeats 1000000

noncomputable section

namespace Cert.Ffn

open Idealize.ShloMosaic Idealize.ShloMosaic.TcCoe Idealize.SL.Sem
open Cert.Kernel2Ideal Cert.Kernel2Ideal.Gen
open Cert.Ssd (silu)

variable (m : (l : Loc nD τ sig) → Buf (Elt Ideal) l) (c : Dev nD)

theorem V_h : V m c main_arg0 = m ((c : Thread nD τ).loc main_arg0) := by
  unfold V
  after_reads_simp

theorem V_cw : V m c main_arg2 = m ((c : Thread nD τ).loc main_arg2) := by
  unfold V
  after_reads_simp

theorem V_wup (d : Fin 1024) (ch : Fin 5632) : V m c (Pipeline.arrRef spec0 1) (ix2 d ch) = m ((c : Thread nD τ).loc main_arg1) (ix2 d ch) := by
  unfold V
  after_reads_at

theorem V_cb (ch : Fin 5632) : V m c (Pipeline.arrRef spec0 3) (ix2 0 ch) = m ((c : Thread nD τ).loc main_arg3) (ix1 ch) := by
  unfold V
  after_reads_at

theorem V_wdn (k : Fin 2816) (e : Fin 1024) : V m c (Pipeline.arrRef spec0 4) (ix2 k e) = m ((c : Thread nD τ).loc main_arg4) (ix2 k e) := by
  unfold V
  after_reads_at

theorem V_g (e : Fin 1024) : V m c (Pipeline.arrRef spec0 5) (ix2 0 e) = m ((c : Thread nD τ).loc main_arg5) (ix1 e) := by
  unfold V
  after_reads_at

theorem V_b (e : Fin 1024) : V m c (Pipeline.arrRef spec0 6) (ix2 0 e) = m ((c : Thread nD τ).loc main_arg6) (ix1 e) := by
  unfold V
  after_reads_at

theorem idx0 : ∀ t : Fin cfg0.N, win0_0.index t (0 : Fin 3) = t.val / 8 ∧ win0_0.index t (1 : Fin 3) = t.val % 8
    ∧ win0_0.index t (2 : Fin 3) = 0 := (by decide +kernel : ∀ t : Fin grid0.N, _)

/-- The other arguments are one block each. -/
theorem idxs : ∀ t : Fin cfg0.N, ∀ a : Fin 2, win0_1.index t a = 0 ∧ win0_2.index t a = 0 ∧ win0_3.index t a = 0 ∧ win0_4.index t a = 0
    ∧ win0_5.index t a = 0 ∧ win0_6.index t a = 0 := (by decide +kernel : ∀ t : Fin grid0.N, _)

variable (t : Fin cfg0.N)

theorem blk0 (b : Fin 16) (k : Fin 8) (ht : t.val = 8 * b.val + k.val) (l : Fin 512) (d : Fin 1024) :
    iblk m c 0 t (ix3 0 l d) = m ((c : Thread nD τ).loc main_arg0) (ix3 b (row (512 * k.val + l.val)) d) := by
  obtain ⟨e0, e1, e2⟩ := idx0 t
  unfold iblk
  rw [View.read_apply, ← V_h m c]
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 512 + 1 * l.val = (512 * k.val + l.val) % 4096; omega
  | ⟨2, _⟩ => show win0_0.index t (2 : Fin 3) * 1024 + 1 * d.val = d.val; omega

theorem blk1 (i : Fin 1024) (j : Fin 5632) : iblk m c 1 t (ix2 i j) = m ((c : Thread nD τ).loc main_arg1) (ix2 i j) := by
  have e0 := (idxs t 0).1
  have e1 := (idxs t 1).1
  unfold iblk
  rw [View.read_apply]
  refine (congrArg (V m c (Pipeline.arrRef spec0 1)) (funext fun a => Fin.ext ?_)).trans (V_wup m c i j)
  match a with
  | ⟨0, _⟩ => show win0_1.index t (0 : Fin 2) * 1024 + 1 * i.val = i.val; omega
  | ⟨1, _⟩ => show win0_1.index t (1 : Fin 2) * 5632 + 1 * j.val = j.val; omega

theorem blk2 (i : Fin 3) (j : Fin 5632) : iblk m c 2 t (ix2 i j) = m ((c : Thread nD τ).loc main_arg2) (ix2 i j) := by
  have e0 := (idxs t 0).2.1
  have e1 := (idxs t 1).2.1
  unfold iblk
  rw [View.read_apply]
  refine (congrArg (V m c (Pipeline.arrRef spec0 2)) (funext fun a => Fin.ext ?_)).trans (congrFun (V_cw m c) (ix2 i j))
  match a with
  | ⟨0, _⟩ => show win0_2.index t (0 : Fin 2) * 3 + 1 * i.val = i.val; omega
  | ⟨1, _⟩ => show win0_2.index t (1 : Fin 2) * 5632 + 1 * j.val = j.val; omega

theorem blk3 (j : Fin 5632) : iblk m c 3 t (ix2 0 j) = m ((c : Thread nD τ).loc main_arg3) (ix1 j) := by
  have e0 := (idxs t 0).2.2.1
  have e1 := (idxs t 1).2.2.1
  unfold iblk
  rw [View.read_apply]
  refine (congrArg (V m c (Pipeline.arrRef spec0 3)) (funext fun a => Fin.ext ?_)).trans (V_cb m c j)
  match a with
  | ⟨0, _⟩ => show win0_3.index t (0 : Fin 2) * 1 + 1 * 0 = 0; omega
  | ⟨1, _⟩ => show win0_3.index t (1 : Fin 2) * 5632 + 1 * j.val = j.val; omega

theorem blk4 (i : Fin 2816) (j : Fin 1024) : iblk m c 4 t (ix2 i j) = m ((c : Thread nD τ).loc main_arg4) (ix2 i j) := by
  have e0 := (idxs t 0).2.2.2.1
  have e1 := (idxs t 1).2.2.2.1
  unfold iblk
  rw [View.read_apply]
  refine (congrArg (V m c (Pipeline.arrRef spec0 4)) (funext fun a => Fin.ext ?_)).trans (V_wdn m c i j)
  match a with
  | ⟨0, _⟩ => show win0_4.index t (0 : Fin 2) * 2816 + 1 * i.val = i.val; omega
  | ⟨1, _⟩ => show win0_4.index t (1 : Fin 2) * 1024 + 1 * j.val = j.val; omega

theorem blk5 (j : Fin 1024) : iblk m c 5 t (ix2 0 j) = m ((c : Thread nD τ).loc main_arg5) (ix1 j) := by
  have e0 := (idxs t 0).2.2.2.2.1
  have e1 := (idxs t 1).2.2.2.2.1
  unfold iblk
  rw [View.read_apply]
  refine (congrArg (V m c (Pipeline.arrRef spec0 5)) (funext fun a => Fin.ext ?_)).trans (V_g m c j)
  match a with
  | ⟨0, _⟩ => show win0_5.index t (0 : Fin 2) * 1 + 1 * 0 = 0; omega
  | ⟨1, _⟩ => show win0_5.index t (1 : Fin 2) * 1024 + 1 * j.val = j.val; omega

theorem blk6 (j : Fin 1024) : iblk m c 6 t (ix2 0 j) = m ((c : Thread nD τ).loc main_arg6) (ix1 j) := by
  have e0 := (idxs t 0).2.2.2.2.2
  have e1 := (idxs t 1).2.2.2.2.2
  unfold iblk
  rw [View.read_apply]
  refine (congrArg (V m c (Pipeline.arrRef spec0 6)) (funext fun a => Fin.ext ?_)).trans (V_b m c j)
  match a with
  | ⟨0, _⟩ => show win0_6.index t (0 : Fin 2) * 1 + 1 * 0 = 0; omega
  | ⟨1, _⟩ => show win0_6.index t (1 : Fin 2) * 1024 + 1 * j.val = j.val; omega

end Cert.Ffn

end
-- ==== Proof.Ffn.Kernel.lean ====
/-
  The kernel's result: each block of a sequence is the feed-forward part's rows, and leaves the last eight rows of its
  up-projection for the next block.
-/
module

public import proofs.«01_k».proof.Proof.Ffn.KernelHost
public import proofs.«01_k».proof.Proof.Gen.Kernel2Ideal.Value

@[expose] public section

set_option maxRecDepth 16384
set_option maxHeartbeats 1000000

noncomputable section

namespace Cert.Ffn

open Idealize.ShloMosaic Idealize.ShloMosaic.TcCoe Idealize.SL.Sem
open Cert.Kernel2Ideal Cert.Kernel2Ideal.Gen
open Cert.Kernel2Ideal.Value
open Cert.Ssd (silu)

/-- The sums of 256, added up, are the sum over all. -/
theorem sum_blocks (g : ℕ → EReal) (a : ℕ → EReal) (h0 : a 0 = 0) (hs : ∀ n, a (n + 1) = a n + ∑ k : Fin 256, g (256 * n + k.val)) :
    ∀ n, a n = ∑ k ∈ Finset.range (256 * n), g k
  | 0 => h0
  | n + 1 => by
    rw [hs n, sum_blocks g a h0 hs n, Fin.sum_univ_eq_sum_range (fun k => g (256 * n + k)) 256, show 256 * (n + 1) = 256 * n + 256 from rfl,
      Finset.sum_range_add]

/-- A row so far back, counted from eight rows on. -/
theorem back_shift (A : Args) (j r n : ℕ) (h : n + j = r + 8) (ch : Fin 5632) : back A 8 n ch = back A j r ch := by
  unfold back
  rw [show n - 8 = r - j by omega]
  exact if_congr (by omega) rfl rfl

variable (m : (l : Loc nD τ sig) → Buf (Elt Ideal) l) (c : Dev nD)

/-- The program's arguments, for one sequence. -/
def kArgs (b : Fin 16) : Args where
  h := fun r d => m ((c : Thread nD τ).loc main_arg0) (ix3 b r d)
  wup := fun d ch => m ((c : Thread nD τ).loc main_arg1) (ix2 d ch)
  cw := fun k ch => m ((c : Thread nD τ).loc main_arg2) (ix2 k ch)
  cb := fun ch => m ((c : Thread nD τ).loc main_arg3) (ix1 ch)
  wdn := fun k e => m ((c : Thread nD τ).loc main_arg4) (ix2 k e)
  g := fun e => m ((c : Thread nD τ).loc main_arg5) (ix1 e)
  b := fun e => m ((c : Thread nD τ).loc main_arg6) (ix1 e)

variable (t : Fin cfg0.N) (b : Fin 16) (k : Fin 8) (ht : t.val = 8 * b.val + k.val)

include ht in
/-- The buffer's rows are rows of the sequence's up-projection. -/
theorem ubuf_pt (halo : ℕ → Fin 5632 → EReal) (hh : ∀ (r : ℕ) (ch : Fin 5632), r < 8 → halo r ch = back (kArgs m c b) 8 (512 * k.val + r) ch)
    (r : ℕ) (hr : r < 520) (ch : Fin 5632) : ubuf halo (iblk m c 0 t) (iblk m c 1 t) r ch = back (kArgs m c b) 8 (512 * k.val + r) ch := by
  unfold ubuf
  by_cases h8 : 8 ≤ r
  · rw [if_pos h8]
    unfold back upB
    rw [if_pos (by omega)]
    refine Finset.sum_congr rfl fun d _ => ?_
    rw [blk0 m c t b k ht, blk1]
    have e : row (512 * k.val + (Fin.ofNat 512 (r - 8)).val) = row (512 * k.val + r - 8) := by
      refine Fin.ext ?_
      show (512 * k.val + (r - 8) % 512) % 4096 = (512 * k.val + r - 8) % 4096
      omega
    rw [e]
    rfl
  · rw [if_neg h8]
    exact hh r ch (by omega)

include ht in
/-- The block's row of the result, before the layer norm. -/
theorem down_pt (halo : ℕ → Fin 5632 → EReal) (hh : ∀ (r : ℕ) (ch : Fin 5632), r < 8 → halo r ch = back (kArgs m c b) 8 (512 * k.val + r) ch)
    (l : Fin 512) (e : Fin 1024) :
    accB (ubuf halo (iblk m c 0 t) (iblk m c 1 t)) (iblk m c 2 t) (iblk m c 3 t) (iblk m c 4 t) l e 11 = down (kArgs m c b) (512 * k.val + l.val) e := by
  have hc : ∀ ch, convB (ubuf halo (iblk m c 0 t) (iblk m c 1 t)) (iblk m c 2 t) (iblk m c 3 t) l ch = conv (kArgs m c b) (512 * k.val + l.val) ch := by
    intro ch
    unfold convB conv
    rw [ubuf_pt m c t b k ht halo hh (6 + l.val) (by omega), ubuf_pt m c t b k ht halo hh (7 + l.val) (by omega),
      ubuf_pt m c t b k ht halo hh (8 + l.val) (by omega), back_shift _ 2 (512 * k.val + l.val) _ (by omega),
      back_shift _ 1 (512 * k.val + l.val) _ (by omega), back_shift _ 0 (512 * k.val + l.val) _ (by omega), blk3]
    simp only [blk2]
    rfl
  refine (sum_blocks (fun n => act (kArgs m c b) (512 * k.val + l.val) n * (kArgs m c b).wdn (kin n) e) _ rfl (fun n => ?_) 11).trans ?_
  · show _ + blkB _ _ _ _ (256 * n) l e = _
    unfold blkB act
    simp only [hc, blk4, Nat.add_assoc]
    rfl
  · exact (Fin.sum_univ_eq_sum_range (fun n => act (kArgs m c b) (512 * k.val + l.val) n * (kArgs m c b).wdn (kin n) e) 2816).symm

include ht in
theorem result_pt (halo : ℕ → Fin 5632 → EReal) (hh : ∀ (r : ℕ) (ch : Fin 5632), r < 8 → halo r ch = back (kArgs m c b) 8 (512 * k.val + r) ch)
    (l : Fin 512) (e : Fin 1024) :
    Norm.norm (fun i => Norm.alpha * iblk m c 0 t (ix3 0 l i) + accB (ubuf halo (iblk m c 0 t) (iblk m c 1 t)) (iblk m c 2 t) (iblk m c 3 t) (iblk m c 4 t) l i 11)
      (fun e => iblk m c 5 t (ix2 0 e)) (fun e => iblk m c 6 t (ix2 0 e)) e = result (kArgs m c b) (512 * k.val + l.val) e := by
  simp only [down_pt m c t b k ht halo hh, blk0 m c t b k ht, blk5, blk6]
  rfl

/-- What holds after the point. -/
structure After (o : Vec Ideal S1x512x1024 .f32 × Vec Ideal S520x5632 .f32) : Prop where
  out : ∀ l e, o.1 (ix3 0 l e) = result (kArgs m c b) (512 * k.val + l.val) e
  halo : ∀ (i : Fin 8) (ch : Fin 5632), o.2 (ix2 (top8 i) ch) = back (kArgs m c b) 8 (512 * (k.val + 1) + i.val) ch

include ht in
/-- The first block of a sequence. -/
theorem after_first (hk : k.val = 0) (acc) : After m c b k (stAt0 m c t.val t.isLt acc) := by
  have h0 : t.val % 8 = 0 := by omega
  have hh : ∀ (r : ℕ) (ch : Fin 5632), r < 8 → (fun _ _ => 0 : ℕ → Fin 5632 → EReal) r ch = back (kArgs m c b) 8 (512 * k.val + r) ch :=
    fun r ch hr => (if_neg (by omega)).symm
  rw [stAt0_A m c t acc h0]
  refine ⟨fun l e => ?_, fun i ch => ?_⟩
  · have h := outA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      (iblk m c 0 t) (iblk m c 1 t) (iblk m c 2 t) (iblk m c 3 t) (iblk m c 4 t) (iblk m c 5 t) (iblk m c 6 t) ((hcond0_0 t).mpr h0) l e
    dsimp only
    rw [h]
    exact result_pt m c t b k ht _ hh l e
  · have h := haloA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      (iblk m c 0 t) (iblk m c 1 t) (iblk m c 2 t) (iblk m c 3 t) (iblk m c 4 t) (iblk m c 5 t) (iblk m c 6 t) ((hcond0_0 t).mpr h0) i ch
    dsimp only
    rw [h, ubuf_pt m c t b k ht _ hh _ (by omega)]
    exact congrArg (fun n => back (kArgs m c b) 8 n ch) (by omega)

include ht in
/-- A later block, from what the block before left. -/
theorem after_next (k' : Fin 8) (hk : k.val = k'.val + 1) (acc) (hacc : After m c b k' acc) : After m c b k (stAt0 m c t.val t.isLt acc) := by
  have h0 : ¬t.val % 8 = 0 := by omega
  have hh : ∀ (r : ℕ) (ch : Fin 5632), r < 8 → (fun (r : ℕ) ch => acc.2 (ix2 (Fin.ofNat 520 r) ch)) r ch = back (kArgs m c b) 8 (512 * k.val + r) ch := by
    intro r ch hr
    refine (congrArg (fun r => acc.2 (ix2 r ch)) (Fin.ext (by show r % 520 = r; omega) : Fin.ofNat 520 r = top8 ⟨r, hr⟩)).trans ?_
    rw [hk]
    exact hacc.halo ⟨r, hr⟩ ch
  rw [stAt0_B m c t acc h0]
  refine ⟨fun l e => ?_, fun i ch => ?_⟩
  · have h := outB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      (iblk m c 0 t) (iblk m c 1 t) (iblk m c 2 t) (iblk m c 3 t) (iblk m c 4 t) (iblk m c 5 t) (iblk m c 6 t) (fun h => h0 ((hcond0_0 t).mp h)) acc.2 l e
    dsimp only
    rw [h]
    exact result_pt m c t b k ht _ hh l e
  · have h := haloB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      (iblk m c 0 t) (iblk m c 1 t) (iblk m c 2 t) (iblk m c 3 t) (iblk m c 4 t) (iblk m c 5 t) (iblk m c 6 t) (fun h => h0 ((hcond0_0 t).mp h)) acc.2 i ch
    dsimp only
    rw [h, ubuf_pt m c t b k ht _ hh _ (by omega)]
    exact congrArg (fun n => back (kArgs m c b) 8 n ch) (by omega)

omit t b k in
/-- After every point. -/
theorem after_all : ∀ (n : ℕ) (hn : n < cfg0.N) (b : Fin 16) (k : Fin 8), n = 8 * b.val + k.val → After m c b k (outsAt0 m c n hn)
  | 0, hn, b, k, e => by
    rw [outsAt0_zero]
    exact after_first m c ⟨0, hn⟩ b k e (by omega) _
  | n + 1, hn, b, k, e => by
    rw [outsAt0_succ]
    by_cases hk : k.val = 0
    · exact after_first m c ⟨n + 1, hn⟩ b k e hk _
    · exact after_next m c ⟨n + 1, hn⟩ b k e ⟨k.val - 1, by omega⟩ (by show k.val = k.val - 1 + 1; omega) _
        (after_all n _ b ⟨k.val - 1, by omega⟩ (by show n = 8 * b.val + (k.val - 1); omega))

omit t b k in
/-- The kernel's result at a sequence, a row and a lane. -/
theorem kernel_result (b : Fin 16) (r : Fin 4096) (e : Fin 1024) : G7 m c (ix3 b r e) = result (kArgs m c b) r.val e := by
  have hN : cfg0.N = 128 := N_0
  have hp : pt7Of (ix3 b r e) = 8 * b.val + r.val / 512 := by
    show 8 * (b.val / 1 - 0) + 1 * (r.val / 512 - 0) + 1 * (e.val / 1024 - 0) = _
    omega
  have hlt : 8 * b.val + r.val / 512 < cfg0.N := by omega
  unfold G7
  rw [dif_pos (by rw [hp]; exact hlt)]
  have hl : loc7Of (ix3 b r e) = ix3 0 ⟨r.val % 512, by omega⟩ e := by
    funext a
    match a with
    | ⟨0, _⟩ => exact Fin.ext (by show b.val % 1 = 0; omega)
    | ⟨1, _⟩ => rfl
    | ⟨2, _⟩ => exact Fin.ext (by show e.val % 1024 = e.val; omega)
  rw [hl]
  refine Eq.trans ?_ (((after_all m c _ hlt b ⟨r.val / 512, by omega⟩ rfl).out ⟨r.val % 512, by omega⟩ e).trans
    (congrArg (fun n => result (kArgs m c b) n e) (by show 512 * (r.val / 512) + r.val % 512 = r.val; omega)))
  rw [outsAt0_sweep]
  have hcongr : ∀ (p q : ℕ) (h : p = q) (hp hq) (j), (Pipeline.accAt (fun n h => stAt0 m c n h junk0) (stAt0 m c) 0 p hp).1 j
      = (Pipeline.accAt (fun n h => stAt0 m c n h junk0) (stAt0 m c) 0 q hq).1 j := by
    rintro p _ rfl _ _ _
    rfl
  exact hcongr _ _ hp _ _ _

end Cert.Ffn

end
-- ==== Proof.Ffn.Ref.lean ====
/-
  The reference of the feed-forward part, read at an index: its result at a row is the sequence's result there (`Spec.lean`).
-/
module

public import proofs.«01_k».proof.Proof.Ffn.Spec
public import proofs.«01_k».proof.Proof.Gen.Reference2Ideal.Read
public import Idealize.ShloMosaic.Lib.Pointwise

@[expose] public section

set_option maxRecDepth 16384
set_option maxHeartbeats 1000000

noncomputable section

namespace Cert.Ffn

open Idealize.ShloMosaic Idealize.ShloMosaic.TcCoe Idealize.SL.Sem
open Cert.Reference2Ideal Cert.Reference2Ideal.Gen Cert.Reference2Ideal.Value Cert.Reference2Ideal.Read
open Cert.Ssd (silu silu_mul)

/-- The three taps and the bias, added in the other order. -/
theorem conv3_order (w : Fin 3 → EReal) (b x2 x1 x0 : EReal) : 0 + x2 * w 0 + x1 * w 1 + x0 * w 2 + b = conv3 w b x2 x1 x0 := by
  unfold conv3
  rw [zero_add, mul_comm (w 2), mul_comm (w 1), mul_comm (w 0)]
  ac_rfl

section
variable (x0 : FVec Ideal S16x4096x1024 .f32) (x1 : FVec Ideal S1024x5632 .f32) (x2 : FVec Ideal S3x5632 .f32) (x3 : FVec Ideal S5632 .f32)
  (x4 : FVec Ideal S2816x1024 .f32) (x5 x6 : FVec Ideal S1024 .f32)

/-- The arguments of one sequence. -/
def rArgs (b : Fin 16) : Args where
  h := fun r d => x0 (ix3 b r d)
  wup := fun d ch => x1 (ix2 d ch)
  cw := fun k ch => x2 (ix2 k ch)
  cb := fun ch => x3 (ix1 ch)
  wdn := fun k e => x4 (ix2 k e)
  g := fun e => x5 (ix1 e)
  b := fun e => x6 (ix1 e)

/-- The up-projection at an index. -/
theorem up_at (b : Fin 16) (r : Fin 4096) (ch : Fin 5632) : val_main_v0 (F := Ideal) x0 x1 (ix3 b r ch) = ∑ d, x0 (ix3 b r d) * x1 (ix2 d ch) := by
  rw [val_main_v0_apply]
  refine Finset.sum_congr rfl fun d _ => congrArg₂ (· * ·) (congrArg x0 (funext fun a => ?_)) (congrArg x1 (funext fun a => ?_))
  · match a with
    | ⟨0, _⟩ => rfl
    | ⟨1, _⟩ => rfl
    | ⟨2, _⟩ => rfl
  · match a with
    | ⟨0, _⟩ => rfl
    | ⟨1, _⟩ => rfl

theorem pad_at (b : Fin 16) (r : Fin 4098) (ch : Fin 5632) :
    val_main_v1 (F := Ideal) x0 x1 (ix3 b r ch) = if h : 2 ≤ r.val then val_main_v0 (F := Ideal) x0 x1 (ix3 b ⟨r.val - 2, by omega⟩ ch) else 0 := by
  pointwise [val_main_v1, val_main_call0_v0, val_main_c]
  by_cases h : 2 ≤ r.val
  · rw [dif_pos ⟨h, by omega⟩, dif_pos h]
  · rw [dif_neg (fun hc => h hc.1), dif_neg h]
    show (((0#32 : BitVec 32).toInt : ℝ) : EReal) = 0
    simp

/-- A padded row is the up-projection so far back. -/
theorem pad_back (b : Fin 16) (r : Fin 4096) (ch : Fin 5632) (i j : ℕ) (hij : i + j = 2) (hi : i + r.val < 4098) :
    val_main_v1 (F := Ideal) x0 x1 (ix3 b ⟨i + r.val, hi⟩ ch) = back (rArgs x0 x1 x2 x3 x4 x5 x6 b) j r.val ch := by
  rw [pad_at]
  unfold back
  by_cases h : j ≤ r.val
  · rw [dif_pos (show 2 ≤ i + r.val by omega), if_pos h, up_at]
    have e : (⟨i + r.val - 2, by omega⟩ : Fin 4096) = row (r.val - j) := Fin.ext (by show i + r.val - 2 = (r.val - j) % 4096; omega)
    rw [e]
    rfl
  · rw [dif_neg (show ¬ 2 ≤ i + r.val by omega), if_neg h]

theorem conv_at (b : Fin 16) (r : Fin 4096) (ch : Fin 5632) :
    val_main_v26 (F := Ideal) x0 x1 x2 x3 (ix3 b r ch) = conv (rArgs x0 x1 x2 x3 x4 x5 x6 b) r.val ch := by
  unfold conv
  rw [← pad_back x0 x1 x2 x3 x4 x5 x6 b r ch 0 2 rfl (by omega), ← pad_back x0 x1 x2 x3 x4 x5 x6 b r ch 1 1 rfl (by omega),
    ← pad_back x0 x1 x2 x3 x4 x5 x6 b r ch 2 0 rfl (by omega), ← conv3_order]
  pointwise [val_main_v26, val_main_v25, val_main_v24, val_main_v23, val_main_v22, val_main_v21, val_main_v20, val_main_v19, val_main_v18,
    val_main_v17, val_main_v16, val_main_v15, val_main_v14, val_main_v13, val_main_v12, val_main_v11, val_main_v10, val_main_v9, val_main_v8,
    val_main_v7, val_main_v6, val_main_v5, val_main_v4, val_main_v3, val_main_v2, val_main_cst]
  rfl

theorem act_at (b : Fin 16) (r : Fin 4096) (k : Fin 2816) :
    val_main_v32 (F := Ideal) x0 x1 x2 x3 (ix3 b r k) = act (rArgs x0 x1 x2 x3 x4 x5 x6 b) r.val k.val := by
  have e1 : (⟨0 + k.val, by omega⟩ : Fin 5632) = col k.val := Fin.ext (by show 0 + k.val = k.val % 5632; omega)
  have e2 : (⟨2816 + k.val, by omega⟩ : Fin 5632) = col (2816 + k.val) := Fin.ext (by show 2816 + k.val = (2816 + k.val) % 5632; omega)
  unfold act
  rw [← conv_at, ← conv_at, ← silu_mul, ← e1, ← e2]
  pointwise [val_main_v32, val_main_v31, val_main_v28, val_main_v27, val_main_call1_v5, val_main_call1_v4, val_main_call1_v3, val_main_call1_v2,
    val_main_call1_v1, val_main_call1_v0, val_main_call1_cst, val_main_call1_cst_0]

theorem down_at (b : Fin 16) (r : Fin 4096) (e : Fin 1024) :
    val_main_v33 (F := Ideal) x0 x1 x2 x3 x4 (ix3 b r e) = down (rArgs x0 x1 x2 x3 x4 x5 x6 b) r.val e := by
  rw [val_main_v33_apply]
  refine Finset.sum_congr rfl fun k _ => congrArg₂ (· * ·) ?_ (congrArg x4 (funext fun a => ?_))
  · rw [← act_at x0 x1 x2 x3 x4 x5 x6 b r k]
    refine congrArg (val_main_v32 (F := Ideal) x0 x1 x2 x3) (funext fun a => ?_)
    match a with
    | ⟨0, _⟩ => rfl
    | ⟨1, _⟩ => rfl
    | ⟨2, _⟩ => rfl
  · match a with
    | ⟨0, _⟩ => exact Fin.ext (by show k.val = k.val % 2816; omega)
    | ⟨1, _⟩ => rfl

/-- The row before the layer norm. -/
theorem sum_at (b : Fin 16) (r : Fin 4096) (e : Fin 1024) :
    val_main_v34 (F := Ideal) x0 x1 x2 x3 x4 (ix3 b r e) = Norm.alpha * x0 (ix3 b r e) + down (rArgs x0 x1 x2 x3 x4 x5 x6 b) r.val e := by
  rw [← down_at]
  pointwise [val_main_v34, val_main_v30, val_main_v29, val_main_cst_0]
  rfl

theorem centred_at (b : Fin 16) (r : Fin 4096) (e : Fin 1024) :
    val_main_v40 (F := Ideal) x0 x1 x2 x3 x4 (ix3 b r e) = Norm.centred (fun i => val_main_v34 (F := Ideal) x0 x1 x2 x3 x4 (ix3 b r i)) e := by
  unfold Norm.centred Norm.mean
  pointwise [val_main_v40, val_main_v39, val_main_v38, val_main_v37, val_main_v36, val_main_v35, val_main_cst_1, val_main_cst_2]
  rfl

theorem norm_at (b : Fin 16) (r : Fin 4096) (e : Fin 1024) :
    val_main_v58 (F := Ideal) x0 x1 x2 x3 x4 x5 x6 (ix3 b r e) = Norm.norm (fun i => val_main_v34 (F := Ideal) x0 x1 x2 x3 x4 (ix3 b r i))
      (fun e => x5 (ix1 e)) (fun e => x6 (ix1 e)) e := by
  unfold Norm.norm
  simp only [← centred_at]
  unfold Norm.mean
  pointwise [val_main_v58, val_main_v57, val_main_v56, val_main_v55, val_main_v54, val_main_v53, val_main_v52, val_main_v51, val_main_v50,
    val_main_v49, val_main_v48, val_main_v45, val_main_v44, val_main_v43, val_main_v42, val_main_v41, val_main_cst_3, val_main_cst_4, val_main_cst_5]
  rfl

theorem result_at (b : Fin 16) (r : Fin 4096) (e : Fin 1024) :
    val_main_v58 (F := Ideal) x0 x1 x2 x3 x4 x5 x6 (ix3 b r e) = result (rArgs x0 x1 x2 x3 x4 x5 x6 b) r.val e := by
  rw [norm_at]
  unfold result
  have hr : row r.val = r := Fin.ext (by show r.val % 4096 = r.val; omega)
  simp only [sum_at x0 x1 x2 x3 x4 x5 x6, hr]
  rfl

end

end Cert.Ffn

end
-- ==== Proof.Ffn.Equal.lean ====
/-
  The feed-forward part's claim: from memories that agree on the arguments the kernel and the reference end with one result.
-/
module

public import proofs.«01_k».proof.Defs
public import proofs.«01_k».proof.Proof.Ffn.Kernel
public import proofs.«01_k».proof.Proof.Ffn.Ref

@[expose] public section

set_option maxRecDepth 16384

noncomputable section

namespace Cert.Ffn

open Idealize.ShloMosaic Idealize.ShloMosaic.TcCoe Idealize.SL.Sem

theorem algebraic : Cert.algebraic_Kernel2Ideal_Reference2Ideal (hKernel2Ideal := Cert.Kernel2Ideal.Gen.facts)
    (hReference2Ideal := Cert.Reference2Ideal.Gen.facts) := by
  intro m g m' g' _ hagree
  refine ⟨fun c => Cert.Kernel2Ideal.Value.G7 m c, Cert.Kernel2Ideal.Value.run (F := Ideal) m g, ?_⟩
  refine (θ_run _ _ _).mono (fun _ h c => ⟨(h c).1.trans ?_, (h c).2⟩) (Cert.Reference2Ideal.Value.run (F := Ideal) m' g')
  obtain ⟨h0, h1, h2, h3, h4, h5, h6⟩ := hagree c
  rw [Cert.Reference2Ideal.Read.val_main_v58_eq, h0, h1, h2, h3, h4, h5, h6]
  funext i
  obtain ⟨b, r, e, rfl⟩ : ∃ (b : Fin 16) (r : Fin 4096) (e : Fin 1024), i = ix3 b r e := ⟨i 0, i 1, i 2, eq_ix3 i⟩
  exact (result_at _ _ _ _ _ _ _ b r e).trans (kernel_result m c b r e).symm

end Cert.Ffn

end
-- ==== Proof.Out.Spec.lean ====
/-
  The output projection on one row, in plain sums over the extended reals: the two mixers' outputs through their halves of
  the matrix, the residual and the layer norm. The attention's columns come in another order than the matrix's rows.
-/
module

public import proofs.«01_k».proof.Proof.Norm

@[expose] public section

noncomputable section

namespace Cert.Out

open Idealize.ShloMosaic

/-- The matrix's row of the attention's column `k`: the columns are by pair of key heads, query head, key head of the pair. -/
def att (k : Fin 1024) : Fin 1024 := ⟨k.val / 512 * 512 + k.val / 64 % 2 * 256 + k.val / 128 % 4 * 64 + k.val % 64, by omega⟩

/-- The attention's column of the matrix's row `k`. -/
def attInv (k : Fin 1024) : Fin 1024 := ⟨k.val / 512 * 512 + k.val / 64 % 4 * 128 + k.val / 256 % 2 * 64 + k.val % 64, by omega⟩

theorem attInv_att : ∀ k : Fin 1024, attInv (att k) = k := by decide +kernel

theorem att_attInv : ∀ k : Fin 1024, att (attInv k) = k := by decide +kernel

/-- The two orders. -/
def attEquiv : Fin 1024 ≃ Fin 1024 := ⟨att, attInv, attInv_att, att_attInv⟩

/-- Row `k` of the matrix's first half. -/
def low (k : Fin 1024) : Fin 2048 := ⟨k.val, by omega⟩

/-- Row `k` of the matrix's second half. -/
def high (k : Fin 1024) : Fin 2048 := ⟨1024 + k.val, by omega⟩

/-- What the part takes, for one row. -/
structure Args where
  x : Fin 1024 → EReal
  ys : Fin 1024 → EReal
  ya : Fin 1024 → EReal
  w : Fin 2048 → Fin 1024 → EReal
  g : Fin 1024 → EReal
  b : Fin 1024 → EReal

/-- The projection. -/
def mix (A : Args) (e : Fin 1024) : EReal := (∑ k, A.ys k * A.w (low k) e) + ∑ k, A.ya k * A.w (high (att k)) e

/-- A row of the result. -/
def result (A : Args) (e : Fin 1024) : EReal := Norm.norm (fun i => Norm.alpha * A.x i + mix A i) A.g A.b e

/-- The sum in the matrix's order. -/
theorem mix_eq (A : Args) (u : Fin 2048 → EReal) (hl : ∀ k, u (low k) = A.ys k) (hh : ∀ k, u (high k) = A.ya (attInv k)) (e : Fin 1024) :
    ∑ k, u k * A.w k e = mix A e := by
  refine (Fin.sum_univ_add (a := 1024) (b := 1024) (fun k => u k * A.w k e)).trans ?_
  unfold mix
  refine congrArg₂ (· + ·) (Finset.sum_congr rfl fun k _ => ?_) ?_
  · show u (low k) * A.w (low k) e = _
    rw [hl]
  · refine (Finset.sum_congr rfl fun k _ => ?_).trans (Equiv.sum_comp attEquiv (fun k => A.ya (attInv k) * A.w (high k) e)).symm |>.trans
      (Finset.sum_congr rfl fun k _ => ?_)
    · show u (high k) * A.w (high k) e = _
      rw [hh]
    · show A.ya (attInv (att k)) * _ = _
      rw [attInv_att]
      rfl

end Cert.Out

end
-- ==== Proof.Out.Kernel.lean ====
/-
  The output projection's kernel: block `t` of the result is rows `512 t` to `512 t + 511`.
-/
module

public import proofs.«01_k».proof.Proof.Out.Spec
public import proofs.«01_k».proof.Proof.Gen.Kernel3Ideal.Value
public import Idealize.ShloMosaic.Lib.Pipeline.ValueKit
public import Idealize.ShloMosaic.Lib.Pointwise
public import Idealize.ShloMosaic.Lib.Routing.Ops
public import Idealize.ShloMosaic.Lib.StableHlo.ReadAt

@[expose] public section

set_option maxRecDepth 16384
set_option maxHeartbeats 1000000

noncomputable section

namespace Cert.Out

open Idealize.ShloMosaic Idealize.ShloMosaic.TcCoe Idealize.SL.Sem
open Cert.Kernel3Ideal Cert.Kernel3Ideal.Gen Cert.Kernel3Ideal.Value

theorem hz2 : (![0, 0] : Fin 2 → ℕ) = 0 := by decide

/-- The body's rows, from its blocks. -/
theorem body_at (x0 : Vec Ideal S512x1024 .f32) (x1 x2 : Vec Ideal S512x1024 .bf16) (x3 x4 : Vec Ideal S1024x1024 .bf16) (x5 x6 : Vec Ideal S1x1024 .f32)
    (l : Fin 512) (e : Fin 1024) : out0_7 x0 x1 x2 x3 x4 x5 x6 (ix2 l e)
      = Norm.norm (fun i => Norm.alpha * x0 (ix2 l i) + ((∑ k : Fin 1024, x1 (ix2 l k) * x3 (ix2 k i)) + ∑ k : Fin 1024, x2 (ix2 l k) * x4 (ix2 k i)))
        (fun e => x5 (ix2 0 e)) (fun e => x6 (ix2 0 e)) e := by
  unfold out0_7
  rw [View.canon_cons_unit_lit (h := by decide), View.ld_unit_zero (S := S512x1024) hz2, View.ld_unit_zero (S := S1024x1024) hz2,
    View.ld_unit_zero (S := S512x1024) hz2, View.ld_unit_zero (S := S1024x1024) hz2, View.ld_unit_zero (S := S512x1024) hz2,
    View.ld_unit_zero (S := S1x1024) hz2, View.ld_unit_zero (S := S1x1024) hz2]
  unfold Norm.norm Norm.centred Norm.mean
  pointwise [k0_pay1]
  rfl

/-- The table of the attention's order. -/
theorem table : ∀ k : Fin 1024, lit0 k = BitVec.ofNat 32 (att k).val := by decide +kernel

variable (m : (l : Loc nD τ sig) → Buf (Elt Ideal) l) (c : Dev nD)

theorem V_x : V m c main_arg0 = m ((c : Thread nD τ).loc main_arg0) := V_main_arg0 m c

theorem V_ys : V m c main_arg1 = m ((c : Thread nD τ).loc main_arg1) := V_main_arg1 m c

theorem V_ya : V m c main_arg2 = m ((c : Thread nD τ).loc main_arg2) := V_main_arg2 m c

theorem V_ws (k e : Fin 1024) : V m c (Pipeline.arrRef spec0 3) (ix2 k e) = m ((c : Thread nD τ).loc main_arg3) (ix2 (low k) e) := by
  unfold V
  after_reads_at
  rfl

theorem V_wa (k e : Fin 1024) : V m c (Pipeline.arrRef spec0 4) (ix2 k e) = m ((c : Thread nD τ).loc main_arg3) (ix2 (high (att k)) e) := by
  unfold V
  after_reads_at
  refine (Routing.gather_row _ rfl rfl rfl rfl rfl _ _ k e (att k) ?_ (by decide)).trans ?_
  · have hk : S1024.rowMajor (ix1 k) = k := Fin.ext (Shape.rowMajor_val_one _)
    pointwise []
    exact (congrArg lit0 hk).trans (table k)
  · pointwise []
    rfl

theorem V_g (e : Fin 1024) : V m c (Pipeline.arrRef spec0 5) (ix2 0 e) = m ((c : Thread nD τ).loc main_arg4) (ix1 e) := by
  unfold V
  after_reads_at

theorem V_b (e : Fin 1024) : V m c (Pipeline.arrRef spec0 6) (ix2 0 e) = m ((c : Thread nD τ).loc main_arg5) (ix1 e) := by
  unfold V
  after_reads_at

theorem idxRow : ∀ t : Fin cfg0.N, (win0_0.index t (0 : Fin 2) = t.val ∧ win0_0.index t (1 : Fin 2) = 0) ∧ (win0_1.index t (0 : Fin 2) = t.val
    ∧ win0_1.index t (1 : Fin 2) = 0) ∧ win0_2.index t (0 : Fin 2) = t.val ∧ win0_2.index t (1 : Fin 2) = 0 :=
  (by decide +kernel : ∀ t : Fin grid0.N, _)

theorem idxOut : ∀ t : Fin cfg0.N, win0_7.index t (0 : Fin 2) = t.val ∧ win0_7.index t (1 : Fin 2) = 0 :=
  (by decide +kernel : ∀ t : Fin grid0.N, _)

/-- The matrix and the norm's vectors are one block each. -/
theorem idxOne : ∀ t : Fin cfg0.N, ∀ a : Fin 2, win0_3.index t a = 0 ∧ win0_4.index t a = 0 ∧ win0_5.index t a = 0 ∧ win0_6.index t a = 0 :=
  (by decide +kernel : ∀ t : Fin grid0.N, _)

variable (t : Fin cfg0.N) (l : Fin 512) (r : Fin 65536) (hr : r.val = 512 * t.val + l.val)

include hr in
theorem blkx (d : Fin 1024) : iblk m c 0 t (ix2 l d) = m ((c : Thread nD τ).loc main_arg0) (ix2 r d) := by
  obtain ⟨⟨e0, e1⟩, _, _⟩ := idxRow t
  unfold iblk
  rw [View.read_apply, ← V_x m c]
  refine congrArg (V m c main_arg0) (funext fun a => Fin.ext ?_)
  match a with
  | ⟨0, _⟩ => show win0_0.index t (0 : Fin 2) * 512 + 1 * l.val = r.val; omega
  | ⟨1, _⟩ => show win0_0.index t (1 : Fin 2) * 1024 + 1 * d.val = d.val; omega

include hr in
theorem blkys (d : Fin 1024) : iblk m c 1 t (ix2 l d) = m ((c : Thread nD τ).loc main_arg1) (ix2 r d) := by
  obtain ⟨_, ⟨e0, e1⟩, _⟩ := idxRow t
  unfold iblk
  rw [View.read_apply, ← V_ys m c]
  refine congrArg (V m c main_arg1) (funext fun a => Fin.ext ?_)
  match a with
  | ⟨0, _⟩ => show win0_1.index t (0 : Fin 2) * 512 + 1 * l.val = r.val; omega
  | ⟨1, _⟩ => show win0_1.index t (1 : Fin 2) * 1024 + 1 * d.val = d.val; omega

include hr in
theorem blkya (d : Fin 1024) : iblk m c 2 t (ix2 l d) = m ((c : Thread nD τ).loc main_arg2) (ix2 r d) := by
  obtain ⟨_, _, e0, e1⟩ := idxRow t
  unfold iblk
  rw [View.read_apply, ← V_ya m c]
  refine congrArg (V m c main_arg2) (funext fun a => Fin.ext ?_)
  match a with
  | ⟨0, _⟩ => show win0_2.index t (0 : Fin 2) * 512 + 1 * l.val = r.val; omega
  | ⟨1, _⟩ => show win0_2.index t (1 : Fin 2) * 1024 + 1 * d.val = d.val; omega

theorem blkws (k e : Fin 1024) : iblk m c 3 t (ix2 k e) = m ((c : Thread nD τ).loc main_arg3) (ix2 (low k) e) := by
  have e0 := (idxOne t 0).1
  have e1 := (idxOne t 1).1
  unfold iblk
  rw [View.read_apply]
  refine (congrArg (V m c (Pipeline.arrRef spec0 3)) (funext fun a => Fin.ext ?_)).trans (V_ws m c k e)
  match a with
  | ⟨0, _⟩ => show win0_3.index t (0 : Fin 2) * 1024 + 1 * k.val = k.val; omega
  | ⟨1, _⟩ => show win0_3.index t (1 : Fin 2) * 1024 + 1 * e.val = e.val; omega

theorem blkwa (k e : Fin 1024) : iblk m c 4 t (ix2 k e) = m ((c : Thread nD τ).loc main_arg3) (ix2 (high (att k)) e) := by
  have e0 := (idxOne t 0).2.1
  have e1 := (idxOne t 1).2.1
  unfold iblk
  rw [View.read_apply]
  refine (congrArg (V m c (Pipeline.arrRef spec0 4)) (funext fun a => Fin.ext ?_)).trans (V_wa m c k e)
  match a with
  | ⟨0, _⟩ => show win0_4.index t (0 : Fin 2) * 1024 + 1 * k.val = k.val; omega
  | ⟨1, _⟩ => show win0_4.index t (1 : Fin 2) * 1024 + 1 * e.val = e.val; omega

theorem blkg (e : Fin 1024) : iblk m c 5 t (ix2 0 e) = m ((c : Thread nD τ).loc main_arg4) (ix1 e) := by
  have e0 := (idxOne t 0).2.2.1
  have e1 := (idxOne t 1).2.2.1
  unfold iblk
  rw [View.read_apply]
  refine (congrArg (V m c (Pipeline.arrRef spec0 5)) (funext fun a => Fin.ext ?_)).trans (V_g m c e)
  match a with
  | ⟨0, _⟩ => show win0_5.index t (0 : Fin 2) * 1 + 1 * 0 = 0; omega
  | ⟨1, _⟩ => show win0_5.index t (1 : Fin 2) * 1024 + 1 * e.val = e.val; omega

theorem blkb (e : Fin 1024) : iblk m c 6 t (ix2 0 e) = m ((c : Thread nD τ).loc main_arg5) (ix1 e) := by
  have e0 := (idxOne t 0).2.2.2
  have e1 := (idxOne t 1).2.2.2
  unfold iblk
  rw [View.read_apply]
  refine (congrArg (V m c (Pipeline.arrRef spec0 6)) (funext fun a => Fin.ext ?_)).trans (V_b m c e)
  match a with
  | ⟨0, _⟩ => show win0_6.index t (0 : Fin 2) * 1 + 1 * 0 = 0; omega
  | ⟨1, _⟩ => show win0_6.index t (1 : Fin 2) * 1024 + 1 * e.val = e.val; omega

/-- The program's arguments, for one row. -/
def kArgs (r : Fin 65536) : Args where
  x := fun e => m ((c : Thread nD τ).loc main_arg0) (ix2 r e)
  ys := fun e => m ((c : Thread nD τ).loc main_arg1) (ix2 r e)
  ya := fun e => m ((c : Thread nD τ).loc main_arg2) (ix2 r e)
  w := fun k e => m ((c : Thread nD τ).loc main_arg3) (ix2 k e)
  g := fun e => m ((c : Thread nD τ).loc main_arg4) (ix1 e)
  b := fun e => m ((c : Thread nD τ).loc main_arg5) (ix1 e)

omit t l r in
/-- The kernel's result at a row and a lane. -/
theorem kernel_result (r : Fin 65536) (e : Fin 1024) : (dats m 0 c).arrAt 7 cfg0.N (ix2 r e) = result (kArgs m c r) e := by
  have hN : cfg0.N = 128 := N_0
  let t : Fin cfg0.N := ⟨r.val / 512, by omega⟩
  let l : Fin 512 := ⟨r.val % 512, by omega⟩
  have hr : r.val = 512 * t.val + l.val := by show r.val = 512 * (r.val / 512) + r.val % 512; omega
  have h := congrFun (blocks7 m c t (flush0_7 t)) (ix2 l e)
  rw [flushed7, View.read_apply] at h
  have hi : ((cfg0.win 7).blk t).view.emb (ix2 l e) = ix2 r e := by
    have e0 := (idxOut t).1
    have e1 := (idxOut t).2
    refine funext fun a => Fin.ext ?_
    match a with
    | ⟨0, _⟩ => show win0_7.index t (0 : Fin 2) * 512 + 1 * l.val = r.val; omega
    | ⟨1, _⟩ => show win0_7.index t (1 : Fin 2) * 1024 + 1 * e.val = e.val; omega
  rw [hi] at h
  refine h.trans ?_
  refine (body_at _ _ _ _ _ _ _ l e).trans ?_
  simp only [blkx m c t l r hr, blkys m c t l r hr, blkya m c t l r hr, blkws, blkwa, blkg, blkb]
  rfl

end Cert.Out

end
-- ==== Proof.Out.Ref.lean ====
/-
  The reference of the output projection, read at an index: its result at a row is the row's result (`Spec.lean`).
-/
module

public import proofs.«01_k».proof.Proof.Out.Spec
public import proofs.«01_k».proof.Proof.Gen.Reference3Ideal.Read
public import Idealize.ShloMosaic.Lib.Pointwise

@[expose] public section

set_option maxRecDepth 16384
set_option maxHeartbeats 1000000

noncomputable section

namespace Cert.Out

open Idealize.ShloMosaic Idealize.ShloMosaic.TcCoe Idealize.SL.Sem
open Cert.Reference3Ideal Cert.Reference3Ideal.Gen Cert.Reference3Ideal.Value Cert.Reference3Ideal.Read

section
variable (x0 : FVec Ideal S65536x1024 .f32) (x1 x2 : FVec Ideal S65536x1024 .bf16) (x3 : FVec Ideal S2048x1024 .f32)
  (x4 x5 : FVec Ideal S1024 .f32)

/-- The arguments of one row. -/
def rArgs (r : Fin 65536) : Args where
  x := fun e => x0 (ix2 r e)
  ys := fun e => x1 (ix2 r e)
  ya := fun e => x2 (ix2 r e)
  w := fun k e => x3 (ix2 k e)
  g := fun e => x4 (ix1 e)
  b := fun e => x5 (ix1 e)

/-- The attention's heads back in the matrix's order. -/
theorem heads_at (r : Fin 65536) (k : Fin 1024) : val_main_v3 (F := Ideal) x2 (ix2 r k) = x2 (ix2 r (attInv k)) := by
  pointwise [val_main_v3, val_main_v2, val_main_v1, val_main_v0]
  rfl

theorem low_at (r : Fin 65536) (k : Fin 1024) : val_main_v5 (F := Ideal) x1 x2 (ix2 r (low k)) = x1 (ix2 r k) := by
  pointwise [val_main_v5, val_main_v4]
  exact dif_pos k.isLt

theorem high_at (r : Fin 65536) (k : Fin 1024) : val_main_v5 (F := Ideal) x1 x2 (ix2 r (high k)) = x2 (ix2 r (attInv k)) := by
  rw [← heads_at x2]
  pointwise [val_main_v5, val_main_v4]
  refine (dif_neg (show ¬ 1024 + k.val < 1024 by omega)).trans ?_
  exact congrArg (fun k => val_main_v3 (F := Ideal) x2 (ix2 r k)) (Fin.ext (Nat.add_sub_cancel_left 1024 k.val))

theorem mix_at (r : Fin 65536) (e : Fin 1024) : val_main_v6 (F := Ideal) x1 x2 x3 (ix2 r e) = mix (rArgs x0 x1 x2 x3 x4 x5 r) e := by
  rw [val_main_v6_apply, ← mix_eq (rArgs x0 x1 x2 x3 x4 x5 r) (fun k => val_main_v5 (F := Ideal) x1 x2 (ix2 r k)) (low_at x1 x2 r) (high_at x1 x2 r)]
  refine Finset.sum_congr rfl fun k _ => congrArg₂ (· * ·) (congrArg (val_main_v5 (F := Ideal) x1 x2) (funext fun a => ?_))
    (congrArg x3 (funext fun a => ?_))
  · match a with
    | ⟨0, _⟩ => rfl
    | ⟨1, _⟩ => rfl
  · match a with
    | ⟨0, _⟩ => rfl
    | ⟨1, _⟩ => rfl

/-- The row before the layer norm. -/
theorem sum_at (r : Fin 65536) (e : Fin 1024) :
    val_main_v9 (F := Ideal) x0 x1 x2 x3 (ix2 r e) = Norm.alpha * x0 (ix2 r e) + mix (rArgs x0 x1 x2 x3 x4 x5 r) e := by
  rw [← mix_at]
  pointwise [val_main_v9, val_main_v8, val_main_v7, val_main_cst]
  rfl

theorem centred_at (r : Fin 65536) (e : Fin 1024) :
    val_main_v15 (F := Ideal) x0 x1 x2 x3 (ix2 r e) = Norm.centred (fun i => val_main_v9 (F := Ideal) x0 x1 x2 x3 (ix2 r i)) e := by
  unfold Norm.centred Norm.mean
  pointwise [val_main_v15, val_main_v14, val_main_v13, val_main_v12, val_main_v11, val_main_v10, val_main_cst_0, val_main_cst_1]
  rfl

theorem norm_at (r : Fin 65536) (e : Fin 1024) :
    val_main_v33 (F := Ideal) x0 x1 x2 x3 x4 x5 (ix2 r e) = Norm.norm (fun i => val_main_v9 (F := Ideal) x0 x1 x2 x3 (ix2 r i))
      (fun e => x4 (ix1 e)) (fun e => x5 (ix1 e)) e := by
  unfold Norm.norm
  simp only [← centred_at]
  unfold Norm.mean
  pointwise [val_main_v33, val_main_v32, val_main_v31, val_main_v30, val_main_v29, val_main_v28, val_main_v27, val_main_v26, val_main_v25,
    val_main_v24, val_main_v23, val_main_v20, val_main_v19, val_main_v18, val_main_v17, val_main_v16, val_main_cst_2, val_main_cst_3, val_main_cst_4]
  rfl

theorem result_at (r : Fin 65536) (e : Fin 1024) :
    val_main_v33 (F := Ideal) x0 x1 x2 x3 x4 x5 (ix2 r e) = result (rArgs x0 x1 x2 x3 x4 x5 r) e := by
  rw [norm_at]
  unfold result
  simp only [sum_at x0 x1 x2 x3 x4 x5]
  rfl

end

end Cert.Out

end
-- ==== Proof.Out.Equal.lean ====
/-
  The output projection's claim: from memories that agree on the arguments the kernel and the reference end with one result.
-/
module

public import proofs.«01_k».proof.Defs
public import proofs.«01_k».proof.Proof.Out.Kernel
public import proofs.«01_k».proof.Proof.Out.Ref

@[expose] public section

set_option maxRecDepth 16384

noncomputable section

namespace Cert.Out

open Idealize.ShloMosaic Idealize.ShloMosaic.TcCoe Idealize.SL.Sem

theorem algebraic : Cert.algebraic_Kernel3Ideal_Reference3Ideal (hKernel3Ideal := Cert.Kernel3Ideal.Gen.facts)
    (hReference3Ideal := Cert.Reference3Ideal.Gen.facts) := by
  intro m g m' g' _ hagree
  refine ⟨fun c => (Cert.Kernel3Ideal.Gen.dats m 0 c).arrAt 7 Cert.Kernel3Ideal.cfg0.N, Cert.Kernel3Ideal.Value.run_blocks (F := Ideal) m g, ?_⟩
  refine (θ_run _ _ _).mono (fun _ h c => ⟨(h c).1.trans ?_, (h c).2⟩) (Cert.Reference3Ideal.Value.run (F := Ideal) m' g')
  obtain ⟨h0, h1, h2, h3, h4, h5⟩ := hagree c
  rw [Cert.Reference3Ideal.Read.val_main_v33_eq, h0, h1, h2, h3, h4, h5]
  funext i
  obtain ⟨r, e, rfl⟩ : ∃ (r : Fin 65536) (e : Fin 1024), i = ix2 r e := ⟨i 0, i 1, eq_ix2 i⟩
  exact (result_at _ _ _ _ _ _ r e).trans (kernel_result m c r e).symm

end Cert.Out

end
-- ==== Proof.Inp.Spec.lean ====
/-
  The input projection on one row, in plain sums over the extended reals: the eight arrays that the mixers take.
-/
module

public import proofs.«01_k».proof.Proof.Norm
public import proofs.«01_k».proof.Proof.Out.Spec

@[expose] public section

noncomputable section

namespace Cert.Inp

open Idealize.ShloMosaic
open Cert.Out (att)

/-- What the part takes, for one row. -/
structure Args where
  x : Fin 1024 → EReal
  w : Fin 1024 → Fin 4696 → EReal
  g : Fin 64 → EReal
  b : Fin 64 → EReal

/-- The scale of the query heads. -/
def qscale : EReal := Ideal.ofBits FTy.f32 0x3E38AA3B#32

/-- The scale of the indexer's query heads. -/
def iscale : EReal := Ideal.ofBits FTy.f32 0x3E000000#32

/-- The scale of the indexer's head weights. -/
def wscale : EReal := Ideal.ofBits FTy.f32 0x3EB504F3#32

/-- One over the number of lanes of the indexer's key. -/
def inv64 : EReal := Ideal.ofBits FTy.f32 0x3C800000#32

/-- The projection's column `j`. -/
def proj (A : Args) (j : Fin 4696) : EReal := ∑ k, A.x k * A.w k j

/-- The gate. -/
def gate (A : Args) (e : Fin 1024) : EReal := proj A ⟨e.val, by omega⟩

/-- The scan's input. -/
def scanIn (A : Args) (e : Fin 1536) : EReal := proj A ⟨1024 + e.val, by omega⟩

/-- The query heads, in the attention's order. -/
def query (A : Args) (e : Fin 1024) : EReal := proj A ⟨2576 + (att e).val, by have := (att e).isLt; omega⟩ * qscale

/-- The keys: of four times 64 lanes the first and the last are a pair's keys, the two between them begin with a one. -/
def key (A : Args) (e : Fin 512) : EReal :=
  if e.val / 64 % 4 = 0 then proj A ⟨3600 + (e.val / 256 * 128 + e.val % 64), by omega⟩
  else if e.val / 64 % 4 = 3 then proj A ⟨3600 + (e.val / 256 * 128 + (64 + e.val % 64)), by omega⟩
  else if e.val % 64 = 0 then 1 else 0

/-- The values: below each head's 64 lanes a one and 15 zeros. -/
def value (A : Args) (r : Fin 320) : EReal :=
  if r.val % 80 < 64 then proj A ⟨3856 + (r.val / 80 * 64 + r.val % 80 % 64), by omega⟩ else if r.val % 80 = 64 then 1 else 0

/-- The indexer's query heads. -/
def iquery (A : Args) (e : Fin 512) : EReal := proj A ⟨4112 + e.val, by omega⟩ * iscale

/-- The indexer's key before its norm. -/
def raw (A : Args) (d : Fin 64) : EReal := proj A ⟨4624 + d.val, by omega⟩

/-- The mean of 64 lanes. -/
def mean (f : Fin 64 → EReal) : EReal := (∑ d, f d) * inv64

/-- The indexer's key less its mean. -/
def centred (A : Args) (d : Fin 64) : EReal := raw A d - mean (raw A)

/-- The indexer's key. -/
def ikey (A : Args) (d : Fin 64) : EReal :=
  centred A d * Ideal.rsqrt (mean (fun i => centred A i * centred A i) + Norm.eps) * A.g d + A.b d

/-- The indexer's key, twice, with zeros between. -/
def ikeys (A : Args) (e : Fin 256) : EReal := if e.val / 64 = 0 ∨ e.val / 64 = 3 then ikey A ⟨e.val % 64, by omega⟩ else 0

/-- The step projections, the indexer's head weights and zeros. -/
def small (A : Args) (e : Fin 128) : EReal :=
  if h : e.val < 16 then proj A ⟨2560 + e.val, by omega⟩
  else if h : e.val < 24 then proj A ⟨4688 + (e.val - 16), by omega⟩ * wscale else 0

theorem small_step (A : Args) (e : Fin 128) (h : e.val < 16) : small A e = proj A ⟨2560 + e.val, by omega⟩ := by
  unfold small
  exact dif_pos h

theorem small_head (A : Args) (e : Fin 128) (h : ¬e.val < 16) (h' : e.val < 24) : small A e = proj A ⟨4688 + (e.val - 16), by omega⟩ * wscale := by
  unfold small
  exact (dif_neg h).trans (dif_pos h')

theorem small_rest (A : Args) (e : Fin 128) (h : ¬e.val < 24) : small A e = 0 := by
  unfold small
  exact (dif_neg fun h' => h (by omega)).trans (dif_neg h)

end Cert.Inp

end
-- ==== Proof.Inp.Body.lean ====
/-
  The input projection's kernel on one block of 512 rows: its eight results from its blocks.
-/
module

public import proofs.«01_k».proof.Proof.Inp.Spec
public import proofs.«01_k».proof.Proof.Gen.Kernel4Ideal.Value
public import Idealize.ShloMosaic.Lib.Pipeline.ValueKit
public import Idealize.ShloMosaic.Lib.Pointwise

@[expose] public section

set_option maxRecDepth 16384
set_option maxHeartbeats 1000000

noncomputable section

namespace Cert.Inp

open Idealize.ShloMosaic Idealize.ShloMosaic.TcCoe Idealize.SL.Sem
open Cert.Kernel4Ideal Cert.Kernel4Ideal.Gen Cert.Kernel4Ideal.Value

theorem hz2 : (![0, 0] : Fin 2 → ℕ) = 0 := by decide

theorem hz3 : (![0, 0, 0] : Fin 3 → ℕ) = 0 := by decide

variable (x0 : Vec Ideal S512x1024 .f32) (x1 : Vec Ideal S1024x1024 .bf16) (x2 : Vec Ideal S1024x1536 .bf16) (x3 : Vec Ideal S1024x1024 .bf16)
  (x4 : Vec Ideal S1024x256 .bf16) (x5 : Vec Ideal S320x1024 .bf16) (x6 : Vec Ideal S1024x512 .bf16) (x7 x8 : Vec Ideal S1024x128 .bf16)
  (x9 x10 x11 : Vec Ideal S1x128 .f32) (x12 : Vec Ideal S320x1 .f32)

theorem body13 (l : Fin 512) (e : Fin 1024) :
    out0_13 x0 x1 x2 x3 x4 x5 x6 x7 x8 x9 x10 x11 x12 (ix2 l e) = ∑ k : Fin 1024, x0 (ix2 l k) * x1 (ix2 k e) := by
  unfold out0_13
  rw [View.canon_cons_unit_lit (h := by decide), View.ld_unit_zero (S := S512x1024) hz2, View.ld_unit_zero (S := S1024x1024) hz2]
  pointwise [k0_pay5, k0_pay4]

theorem body14 (l : Fin 512) (e : Fin 1536) :
    out0_14 x0 x1 x2 x3 x4 x5 x6 x7 x8 x9 x10 x11 x12 (ix2 l e) = ∑ k : Fin 1024, x0 (ix2 l k) * x2 (ix2 k e) := by
  unfold out0_14
  rw [View.canon_cons_unit_lit (h := by decide), View.ld_unit_zero (S := S512x1024) hz2, View.ld_unit_zero (S := S1024x1536) hz2]
  pointwise [k0_pay6, k0_pay4]

theorem body15 (l : Fin 512) (e : Fin 1024) :
    out0_15 x0 x1 x2 x3 x4 x5 x6 x7 x8 x9 x10 x11 x12 (ix2 l e) = (∑ k : Fin 1024, x0 (ix2 l k) * x3 (ix2 k e)) * qscale := by
  unfold out0_15
  rw [View.canon_cons_unit_lit (h := by decide), View.ld_unit_zero (S := S512x1024) hz2, View.ld_unit_zero (S := S1024x1024) hz2]
  pointwise [k0_pay7, k0_pay4]
  rfl

theorem body17 (r : Fin 320) (l : Fin 512) :
    out0_17 x0 x1 x2 x3 x4 x5 x6 x7 x8 x9 x10 x11 x12 (ix3 0 r l) = (∑ k : Fin 1024, x5 (ix2 r k) * x0 (ix2 l k)) + x12 (ix2 r 0) := by
  unfold out0_17
  rw [View.canon_cons_unit_lit (h := by decide), View.ld_unit_zero (S := S512x1024) hz2, View.ld_unit_zero (S := S320x1024) hz2,
    View.ld_unit_zero (S := S320x1) hz2]
  pointwise [k0_pay8, k0_pay4]

theorem body18 (l e : Fin 512) :
    out0_18 x0 x1 x2 x3 x4 x5 x6 x7 x8 x9 x10 x11 x12 (ix2 l e) = (∑ k : Fin 1024, x0 (ix2 l k) * x6 (ix2 k e)) * iscale := by
  unfold out0_18 k0_pay21
  rw [View.canon_cons_unit_lit (h := by decide), View.ld_unit_zero (S := S512x1024) hz2, View.ld_unit_zero (S := S1024x512) hz2]
  pointwise [k0_pay9, k0_pay4]
  rfl

theorem body20 (l : Fin 512) (e : Fin 128) :
    out0_20 x0 x1 x2 x3 x4 x5 x6 x7 x8 x9 x10 x11 x12 (ix2 l e) = (∑ k : Fin 1024, x0 (ix2 l k) * x8 (ix2 k e)) * x11 (ix2 0 e) := by
  unfold out0_20 k0_pay21
  rw [View.canon_cons_unit_lit (h := by decide), View.ld_unit_zero (S := S512x1024) hz2, View.ld_unit_zero (S := S1024x128) hz2,
    View.ld_unit_zero (S := S1x128) hz2]
  pointwise [k0_pay10, k0_pay4]

/-- The mask of the first 64 lanes. -/
theorem mask : ∀ d : Fin 128, IntOp.cmpi CmpIPredicate.slt (BitVec.ofNat 32 d.val) 64#32 = if d.val < 64 then 1#1 else 0#1 := by decide +kernel

theorem maskAt (l : Fin 512) (d : Fin 128) : k0_pay12 (ix2 l d) = if d.val < 64 then 1#1 else 0#1 := by
  pointwise [k0_pay12]
  exact mask d

theorem at64 : ∀ d : Fin 128, IntOp.cmpi CmpIPredicate.eq (BitVec.ofNat 32 d.val) 64#32 = if d.val = 64 then 1#1 else 0#1 := by decide +kernel

theorem at0 : ∀ d : Fin 128, IntOp.cmpi CmpIPredicate.eq (BitVec.ofNat 32 d.val) 0#32 = if d.val = 0 then 1#1 else 0#1 := by decide +kernel

theorem pick {α : Type} {p : Prop} [Decidable p] (a b : α) : Scalar.select (if p then 1#1 else 0#1) a b = if p then a else b := by
  by_cases h : p
  · simp only [if_pos h]; rfl
  · simp only [if_neg h]; rfl

theorem pickNot {α : Type} {p : Prop} [Decidable p] (a b : α) :
    Scalar.select (IntOp.xori (if p then 1#1 else 0#1) 1#1) a b = if p then b else a := by
  by_cases h : p
  · simp only [if_pos h]; rfl
  · simp only [if_neg h]; rfl

/-- Keys in the first 64 lanes, then a one and zeros. -/
theorem keysA (a : Vec Ideal S512x1024 .bf16) (b : Vec Ideal S1024x256 .bf16) (l : Fin 512) (j : Fin 128) :
    k0_pay13 a b (ix2 l j) = if j.val < 64 then ∑ k : Fin 1024, a (ix2 l k) * b (ix2 k ⟨j.val, by omega⟩) else if j.val = 64 then 1 else 0 := by
  pointwise [k0_pay13, k0_pay12, k0_pay11]
  rw [mask, at64, pick, pick]

/-- A one and zeros in the first 64 lanes, then keys. -/
theorem keysB (a : Vec Ideal S512x1024 .bf16) (b : Vec Ideal S1024x256 .bf16) (l : Fin 512) (j : Fin 128) :
    k0_pay17 (k0_pay14 a b) k0_pay15 k0_pay16 (ix2 l j)
      = if j.val < 64 then if j.val = 0 then 1 else 0 else ∑ k : Fin 1024, a (ix2 l k) * b (ix2 k ⟨j.val, by omega⟩) := by
  pointwise [k0_pay17, k0_pay14, k0_pay15, k0_pay16, k0_pay12, k0_pay11]
  rw [mask, at0, pickNot, pick]

theorem keysC (a : Vec Ideal S512x1024 .bf16) (b : Vec Ideal S1024x256 .bf16) (l : Fin 512) (j : Fin 128) :
    k0_pay18 (k0_pay11 a b) (iota .tc S512x128 32 [1] iota_S512x128_d1_w32) k0_pay12 (ix2 l j)
      = if j.val < 64 then ∑ k : Fin 1024, a (ix2 l k) * b (ix2 k ⟨128 + j.val, by omega⟩) else if j.val = 64 then 1 else 0 := by
  pointwise [k0_pay18, k0_pay12, k0_pay11]
  rw [mask, at64, pick, pick]

theorem keysD (a : Vec Ideal S512x1024 .bf16) (b : Vec Ideal S1024x256 .bf16) (l : Fin 512) (j : Fin 128) :
    k0_pay19 (k0_pay11 a b) (iota .tc S512x128 32 [1] iota_S512x128_d1_w32) k0_pay12 (ix2 l j)
      = if j.val < 64 then if j.val = 0 then 1 else 0 else ∑ k : Fin 1024, a (ix2 l k) * b (ix2 k ⟨128 + j.val, by omega⟩) := by
  pointwise [k0_pay19, k0_pay12, k0_pay11]
  rw [mask, at0, pickNot, pick]

/-- The keys of a row of blocks, at a lane of the result. -/
def keysAt (f : Fin 256 → EReal) (e : Fin 512) : EReal :=
  if e.val / 64 % 4 = 0 then f ⟨e.val / 256 * 128 + e.val % 64, by omega⟩
  else if e.val / 64 % 4 = 3 then f ⟨e.val / 256 * 128 + (64 + e.val % 64), by omega⟩
  else if e.val % 64 = 0 then 1 else 0

/-- The pair `p`'s piece with its keys first. -/
theorem keysFirst (f : Fin 256 → EReal) (e : Fin 512) (j : Fin 128) (p : ℕ) (h : e.val = 256 * p + j.val) (hp : 128 * p + j.val < 256) :
    (if j.val < 64 then f ⟨128 * p + j.val, hp⟩ else if j.val = 64 then 1 else 0) = keysAt f e := by
  have hj := j.isLt
  unfold keysAt
  by_cases h1 : j.val < 64
  · rw [if_pos h1, if_pos (by omega)]
    exact congrArg f (Fin.ext (by show 128 * p + j.val = e.val / 256 * 128 + e.val % 64; omega))
  · rw [if_neg h1, if_neg (show ¬e.val / 64 % 4 = 0 by omega), if_neg (show ¬e.val / 64 % 4 = 3 by omega)]
    by_cases h2 : j.val = 64
    · rw [if_pos h2, if_pos (by omega)]
    · rw [if_neg h2, if_neg (by omega)]

/-- The pair `p`'s piece with its keys last. -/
theorem keysLast (f : Fin 256 → EReal) (e : Fin 512) (j : Fin 128) (p : ℕ) (h : e.val = 256 * p + (128 + j.val)) (hp : 128 * p + j.val < 256) :
    (if j.val < 64 then if j.val = 0 then 1 else 0 else f ⟨128 * p + j.val, hp⟩) = keysAt f e := by
  have hj := j.isLt
  unfold keysAt
  by_cases h1 : j.val < 64
  · rw [if_pos h1, if_neg (show ¬e.val / 64 % 4 = 0 by omega), if_neg (show ¬e.val / 64 % 4 = 3 by omega)]
    by_cases h2 : j.val = 0
    · rw [if_pos h2, if_pos (by omega)]
    · rw [if_neg h2, if_neg (by omega)]
  · rw [if_neg h1, if_neg (show ¬e.val / 64 % 4 = 0 by omega), if_pos (show e.val / 64 % 4 = 3 by omega)]
    exact congrArg f (Fin.ext (by show 128 * p + j.val = e.val / 256 * 128 + (64 + e.val % 64); omega))

/-- The four pieces of the keys. -/
theorem body16 (l e : Fin 512) :
    out0_16 x0 x1 x2 x3 x4 x5 x6 x7 x8 x9 x10 x11 x12 (ix2 l e) = keysAt (fun d => ∑ k : Fin 1024, x0 (ix2 l k) * x4 (ix2 k d)) e := by
  have hx : View.ld x0 r0_0 = x0 := View.ld_unit_zero (S := S512x1024) hz2 _ x0
  have h4 : View.ld x4 r0_12 = x4 := View.ld_unit_zero (S := S1024x256) hz2 _ x4
  canon_tiles x h
  all_goals
    have hl : x (0 : Fin 2) = l := Fin.ext h0.symm
    rw [show x = ix2 l (x (1 : Fin 2)) from funext fun a => match a with | ⟨0, _⟩ => hl | ⟨1, _⟩ => rfl]
  case piece0 =>
    unfold k0_pay23 k0_pay22 k0_pay24 k0_pay21
    rw [hx, h4]
    refine (keysD (k0_pay4 x0) x4 l _).trans (keysLast (fun d => ∑ k : Fin 1024, x0 (ix2 l k) * x4 (ix2 k d)) e _ 1 ?_ ?_)
    · show e.val = _; have : e.val = 384 + (x (1 : Fin 2)).val := h1; omega
    · have : (x (1 : Fin 2)).val < 128 := (x (1 : Fin 2)).isLt; omega
  case piece1 =>
    unfold k0_pay23 k0_pay22 k0_pay24 k0_pay21
    rw [hx, h4]
    refine (keysC (k0_pay4 x0) x4 l _).trans (keysFirst (fun d => ∑ k : Fin 1024, x0 (ix2 l k) * x4 (ix2 k d)) e _ 1 ?_ ?_)
    · exact h1
    · have : (x (1 : Fin 2)).val < 128 := (x (1 : Fin 2)).isLt; omega
  case piece2 =>
    unfold k0_pay21
    rw [hx, h4]
    refine (keysB (k0_pay4 x0) x4 l _).trans (Eq.trans ?_ (keysLast (fun d => ∑ k : Fin 1024, x0 (ix2 l k) * x4 (ix2 k d)) e (x (1 : Fin 2)) 0 ?_ ?_))
    · simp only [Nat.mul_zero, Nat.zero_add]; rfl
    · have : e.val = 128 + (x (1 : Fin 2)).val := h1; omega
    · have : (x (1 : Fin 2)).val < 128 := (x (1 : Fin 2)).isLt; omega
  case piece3 =>
    unfold k0_pay21
    rw [hx, h4]
    refine (keysA (k0_pay4 x0) x4 l _).trans (Eq.trans ?_ (keysFirst (fun d => ∑ k : Fin 1024, x0 (ix2 l k) * x4 (ix2 k d)) e (x (1 : Fin 2)) 0 ?_ ?_))
    · simp only [Nat.mul_zero, Nat.zero_add]; rfl
    · have : e.val = (x (1 : Fin 2)).val := h1; omega
    · have : (x (1 : Fin 2)).val < 128 := (x (1 : Fin 2)).isLt; omega

/-- One of the first 64 of 128 lanes. -/
def lo (d : Fin 64) : Fin 128 := ⟨d.val, by omega⟩

/-- A sum that the mask keeps to the first 64 of 128 lanes. -/
theorem masked (f : Fin 128 → EReal) :
    (∑ d : Fin 128, Scalar.select (IntOp.cmpi CmpIPredicate.slt (BitVec.ofNat 32 d.val) 64#32) (f d) 0) = ∑ d : Fin 64, f (lo d) := by
  simp only [mask, pick]
  rw [Fin.sum_univ_add (a := 64) (b := 64)]
  rw [Finset.sum_congr rfl fun d _ => if_pos (by show d.val < 64; exact d.isLt), Finset.sum_congr rfl fun d _ => if_neg (by show ¬64 + d.val < 64; omega),
    Finset.sum_const_zero, add_zero]
  rfl

/-- A projection of 128 lanes less the mean of its first 64. -/
theorem ctr (a : Vec Ideal S512x1024 .bf16) (b : Vec Ideal S1024x128 .bf16) (l : Fin 512) (j : Fin 128) :
    k0_pay20 a k0_pay12 b (ix2 l j)
      = (∑ k : Fin 1024, a (ix2 l k) * b (ix2 k j)) - mean (fun d => ∑ k : Fin 1024, a (ix2 l k) * b (ix2 k (lo d))) := by
  unfold mean
  pointwise [k0_pay20, k0_pay12]
  rw [masked]
  rfl

/-- The rest of the norm of 128 lanes by their first 64. -/
theorem nrm (v : Vec Ideal S512x128 .f32) (g b : Vec Ideal S1x128 .f32) (l : Fin 512) (j : Fin 128) :
    k0_pay1 k0_pay12 v g b (ix2 l j)
      = v (ix2 l j) * Ideal.rsqrt (mean (fun i => v (ix2 l (lo i)) * v (ix2 l (lo i))) + Norm.eps) * g (ix2 0 j) + b (ix2 0 j) := by
  unfold mean
  pointwise [k0_pay1, k0_pay12]
  rw [masked]
  rfl

/-- The indexer's key of a row of blocks, before its norm. -/
def cen (f : Fin 128 → EReal) (j : Fin 128) : EReal := f j - mean fun d => f (lo d)

/-- The indexer's key of a row of blocks. -/
def keyOf (f g b : Fin 128 → EReal) (j : Fin 128) : EReal :=
  cen f j * Ideal.rsqrt (mean (fun i => cen f (lo i) * cen f (lo i)) + Norm.eps) * g j + b j

theorem normed (a : Vec Ideal S512x1024 .bf16) (w : Vec Ideal S1024x128 .bf16) (g b : Vec Ideal S1x128 .f32) (l : Fin 512) (j : Fin 128) :
    k0_pay1 k0_pay12 (k0_pay20 a k0_pay12 w) g b (ix2 l j)
      = keyOf (fun d => ∑ k : Fin 1024, a (ix2 l k) * w (ix2 k d)) (fun d => g (ix2 0 d)) (fun d => b (ix2 0 d)) j := by
  rw [nrm]
  simp only [ctr]
  rfl

/-- The two pieces of the indexer's keys. -/
theorem body19 (l : Fin 512) (e : Fin 256) :
    out0_19 x0 x1 x2 x3 x4 x5 x6 x7 x8 x9 x10 x11 x12 (ix2 l e)
      = if e.val / 64 = 0 ∨ e.val / 64 = 3 then
          keyOf (fun d => ∑ k : Fin 1024, x0 (ix2 l k) * x7 (ix2 k d)) (fun d => x9 (ix2 0 d)) (fun d => x10 (ix2 0 d)) ⟨e.val % 128, by omega⟩
        else 0 := by
  have hx : View.ld x0 r0_0 = x0 := View.ld_unit_zero (S := S512x1024) hz2 _ x0
  have h7 : View.ld x7 r0_9 = x7 := View.ld_unit_zero (S := S1024x128) hz2 _ x7
  have h9 : View.ld x9 r0_10 = x9 := View.ld_unit_zero (S := S1x128) hz2 _ x9
  have h10 : View.ld x10 r0_10 = x10 := View.ld_unit_zero (S := S1x128) hz2 _ x10
  canon_tiles x h
  all_goals
    have hl : x (0 : Fin 2) = l := Fin.ext h0.symm
    have hlt : (x (1 : Fin 2)).val < 128 := (x (1 : Fin 2)).isLt
    rw [show x = ix2 l (x (1 : Fin 2)) from funext fun a => match a with | ⟨0, _⟩ => hl | ⟨1, _⟩ => rfl]
    unfold k0_pay24 k0_pay25 k0_pay24 k0_pay21
    rw [hx, h7, h9, h10]
  case piece0 =>
    have h1' : e.val = 128 + (x (1 : Fin 2)).val := h1
    pointwise [k0_pay3]
    refine (congrArg₂ (fun p q => Scalar.select p 0 q) (maskAt l (x (1 : Fin 2))) (normed (k0_pay4 x0) x7 x9 x10 l (x (1 : Fin 2)))).trans ?_
    rw [pick]
    by_cases hm : (x (1 : Fin 2)).val < 64
    · rw [if_pos hm, if_neg (by omega)]
    · rw [if_neg hm, if_pos (by omega)]
      exact congrArg (keyOf _ _ _) (Fin.ext (by show (x (1 : Fin 2)).val = e.val % 128; omega))
  case piece1 =>
    have h1' : e.val = (x (1 : Fin 2)).val := h1
    pointwise [k0_pay2]
    refine (congrArg₂ (fun p q => Scalar.select p q 0) (maskAt l (x (1 : Fin 2))) (normed (k0_pay4 x0) x7 x9 x10 l (x (1 : Fin 2)))).trans ?_
    rw [pick]
    by_cases hm : (x (1 : Fin 2)).val < 64
    · rw [if_pos hm, if_pos (by omega)]
      exact congrArg (keyOf _ _ _) (Fin.ext (by show (x (1 : Fin 2)).val = e.val % 128; omega))
    · rw [if_neg hm, if_neg (by omega)]

end Cert.Inp

end
-- ==== Proof.Inp.Host.lean ====
/-
  What the input projection's kernel is given: the columns of the matrix in the orders the attention takes, and the small vectors.
-/
module

public import proofs.«01_k».proof.Proof.Inp.Spec
public import proofs.«01_k».proof.Proof.Gen.Kernel4Ideal.Value
public import Idealize.ShloMosaic.Lib.Pointwise
public import Idealize.ShloMosaic.Lib.IdealHost
public import Idealize.ShloMosaic.Lib.Routing.OpsPair
public import Idealize.ShloMosaic.Lib.StableHlo.ReadAt

@[expose] public section

set_option maxRecDepth 16384
set_option maxHeartbeats 1000000

noncomputable section

namespace Cert.Inp

open Idealize.ShloMosaic Idealize.ShloMosaic.TcCoe Idealize.SL.Sem
open Cert.Kernel4Ideal Cert.Kernel4Ideal.Gen Cert.Kernel4Ideal.Value
open Cert.Out (att)

/-- The table of the attention's order. -/
theorem table : ∀ k : Fin 1024, lit0 k = BitVec.ofNat 32 (att k).val := by decide +kernel

/-- The table of the ones below each head's values. -/
theorem onesTable : ∀ r : Fin 320, lit1 r = if r.val % 80 = 64 then 0x3F800000#32 else 0x00000000#32 := by decide +kernel

/-- Columns picked by a table: where it holds `b` at `c`, the result's column `c` is the array's column `b`. -/
theorem gather_col (x : FVec Ideal S1024x1024 .f32) (idx : IVec S1024x1 32) (k e b : Fin 1024) (hb : idx (ix2 e (0 : Fin 1)) = BitVec.ofNat 32 b.val) :
    Host.gather gather_S1024x1024_S1024x1_S1024x1024_0_1_n_n_1_1_10241 x idx (ix2 k e) = x (ix2 k b) := by
  unfold Host.gather
  refine congrArg x (funext fun a => Fin.ext ?_)
  match a with
  | ⟨0, _⟩ =>
    show GatherDims.start _ (ix2 k e) idx 0 + GatherDims.batchCoord _ (ix2 k e) 0 + GatherDims.offCoord _ (ix2 k e) 0 = k.val
    rw [GatherDims.batchCoord_eq_zero _ _ _ (by decide)]
    unfold GatherDims.start GatherDims.offCoord
    rw [dif_neg (by decide), dif_pos (by decide)]
    exact Nat.zero_add _
  | ⟨1, _⟩ =>
    show GatherDims.start _ (ix2 k e) idx 1 + GatherDims.batchCoord _ (ix2 k e) 1 + GatherDims.offCoord _ (ix2 k e) 1 = b.val
    rw [GatherDims.batchCoord_eq_zero _ _ _ (by decide), GatherDims.offCoord_eq_zero _ _ _ (by decide)]
    unfold GatherDims.start
    rw [dif_pos (by decide)]
    have hs : gather_S1024x1024_S1024x1_S1024x1024_0_1_n_n_1_1_10241.siIdx (ix2 k e)
        ⟨List.idxOf 1 gather_S1024x1024_S1024x1_S1024x1024_0_1_n_n_1_1_10241.startIndexMap, by decide⟩ = ix2 e (0 : Fin 1) :=
      funext fun a => match a with
        | ⟨0, _⟩ => rfl
        | ⟨1, _⟩ => rfl
    rw [hs, hb, StableHlo.Predicate.toInt_ofNat_small _ (by omega)]
    show min b.val (1024 - 1) + 0 + 0 = b.val
    omega

/-- A fold that keeps one word wherever some member asks for it. -/
theorem foldl_word {ι α : Type} (p : ι → Prop) [DecidablePred p] (w : α) : ∀ (L : List ι) (x : α),
    L.foldl (fun a n => if p n then w else a) x = if ∃ n ∈ L, p n then w else x
  | [], x => (if_neg fun ⟨_, h, _⟩ => List.not_mem_nil h).symm
  | n :: L, x => by
    rw [List.foldl_cons, foldl_word p w L]
    by_cases h : ∃ n ∈ L, p n
    · rw [if_pos h, if_pos (let ⟨q, hq, hp⟩ := h; ⟨q, List.mem_cons_of_mem _ hq, hp⟩)]
    · rw [if_neg h]
      by_cases hn : p n
      · rw [if_pos hn, if_pos ⟨n, List.mem_cons_self, hn⟩]
      · rw [if_neg hn, if_neg fun ⟨q, hq, hp⟩ => (List.mem_cons.mp hq).elim (fun e => hn (e ▸ hp)) fun hq => h ⟨q, hq, hp⟩]

/-- One word written to the lanes 16 to 23 of a row. -/
theorem scatter_mid (x0 : Vec Ideal S1x128 .f32) (idx : IVec S2 32) (hi : idx = fun i => if (i 0).val = 0 then 0#32 else 16#32)
    (u : Vec Ideal S8 .f32) (w : EReal) (hu : u = fun _ => w) (j : Fin 128) :
    Host.scatter scatter_S1x128_S2_S8_0_0_01_0 (fun _ b => b) x0 idx u (ix2 0 j) = if 16 ≤ j.val ∧ j.val < 24 then w else x0 (ix2 0 j) := by
  subst hi hu
  rw [Routing.scatter_at]
  have hhit : ∀ (j : Fin 128) (n : Fin 8), scatter_S1x128_S2_S8_0_0_01_0.resultIdx? (S8.rowMajor.symm n)
      (fun i => if (i 0).val = 0 then 0#32 else 16#32) = some (ix2 0 j) ↔ 16 + n.val = j.val := by
    decide +kernel
  refine Eq.trans ?_ ((foldl_word (fun n : Fin 8 => 16 + n.val = j.val) w (List.finRange 8) (x0 (ix2 0 j))).trans ?_)
  · refine congrArg (fun f => List.foldl f (x0 (ix2 0 j)) (List.finRange 8)) (funext fun a => funext fun n => ?_)
    exact if_congr (hhit j n) rfl rfl
  · by_cases h : 16 ≤ j.val ∧ j.val < 24
    · refine (if_pos ⟨⟨j.val - 16, by omega⟩, List.mem_finRange _, ?_⟩).trans (if_pos h).symm
      show 16 + (j.val - 16) = j.val
      omega
    · exact (if_neg fun ⟨n, _, e⟩ => h ⟨by omega, by omega⟩).trans (if_neg h).symm

/-- The values' rows: below each head's 64 columns 16 rows of zeros. -/
def valueW (w : Fin 1024 → Fin 4696 → EReal) (r : Fin 320) (k : Fin 1024) : EReal :=
  if r.val % 80 < 64 then w k ⟨3856 + (r.val / 80 * 64 + r.val % 80 % 64), by omega⟩ else 0

/-- The columns of the steps and of the indexer's head weights, and zeros. -/
def smallW (w : Fin 1024 → Fin 4696 → EReal) (k : Fin 1024) (e : Fin 128) : EReal :=
  if h : e.val < 16 then w k ⟨2560 + e.val, by omega⟩ else if h : e.val < 24 then w k ⟨4688 + (e.val - 16), by omega⟩ else 0

/-- The scale of the small columns. -/
def smallS (e : Fin 128) : EReal := if 16 ≤ e.val ∧ e.val < 24 then wscale else 1

/-- The ones below each head's values. -/
def ones (r : Fin 320) : EReal := if r.val % 80 = 64 then 1 else 0

variable (m : (l : Loc nD τ sig) → Buf (Elt Ideal) l) (c : Dev nD)

theorem V_x : V m c main_arg0 = m ((c : Thread nD τ).loc main_arg0) := V_main_arg0 m c

theorem V_wz (k e : Fin 1024) : V m c (Pipeline.arrRef spec0 1) (ix2 k e) = m ((c : Thread nD τ).loc main_arg1) (ix2 k ⟨e.val, by omega⟩) := by
  unfold V
  after_reads_at

theorem V_wxbc (k : Fin 1024) (e : Fin 1536) :
    V m c (Pipeline.arrRef spec0 2) (ix2 k e) = m ((c : Thread nD τ).loc main_arg1) (ix2 k ⟨1024 + e.val, by omega⟩) := by
  unfold V
  after_reads_at

theorem V_wq (k e : Fin 1024) : V m c (Pipeline.arrRef spec0 3) (ix2 k e)
    = m ((c : Thread nD τ).loc main_arg1) (ix2 k ⟨2576 + (att e).val, by have := (att e).isLt; omega⟩) := by
  unfold V
  after_reads_at
  refine (gather_col _ _ k e (att e) ?_).trans ?_
  · have hk : S1024.rowMajor (ix1 e) = e := Fin.ext (Shape.rowMajor_val_one _)
    pointwise []
    exact (congrArg lit0 hk).trans (table e)
  · pointwise []

theorem V_wk (k : Fin 1024) (e : Fin 256) :
    V m c (Pipeline.arrRef spec0 4) (ix2 k e) = m ((c : Thread nD τ).loc main_arg1) (ix2 k ⟨3600 + e.val, by omega⟩) := by
  unfold V
  after_reads_at

theorem V_wv (r : Fin 320) (k : Fin 1024) : V m c (Pipeline.arrRef spec0 5) (ix2 r k)
    = valueW (fun k e => m ((c : Thread nD τ).loc main_arg1) (ix2 k e)) r k := by
  unfold V valueW
  after_reads_at
  by_cases h0 : r.val % 80 < 64
  · rw [dif_pos h0, if_pos h0]
    after_reads_at
    exact congrArg (m ((c : Thread nD τ).loc main_arg1)) (congrArg (ix2 k) (Fin.ext (by
      show 3856 + (r.val / 80 * 64 + r.val % 80) = 3856 + (r.val / 80 * 64 + r.val % 80 % 64); omega)))
  · rw [dif_neg h0, if_neg h0]
    after_reads_at

theorem V_wqi (k : Fin 1024) (e : Fin 512) :
    V m c (Pipeline.arrRef spec0 6) (ix2 k e) = m ((c : Thread nD τ).loc main_arg1) (ix2 k ⟨4112 + e.val, by omega⟩) := by
  unfold V
  after_reads_at

theorem V_wki (k : Fin 1024) (e : Fin 128) :
    V m c (Pipeline.arrRef spec0 7) (ix2 k e) = m ((c : Thread nD τ).loc main_arg1) (ix2 k ⟨4624 + e.val % 64, by omega⟩) := by
  unfold V
  after_reads_at
  by_cases h0 : e.val < 64
  · rw [dif_pos h0]
    after_reads_at
    exact congrArg (m ((c : Thread nD τ).loc main_arg1)) (congrArg (ix2 k) (Fin.ext (by show 4624 + e.val = 4624 + e.val % 64; omega)))
  · rw [dif_neg h0]
    after_reads_at
    exact congrArg (m ((c : Thread nD τ).loc main_arg1)) (congrArg (ix2 k) (Fin.ext (by show 4624 + (e.val - 64) = 4624 + e.val % 64; omega)))

theorem V_wsm (k : Fin 1024) (e : Fin 128) :
    V m c (Pipeline.arrRef spec0 8) (ix2 k e) = smallW (fun k e => m ((c : Thread nD τ).loc main_arg1) (ix2 k e)) k e := by
  unfold V smallW
  after_reads_at
  by_cases h0 : e.val < 16
  · rw [dif_pos h0, dif_pos h0]
    after_reads_at
  · rw [dif_neg h0, dif_neg h0]
    by_cases h1 : e.val < 24
    · rw [dif_pos (show e.val - 16 < 8 by omega), dif_pos h1]
      after_reads_at
    · rw [dif_neg (show ¬e.val - 16 < 8 by omega), dif_neg h1]
      after_reads_at

theorem V_g (e : Fin 128) : V m c (Pipeline.arrRef spec0 9) (ix2 0 e) = m ((c : Thread nD τ).loc main_arg2) (ix1 ⟨e.val % 64, by omega⟩) := by
  unfold V
  after_reads_at
  by_cases h0 : e.val < 64
  · rw [dif_pos h0]
    after_reads_at
    exact congrArg (m ((c : Thread nD τ).loc main_arg2)) (congrArg ix1 (Fin.ext (by show e.val = e.val % 64; omega)))
  · rw [dif_neg h0]
    after_reads_at
    exact congrArg (m ((c : Thread nD τ).loc main_arg2)) (congrArg ix1 (Fin.ext (by show e.val - 64 = e.val % 64; omega)))

theorem V_b (e : Fin 128) : V m c (Pipeline.arrRef spec0 10) (ix2 0 e) = m ((c : Thread nD τ).loc main_arg3) (ix1 ⟨e.val % 64, by omega⟩) := by
  unfold V
  after_reads_at
  by_cases h0 : e.val < 64
  · rw [dif_pos h0]
    after_reads_at
    exact congrArg (m ((c : Thread nD τ).loc main_arg3)) (congrArg ix1 (Fin.ext (by show e.val = e.val % 64; omega)))
  · rw [dif_neg h0]
    after_reads_at
    exact congrArg (m ((c : Thread nD τ).loc main_arg3)) (congrArg ix1 (Fin.ext (by show e.val - 64 = e.val % 64; omega)))

theorem V_scale (e : Fin 128) : V m c (Pipeline.arrRef spec0 11) (ix2 0 e) = smallS e := by
  unfold V
  after_reads_at
  refine (scatter_mid _ _ ?_ _ wscale ?_ e).trans ?_
  · funext i
    obtain ⟨q, rfl⟩ : ∃ q : Fin 2, i = ix1 q := ⟨i 0, eq_ix1 i⟩
    pointwise []
    match q with
    | ⟨0, _⟩ =>
      refine (dif_pos Nat.zero_lt_one).trans ?_
      after_reads_at
    | ⟨1, _⟩ =>
      refine (dif_neg (Nat.lt_irrefl 1)).trans ?_
      after_reads_at
  · rfl
  · unfold smallS
    refine if_congr Iff.rfl rfl ?_
    pointwise []

theorem V_ones (r : Fin 320) : V m c (Pipeline.arrRef spec0 12) (ix2 r 0) = ones r := by
  unfold V ones
  after_reads_at
  rw [show S320.rowMajor (ix1 r) = r from Fin.ext (Shape.rowMajor_val_one _), onesTable]
  by_cases h : r.val % 80 = 64
  · rw [if_pos h, if_pos h]
    exact Ideal.ofBits_one_f32
  · rw [if_neg h, if_neg h]
    exact Ideal.ofBits_zero_f32

end Cert.Inp

end
-- ==== Proof.Inp.Kernel.lean ====
/-
  The input projection's kernel: block `t` of its results is rows `512 t` to `512 t + 511`, of the values columns of sequence `t / 8`.
-/
module

public import proofs.«01_k».proof.Proof.Inp.Body
public import proofs.«01_k».proof.Proof.Inp.Host

@[expose] public section

set_option maxRecDepth 16384
set_option maxHeartbeats 1000000

noncomputable section

namespace Cert.Inp

open Idealize.ShloMosaic Idealize.ShloMosaic.TcCoe Idealize.SL.Sem
open Cert.Kernel4Ideal Cert.Kernel4Ideal.Gen Cert.Kernel4Ideal.Value
open Cert.Out (att)

variable (m : (l : Loc nD τ sig) → Buf (Elt Ideal) l) (c : Dev nD)

theorem idxRow : ∀ t : Fin cfg0.N, win0_0.index t (0 : Fin 2) = t.val ∧ win0_0.index t (1 : Fin 2) = 0 :=
  (by decide +kernel : ∀ t : Fin grid0.N, _)

/-- The matrices and the small vectors are one block each. -/
theorem idxOne : ∀ t : Fin cfg0.N, ∀ a : Fin 2, win0_1.index t a = 0 ∧ win0_2.index t a = 0 ∧ win0_3.index t a = 0 ∧ win0_4.index t a = 0
    ∧ win0_5.index t a = 0 ∧ win0_6.index t a = 0 ∧ win0_7.index t a = 0 ∧ win0_8.index t a = 0 ∧ win0_9.index t a = 0
    ∧ win0_10.index t a = 0 ∧ win0_11.index t a = 0 ∧ win0_12.index t a = 0 :=
  (by decide +kernel : ∀ t : Fin grid0.N, _)

/-- The results in rows. -/
theorem idxOut : ∀ t : Fin cfg0.N, (win0_13.index t (0 : Fin 2) = t.val ∧ win0_13.index t (1 : Fin 2) = 0)
    ∧ (win0_14.index t (0 : Fin 2) = t.val ∧ win0_14.index t (1 : Fin 2) = 0) ∧ (win0_15.index t (0 : Fin 2) = t.val ∧ win0_15.index t (1 : Fin 2) = 0)
    ∧ (win0_16.index t (0 : Fin 2) = t.val ∧ win0_16.index t (1 : Fin 2) = 0) ∧ (win0_18.index t (0 : Fin 2) = t.val ∧ win0_18.index t (1 : Fin 2) = 0)
    ∧ (win0_19.index t (0 : Fin 2) = t.val ∧ win0_19.index t (1 : Fin 2) = 0) ∧ win0_20.index t (0 : Fin 2) = t.val ∧ win0_20.index t (1 : Fin 2) = 0 :=
  (by decide +kernel : ∀ t : Fin grid0.N, _)

/-- The values, in columns. -/
theorem idxVal : ∀ t : Fin cfg0.N, win0_17.index t (0 : Fin 3) = t.val / 8 ∧ win0_17.index t (1 : Fin 3) = 0 ∧ win0_17.index t (2 : Fin 3) = t.val % 8 :=
  (by decide +kernel : ∀ t : Fin grid0.N, _)

/-- The program's arguments, for one row. -/
def kArgs (r : Fin 65536) : Args where
  x := fun e => m ((c : Thread nD τ).loc main_arg0) (ix2 r e)
  w := fun k e => m ((c : Thread nD τ).loc main_arg1) (ix2 k e)
  g := fun e => m ((c : Thread nD τ).loc main_arg2) (ix1 e)
  b := fun e => m ((c : Thread nD τ).loc main_arg3) (ix1 e)

/-- The block that holds a row. -/
def pt (r : Fin 65536) : Fin cfg0.N := ⟨r.val / 512, by have : cfg0.N = 128 := N_0; omega⟩

/-- The row in its block. -/
def ln (r : Fin 65536) : Fin 512 := ⟨r.val % 512, by omega⟩

theorem row_eq (r : Fin 65536) : (pt r).val * 512 + 1 * (ln r).val = r.val := by
  show r.val / 512 * 512 + 1 * (r.val % 512) = r.val
  omega

variable (r : Fin 65536)

theorem blk0 (d : Fin 1024) : iblk m c 0 (pt r) (ix2 (ln r) d) = (kArgs m c r).x d := by
  obtain ⟨e0, e1⟩ := idxRow (pt r)
  have hr := row_eq r
  unfold iblk
  rw [View.read_apply]
  refine (congrArg (V m c main_arg0) (funext fun a => Fin.ext ?_)).trans (congrFun (V_x m c) (ix2 r d))
  match a with
  | ⟨0, _⟩ => show win0_0.index (pt r) (0 : Fin 2) * 512 + 1 * (ln r).val = r.val; omega
  | ⟨1, _⟩ => show win0_0.index (pt r) (1 : Fin 2) * 1024 + 1 * d.val = d.val; omega

variable (t : Fin cfg0.N)

theorem blk1 (k : Fin 1024) (e : Fin 1024) : iblk m c 1 t (ix2 k e) = V m c (Pipeline.arrRef spec0 1) (ix2 k e) := by
  have e0 := (idxOne t 0).1
  have e1 := (idxOne t 1).1
  unfold iblk
  rw [View.read_apply]
  refine congrArg (V m c (Pipeline.arrRef spec0 1)) (funext fun a => Fin.ext ?_)
  match a with
  | ⟨0, _⟩ => show win0_1.index t (0 : Fin 2) * 1024 + 1 * k.val = k.val; omega
  | ⟨1, _⟩ => show win0_1.index t (1 : Fin 2) * 1024 + 1 * e.val = e.val; omega

theorem blk2 (k : Fin 1024) (e : Fin 1536) : iblk m c 2 t (ix2 k e) = V m c (Pipeline.arrRef spec0 2) (ix2 k e) := by
  have e0 := (idxOne t 0).2.1
  have e1 := (idxOne t 1).2.1
  unfold iblk
  rw [View.read_apply]
  refine congrArg (V m c (Pipeline.arrRef spec0 2)) (funext fun a => Fin.ext ?_)
  match a with
  | ⟨0, _⟩ => show win0_2.index t (0 : Fin 2) * 1024 + 1 * k.val = k.val; omega
  | ⟨1, _⟩ => show win0_2.index t (1 : Fin 2) * 1536 + 1 * e.val = e.val; omega

theorem blk3 (k : Fin 1024) (e : Fin 1024) : iblk m c 3 t (ix2 k e) = V m c (Pipeline.arrRef spec0 3) (ix2 k e) := by
  have e0 := (idxOne t 0).2.2.1
  have e1 := (idxOne t 1).2.2.1
  unfold iblk
  rw [View.read_apply]
  refine congrArg (V m c (Pipeline.arrRef spec0 3)) (funext fun a => Fin.ext ?_)
  match a with
  | ⟨0, _⟩ => show win0_3.index t (0 : Fin 2) * 1024 + 1 * k.val = k.val; omega
  | ⟨1, _⟩ => show win0_3.index t (1 : Fin 2) * 1024 + 1 * e.val = e.val; omega

theorem blk4 (k : Fin 1024) (e : Fin 256) : iblk m c 4 t (ix2 k e) = V m c (Pipeline.arrRef spec0 4) (ix2 k e) := by
  have e0 := (idxOne t 0).2.2.2.1
  have e1 := (idxOne t 1).2.2.2.1
  unfold iblk
  rw [View.read_apply]
  refine congrArg (V m c (Pipeline.arrRef spec0 4)) (funext fun a => Fin.ext ?_)
  match a with
  | ⟨0, _⟩ => show win0_4.index t (0 : Fin 2) * 1024 + 1 * k.val = k.val; omega
  | ⟨1, _⟩ => show win0_4.index t (1 : Fin 2) * 256 + 1 * e.val = e.val; omega

theorem blk5 (k : Fin 320) (e : Fin 1024) : iblk m c 5 t (ix2 k e) = V m c (Pipeline.arrRef spec0 5) (ix2 k e) := by
  have e0 := (idxOne t 0).2.2.2.2.1
  have e1 := (idxOne t 1).2.2.2.2.1
  unfold iblk
  rw [View.read_apply]
  refine congrArg (V m c (Pipeline.arrRef spec0 5)) (funext fun a => Fin.ext ?_)
  match a with
  | ⟨0, _⟩ => show win0_5.index t (0 : Fin 2) * 320 + 1 * k.val = k.val; omega
  | ⟨1, _⟩ => show win0_5.index t (1 : Fin 2) * 1024 + 1 * e.val = e.val; omega

theorem blk6 (k : Fin 1024) (e : Fin 512) : iblk m c 6 t (ix2 k e) = V m c (Pipeline.arrRef spec0 6) (ix2 k e) := by
  have e0 := (idxOne t 0).2.2.2.2.2.1
  have e1 := (idxOne t 1).2.2.2.2.2.1
  unfold iblk
  rw [View.read_apply]
  refine congrArg (V m c (Pipeline.arrRef spec0 6)) (funext fun a => Fin.ext ?_)
  match a with
  | ⟨0, _⟩ => show win0_6.index t (0 : Fin 2) * 1024 + 1 * k.val = k.val; omega
  | ⟨1, _⟩ => show win0_6.index t (1 : Fin 2) * 512 + 1 * e.val = e.val; omega

theorem blk7 (k : Fin 1024) (e : Fin 128) : iblk m c 7 t (ix2 k e) = V m c (Pipeline.arrRef spec0 7) (ix2 k e) := by
  have e0 := (idxOne t 0).2.2.2.2.2.2.1
  have e1 := (idxOne t 1).2.2.2.2.2.2.1
  unfold iblk
  rw [View.read_apply]
  refine congrArg (V m c (Pipeline.arrRef spec0 7)) (funext fun a => Fin.ext ?_)
  match a with
  | ⟨0, _⟩ => show win0_7.index t (0 : Fin 2) * 1024 + 1 * k.val = k.val; omega
  | ⟨1, _⟩ => show win0_7.index t (1 : Fin 2) * 128 + 1 * e.val = e.val; omega

theorem blk8 (k : Fin 1024) (e : Fin 128) : iblk m c 8 t (ix2 k e) = V m c (Pipeline.arrRef spec0 8) (ix2 k e) := by
  have e0 := (idxOne t 0).2.2.2.2.2.2.2.1
  have e1 := (idxOne t 1).2.2.2.2.2.2.2.1
  unfold iblk
  rw [View.read_apply]
  refine congrArg (V m c (Pipeline.arrRef spec0 8)) (funext fun a => Fin.ext ?_)
  match a with
  | ⟨0, _⟩ => show win0_8.index t (0 : Fin 2) * 1024 + 1 * k.val = k.val; omega
  | ⟨1, _⟩ => show win0_8.index t (1 : Fin 2) * 128 + 1 * e.val = e.val; omega

theorem blk9 (k : Fin 1) (e : Fin 128) : iblk m c 9 t (ix2 k e) = V m c (Pipeline.arrRef spec0 9) (ix2 k e) := by
  have e0 := (idxOne t 0).2.2.2.2.2.2.2.2.1
  have e1 := (idxOne t 1).2.2.2.2.2.2.2.2.1
  unfold iblk
  rw [View.read_apply]
  refine congrArg (V m c (Pipeline.arrRef spec0 9)) (funext fun a => Fin.ext ?_)
  match a with
  | ⟨0, _⟩ => show win0_9.index t (0 : Fin 2) * 1 + 1 * k.val = k.val; omega
  | ⟨1, _⟩ => show win0_9.index t (1 : Fin 2) * 128 + 1 * e.val = e.val; omega

theorem blk10 (k : Fin 1) (e : Fin 128) : iblk m c 10 t (ix2 k e) = V m c (Pipeline.arrRef spec0 10) (ix2 k e) := by
  have e0 := (idxOne t 0).2.2.2.2.2.2.2.2.2.1
  have e1 := (idxOne t 1).2.2.2.2.2.2.2.2.2.1
  unfold iblk
  rw [View.read_apply]
  refine congrArg (V m c (Pipeline.arrRef spec0 10)) (funext fun a => Fin.ext ?_)
  match a with
  | ⟨0, _⟩ => show win0_10.index t (0 : Fin 2) * 1 + 1 * k.val = k.val; omega
  | ⟨1, _⟩ => show win0_10.index t (1 : Fin 2) * 128 + 1 * e.val = e.val; omega

theorem blk11 (k : Fin 1) (e : Fin 128) : iblk m c 11 t (ix2 k e) = V m c (Pipeline.arrRef spec0 11) (ix2 k e) := by
  have e0 := (idxOne t 0).2.2.2.2.2.2.2.2.2.2.1
  have e1 := (idxOne t 1).2.2.2.2.2.2.2.2.2.2.1
  unfold iblk
  rw [View.read_apply]
  refine congrArg (V m c (Pipeline.arrRef spec0 11)) (funext fun a => Fin.ext ?_)
  match a with
  | ⟨0, _⟩ => show win0_11.index t (0 : Fin 2) * 1 + 1 * k.val = k.val; omega
  | ⟨1, _⟩ => show win0_11.index t (1 : Fin 2) * 128 + 1 * e.val = e.val; omega

theorem blk12 (k : Fin 320) (e : Fin 1) : iblk m c 12 t (ix2 k e) = V m c (Pipeline.arrRef spec0 12) (ix2 k e) := by
  have e0 := (idxOne t 0).2.2.2.2.2.2.2.2.2.2.2
  have e1 := (idxOne t 1).2.2.2.2.2.2.2.2.2.2.2
  unfold iblk
  rw [View.read_apply]
  refine congrArg (V m c (Pipeline.arrRef spec0 12)) (funext fun a => Fin.ext ?_)
  match a with
  | ⟨0, _⟩ => show win0_12.index t (0 : Fin 2) * 320 + 1 * k.val = k.val; omega
  | ⟨1, _⟩ => show win0_12.index t (1 : Fin 2) * 1 + 1 * e.val = e.val; omega

/-- A projection of a row by a block of columns. -/
theorem sums {f g : Fin 1024 → EReal} {x y : Fin 1024 → EReal} (hf : ∀ k, f k = x k) (hg : ∀ k, g k = y k) : ∑ k, f k * g k = ∑ k, x k * y k :=
  Finset.sum_congr rfl fun k _ => congrArg₂ (· * ·) (hf k) (hg k)

/-- The indexer's key from two copies of its columns. -/
theorem keyOf_lanes (A : Args) (f g b : Fin 128 → EReal) (hf : ∀ d, f d = raw A ⟨d.val % 64, by omega⟩)
    (hg : ∀ d, g d = A.g ⟨d.val % 64, by omega⟩) (hb : ∀ d, b d = A.b ⟨d.val % 64, by omega⟩) (j : Fin 128) :
    keyOf f g b j = ikey A ⟨j.val % 64, by omega⟩ := by
  have hj : ∀ d : Fin 64, (⟨(lo d).val % 64, by omega⟩ : Fin 64) = d := fun d => Fin.ext (Nat.mod_eq_of_lt d.isLt)
  have hl : (fun d => f (lo d)) = raw A := funext fun d => (hf _).trans (congrArg (raw A) (hj d))
  have hc : ∀ d, cen f d = centred A ⟨d.val % 64, by omega⟩ := fun d => by
    unfold cen centred
    rw [hl, hf]
  have hm : (fun i => cen f (lo i) * cen f (lo i)) = fun i => centred A i * centred A i :=
    funext fun i => by rw [hc, hj]
  unfold keyOf ikey
  rw [hm, hc, hg, hb]

/-- The small columns times their scales. -/
theorem small_lanes (A : Args) (e : Fin 128) : (∑ k, A.x k * smallW A.w k e) * smallS e = small A e := by
  unfold smallW smallS
  by_cases h0 : e.val < 16
  · rw [small_step A e h0, if_neg (show ¬(16 ≤ e.val ∧ e.val < 24) by omega), mul_one]
    exact Finset.sum_congr rfl fun k _ => congrArg (A.x k * ·) (dif_pos h0)
  by_cases h1 : e.val < 24
  · rw [small_head A e h0 h1, if_pos (show 16 ≤ e.val ∧ e.val < 24 by omega)]
    exact congrArg (· * wscale) (Finset.sum_congr rfl fun k _ => congrArg (A.x k * ·) ((dif_neg h0).trans (dif_pos h1)))
  · rw [small_rest A e h1, if_neg (show ¬(16 ≤ e.val ∧ e.val < 24) by omega), mul_one]
    exact Finset.sum_eq_zero fun k _ => (congrArg (A.x k * ·) ((dif_neg h0).trans (dif_neg h1))).trans (mul_zero _)

/-- The values' rows, with the ones. -/
theorem value_rows (A : Args) (q : Fin 320) : (∑ k, valueW A.w q k * A.x k) + ones q = value A q := by
  unfold valueW ones value
  by_cases h0 : q.val % 80 < 64
  · simp only [if_pos h0]
    rw [if_neg (show ¬q.val % 80 = 64 by omega), add_zero]
    exact Finset.sum_congr rfl fun k _ => mul_comm _ _
  · simp only [if_neg h0, zero_mul]
    rw [Finset.sum_const_zero, zero_add]

theorem kernel_gate (e : Fin 1024) : (dats m 0 c).arrAt 13 cfg0.N (ix2 r e) = gate (kArgs m c r) e := by
  have h := congrFun (blocks13 m c (pt r) (flush0_13 (pt r))) (ix2 (ln r) e)
  rw [flushed13, View.read_apply] at h
  have hi : ((cfg0.win 13).blk (pt r)).view.emb (ix2 (ln r) e) = ix2 r e := by
    obtain ⟨e0, e1⟩ := (idxOut (pt r)).1
    have hr := row_eq r
    refine funext fun a => Fin.ext ?_
    match a with
    | ⟨0, _⟩ => show win0_13.index (pt r) (0 : Fin 2) * 512 + 1 * (ln r).val = r.val; omega
    | ⟨1, _⟩ => show win0_13.index (pt r) (1 : Fin 2) * 1024 + 1 * e.val = e.val; omega
  rw [hi] at h
  refine h.trans ((body13 _ _ _ _ _ _ _ _ _ _ _ _ _ (ln r) e).trans ?_)
  exact sums (blk0 m c r) fun k => (blk1 m c _ k e).trans (V_wz m c k e)

theorem kernel_scanIn (e : Fin 1536) : (dats m 0 c).arrAt 14 cfg0.N (ix2 r e) = scanIn (kArgs m c r) e := by
  have h := congrFun (blocks14 m c (pt r) (flush0_14 (pt r))) (ix2 (ln r) e)
  rw [flushed14, View.read_apply] at h
  have hi : ((cfg0.win 14).blk (pt r)).view.emb (ix2 (ln r) e) = ix2 r e := by
    obtain ⟨e0, e1⟩ := (idxOut (pt r)).2.1
    have hr := row_eq r
    refine funext fun a => Fin.ext ?_
    match a with
    | ⟨0, _⟩ => show win0_14.index (pt r) (0 : Fin 2) * 512 + 1 * (ln r).val = r.val; omega
    | ⟨1, _⟩ => show win0_14.index (pt r) (1 : Fin 2) * 1536 + 1 * e.val = e.val; omega
  rw [hi] at h
  refine h.trans ((body14 _ _ _ _ _ _ _ _ _ _ _ _ _ (ln r) e).trans ?_)
  exact sums (blk0 m c r) fun k => (blk2 m c _ k e).trans (V_wxbc m c k e)

theorem kernel_query (e : Fin 1024) : (dats m 0 c).arrAt 15 cfg0.N (ix2 r e) = query (kArgs m c r) e := by
  have h := congrFun (blocks15 m c (pt r) (flush0_15 (pt r))) (ix2 (ln r) e)
  rw [flushed15, View.read_apply] at h
  have hi : ((cfg0.win 15).blk (pt r)).view.emb (ix2 (ln r) e) = ix2 r e := by
    obtain ⟨e0, e1⟩ := (idxOut (pt r)).2.2.1
    have hr := row_eq r
    refine funext fun a => Fin.ext ?_
    match a with
    | ⟨0, _⟩ => show win0_15.index (pt r) (0 : Fin 2) * 512 + 1 * (ln r).val = r.val; omega
    | ⟨1, _⟩ => show win0_15.index (pt r) (1 : Fin 2) * 1024 + 1 * e.val = e.val; omega
  rw [hi] at h
  refine h.trans ((body15 _ _ _ _ _ _ _ _ _ _ _ _ _ (ln r) e).trans ?_)
  exact congrArg (· * qscale) (sums (blk0 m c r) fun k => (blk3 m c _ k e).trans (V_wq m c k e))

theorem kernel_key (e : Fin 512) : (dats m 0 c).arrAt 16 cfg0.N (ix2 r e) = key (kArgs m c r) e := by
  have h := congrFun (blocks16 m c (pt r) (flush0_16 (pt r))) (ix2 (ln r) e)
  rw [flushed16, View.read_apply] at h
  have hi : ((cfg0.win 16).blk (pt r)).view.emb (ix2 (ln r) e) = ix2 r e := by
    obtain ⟨e0, e1⟩ := (idxOut (pt r)).2.2.2.1
    have hr := row_eq r
    refine funext fun a => Fin.ext ?_
    match a with
    | ⟨0, _⟩ => show win0_16.index (pt r) (0 : Fin 2) * 512 + 1 * (ln r).val = r.val; omega
    | ⟨1, _⟩ => show win0_16.index (pt r) (1 : Fin 2) * 512 + 1 * e.val = e.val; omega
  rw [hi] at h
  refine h.trans ((body16 _ _ _ _ _ _ _ _ _ _ _ _ _ (ln r) e).trans ?_)
  exact congrArg (fun f => keysAt f e) (funext fun d => sums (blk0 m c r) fun k => (blk4 m c _ k d).trans (V_wk m c k d))

theorem kernel_iquery (e : Fin 512) : (dats m 0 c).arrAt 18 cfg0.N (ix2 r e) = iquery (kArgs m c r) e := by
  have h := congrFun (blocks18 m c (pt r) (flush0_18 (pt r))) (ix2 (ln r) e)
  rw [flushed18, View.read_apply] at h
  have hi : ((cfg0.win 18).blk (pt r)).view.emb (ix2 (ln r) e) = ix2 r e := by
    obtain ⟨e0, e1⟩ := (idxOut (pt r)).2.2.2.2.1
    have hr := row_eq r
    refine funext fun a => Fin.ext ?_
    match a with
    | ⟨0, _⟩ => show win0_18.index (pt r) (0 : Fin 2) * 512 + 1 * (ln r).val = r.val; omega
    | ⟨1, _⟩ => show win0_18.index (pt r) (1 : Fin 2) * 512 + 1 * e.val = e.val; omega
  rw [hi] at h
  refine h.trans ((body18 _ _ _ _ _ _ _ _ _ _ _ _ _ (ln r) e).trans ?_)
  exact congrArg (· * iscale) (sums (blk0 m c r) fun k => (blk6 m c _ k e).trans (V_wqi m c k e))

theorem kernel_ikeys (e : Fin 256) : (dats m 0 c).arrAt 19 cfg0.N (ix2 r e) = ikeys (kArgs m c r) e := by
  have h := congrFun (blocks19 m c (pt r) (flush0_19 (pt r))) (ix2 (ln r) e)
  rw [flushed19, View.read_apply] at h
  have hi : ((cfg0.win 19).blk (pt r)).view.emb (ix2 (ln r) e) = ix2 r e := by
    obtain ⟨e0, e1⟩ := (idxOut (pt r)).2.2.2.2.2.1
    have hr := row_eq r
    refine funext fun a => Fin.ext ?_
    match a with
    | ⟨0, _⟩ => show win0_19.index (pt r) (0 : Fin 2) * 512 + 1 * (ln r).val = r.val; omega
    | ⟨1, _⟩ => show win0_19.index (pt r) (1 : Fin 2) * 256 + 1 * e.val = e.val; omega
  rw [hi] at h
  refine h.trans ((body19 _ _ _ _ _ _ _ _ _ _ _ _ _ (ln r) e).trans ?_)
  exact if_congr Iff.rfl (keyOf_lanes (kArgs m c r) _ _ _ (fun d => sums (blk0 m c r) fun k => (blk7 m c _ k d).trans (V_wki m c k d))
    (fun d => (blk9 m c _ 0 d).trans (V_g m c d)) (fun d => (blk10 m c _ 0 d).trans (V_b m c d)) ⟨e.val % 128, by omega⟩ |>.trans
      (congrArg (ikey (kArgs m c r)) (Fin.ext (by show e.val % 128 % 64 = e.val % 64; omega)))) rfl

theorem kernel_small (e : Fin 128) : (dats m 0 c).arrAt 20 cfg0.N (ix2 r e) = small (kArgs m c r) e := by
  have h := congrFun (blocks20 m c (pt r) (flush0_20 (pt r))) (ix2 (ln r) e)
  rw [flushed20, View.read_apply] at h
  have hi : ((cfg0.win 20).blk (pt r)).view.emb (ix2 (ln r) e) = ix2 r e := by
    obtain ⟨e0, e1⟩ := (idxOut (pt r)).2.2.2.2.2.2
    have hr := row_eq r
    refine funext fun a => Fin.ext ?_
    match a with
    | ⟨0, _⟩ => show win0_20.index (pt r) (0 : Fin 2) * 512 + 1 * (ln r).val = r.val; omega
    | ⟨1, _⟩ => show win0_20.index (pt r) (1 : Fin 2) * 128 + 1 * e.val = e.val; omega
  rw [hi] at h
  refine h.trans ((body20 _ _ _ _ _ _ _ _ _ _ _ _ _ (ln r) e).trans ?_)
  refine (congrArg₂ (· * ·) (sums (blk0 m c r) fun k => (blk8 m c _ k e).trans (V_wsm m c k e)) ((blk11 m c _ 0 e).trans (V_scale m c e))).trans ?_
  exact small_lanes (kArgs m c r) e

theorem kernel_value (n : Fin 16) (s : Fin 4096) (q : Fin 320) (hr : r.val = n.val * 4096 + s.val) :
    (dats m 0 c).arrAt 17 cfg0.N (ix3 n q s) = value (kArgs m c r) q := by
  have h := congrFun (blocks17 m c (pt r) (flush0_17 (pt r))) (ix3 0 q (ln r))
  rw [flushed17, View.read_apply] at h
  have hi : ((cfg0.win 17).blk (pt r)).view.emb (ix3 0 q (ln r)) = ix3 n q s := by
    obtain ⟨e0, e1, e2⟩ := idxVal (pt r)
    have ht : (pt r).val = r.val / 512 := rfl
    have hl : (ln r).val = r.val % 512 := rfl
    refine funext fun a => Fin.ext ?_
    match a with
    | ⟨0, _⟩ => show win0_17.index (pt r) (0 : Fin 3) * 1 + 1 * 0 = n.val; omega
    | ⟨1, _⟩ => show win0_17.index (pt r) (1 : Fin 3) * 320 + 1 * q.val = q.val; omega
    | ⟨2, _⟩ => show win0_17.index (pt r) (2 : Fin 3) * 512 + 1 * (ln r).val = s.val; omega
  rw [hi] at h
  refine h.trans ((body17 _ _ _ _ _ _ _ _ _ _ _ _ _ q (ln r)).trans ?_)
  refine (congrArg₂ (· + ·) (sums (fun k => (blk5 m c _ q k).trans (V_wv m c q k)) (blk0 m c r)) ((blk12 m c _ q 0).trans (V_ones m c q))).trans ?_
  exact value_rows (kArgs m c r) q

end Cert.Inp

end
-- ==== Proof.Inp.Ref.lean ====
/-
  The reference of the input projection, read at an index: the arrays without padding and the indexer's norm at a row are the row's (`Spec.lean`).
-/
module

public import proofs.«01_k».proof.Proof.Inp.Spec
public import proofs.«01_k».proof.Proof.Gen.Reference4Ideal.Read
public import Idealize.ShloMosaic.Lib.Pointwise

@[expose] public section

set_option maxRecDepth 16384
set_option maxHeartbeats 1000000

noncomputable section

namespace Cert.Inp

open Idealize.ShloMosaic Idealize.ShloMosaic.TcCoe Idealize.SL.Sem
open Cert.Reference4Ideal Cert.Reference4Ideal.Gen Cert.Reference4Ideal.Value Cert.Reference4Ideal.Read

/-- To divide by 64 is to multiply by its inverse. -/
theorem div64 (x : EReal) : Ideal.div x (Ideal.ofBits FTy.f32 0x42800000#32) = x * inv64 := by
  have h1 : Ideal.ofBits FTy.f32 0x42800000#32 = ((64 : ℝ) : EReal) := by
    simp [Ideal.ofBits, Ideal.ieee, -EReal.coe_mul]
    norm_num
  have h2 : inv64 = ((1 / 64 : ℝ) : EReal) := by
    simp [inv64, Ideal.ofBits, Ideal.ieee, -EReal.coe_mul]
    norm_num
  rw [h1, h2]
  exact Ideal.div_coe (by norm_num) x

section
variable (x0 : FVec Ideal S65536x1024 .f32) (x1 : FVec Ideal S1024x4696 .f32) (x2 x3 : FVec Ideal S64 .f32)

/-- The arguments of one row. -/
def rArgs (r : Fin 65536) : Args where
  x := fun e => x0 (ix2 r e)
  w := fun k e => x1 (ix2 k e)
  g := fun e => x2 (ix1 e)
  b := fun e => x3 (ix1 e)

theorem proj_at (r : Fin 65536) (j : Fin 4696) : val_main_v0 (F := Ideal) x0 x1 (ix2 r j) = proj (rArgs x0 x1 x2 x3 r) j := by
  rw [val_main_v0_apply]
  refine Finset.sum_congr rfl fun k _ => congrArg₂ (· * ·) (congrArg x0 (funext fun a => ?_)) (congrArg x1 (funext fun a => ?_))
  · match a with
    | ⟨0, _⟩ => rfl
    | ⟨1, _⟩ => rfl
  · match a with
    | ⟨0, _⟩ => rfl
    | ⟨1, _⟩ => rfl

theorem gate_at (r : Fin 65536) (e : Fin 1024) : val_main_v1 (F := Ideal) x0 x1 (ix2 r e) = gate (rArgs x0 x1 x2 x3 r) e := by
  unfold gate
  rw [← proj_at]
  pointwise [val_main_v1]

theorem scanIn_at (r : Fin 65536) (e : Fin 1536) : val_main_v2 (F := Ideal) x0 x1 (ix2 r e) = scanIn (rArgs x0 x1 x2 x3 r) e := by
  unfold scanIn
  rw [← proj_at]
  pointwise [val_main_v2]

theorem query_at (r : Fin 65536) (e : Fin 1024) : val_main_v61 (F := Ideal) x0 x1 (ix2 r e) = query (rArgs x0 x1 x2 x3 r) e := by
  unfold query
  rw [← proj_at]
  pointwise [val_main_v61, val_main_v40, val_main_v39, val_main_cst_5, val_main_v38, val_main_v37, val_main_v36, val_main_v4]
  rfl

theorem iquery_at (r : Fin 65536) (e : Fin 512) : val_main_v66 (F := Ideal) x0 x1 (ix2 r e) = iquery (rArgs x0 x1 x2 x3 r) e := by
  unfold iquery
  rw [← proj_at]
  pointwise [val_main_v66, val_main_v65, val_main_v64, val_main_cst_12, val_main_v7]
  rfl

theorem raw_at (r : Fin 65536) (d : Fin 64) : val_main_v8 (F := Ideal) x0 x1 (ix2 r d) = raw (rArgs x0 x1 x2 x3 r) d := by
  unfold raw
  rw [← proj_at]
  pointwise [val_main_v8]

theorem centred_at (r : Fin 65536) (d : Fin 64) : val_main_v15 (F := Ideal) x0 x1 (ix2 r d) = centred (rArgs x0 x1 x2 x3 r) d := by
  unfold centred mean
  simp only [← raw_at]
  pointwise [val_main_v15, val_main_v14, val_main_v13, val_main_v12, val_main_v11, val_main_v10, val_main_cst_0, val_main_cst]
  rw [div64]

theorem ikey_at (r : Fin 65536) (d : Fin 64) : val_main_v33 (F := Ideal) x0 x1 x2 x3 (ix2 r d) = ikey (rArgs x0 x1 x2 x3 r) d := by
  unfold ikey mean
  simp only [← centred_at]
  pointwise [val_main_v33, val_main_v32, val_main_v31, val_main_v30, val_main_v29, val_main_v28, val_main_v27, val_main_v26, val_main_v25,
    val_main_v24, val_main_v23, val_main_v20, val_main_v19, val_main_v18, val_main_v17, val_main_v16, val_main_cst_1, val_main_cst_2, val_main_cst_3]
  rw [div64]
  rfl

end

end Cert.Inp

end
-- ==== Proof.Inp.RefPad.lean ====
/-
  The reference of the input projection, read at an index: the arrays with padding at a row are the row's (`Spec.lean`).
-/
module

public import proofs.«01_k».proof.Proof.Inp.Ref
public import Idealize.ShloMosaic.Lib.Pointwise

@[expose] public section

set_option maxRecDepth 16384
set_option maxHeartbeats 1000000

noncomputable section

namespace Cert.Inp

open Idealize.ShloMosaic Idealize.ShloMosaic.TcCoe Idealize.SL.Sem
open Cert.Reference4Ideal Cert.Reference4Ideal.Gen Cert.Reference4Ideal.Value Cert.Reference4Ideal.Read

variable (x0 : FVec Ideal S65536x1024 .f32) (x1 : FVec Ideal S1024x4696 .f32) (x2 x3 : FVec Ideal S64 .f32)

theorem key_at (r : Fin 65536) (e : Fin 512) : val_main_v62 (F := Ideal) x0 x1 (ix2 r e) = key (rArgs x0 x1 x2 x3 r) e := by
  unfold key
  rw [← proj_at, ← proj_at]
  pointwise [val_main_v62, val_main_v50, val_main_v49, val_main_v48, val_main_v47, val_main_v46, val_main_v45, val_main_v44, val_main_v43,
    val_main_v42, val_main_v41, val_main_cst_6, val_main_cst_7, val_main_v5]
  by_cases h0 : e.val % 256 < 64
  · refine (dif_pos h0).trans (Eq.trans ?_ (if_pos (show e.val / 64 % 4 = 0 by omega)).symm)
    exact congrArg (fun j => val_main_v0 (F := Ideal) x0 x1 (ix2 r j)) (Fin.ext (by
      show 3600 + (e.val / 256 * 128 + e.val % 256) = 3600 + (e.val / 256 * 128 + e.val % 64); omega))
  · refine (dif_neg h0).trans (Eq.trans ?_ (if_neg (show ¬e.val / 64 % 4 = 0 by omega)).symm)
    by_cases h1 : e.val % 256 - 64 < 64
    · refine (dif_pos h1).trans (Eq.trans ?_ (if_neg (show ¬e.val / 64 % 4 = 3 by omega)).symm)
      exact (dite_eq_ite ..).trans (if_congr (by omega) rfl rfl)
    · refine (dif_neg h1).trans ?_
      by_cases h2 : e.val % 256 - 64 - 64 < 64
      · refine (dif_pos h2).trans (Eq.trans ?_ (if_neg (show ¬e.val / 64 % 4 = 3 by omega)).symm)
        exact (dite_eq_ite ..).trans (if_congr (by omega) rfl rfl)
      · refine (dif_neg h2).trans (Eq.trans ?_ (if_pos (show e.val / 64 % 4 = 3 by omega)).symm)
        exact congrArg (fun j => val_main_v0 (F := Ideal) x0 x1 (ix2 r j)) (Fin.ext (by
          show 3600 + (e.val / 256 * 128 + 64 + (e.val % 256 - 64 - 64 - 64)) = 3600 + (e.val / 256 * 128 + (64 + e.val % 64)); omega))

theorem value_at (n : Fin 16) (s : Fin 4096) (q : Fin 320) (r : Fin 65536) (hr : r.val = n.val * 4096 + s.val) :
    val_main_v63 (F := Ideal) x0 x1 (ix3 n q s) = value (rArgs x0 x1 x2 x3 r) q := by
  unfold value
  rw [← proj_at]
  pointwise [val_main_v63, val_main_v56, val_main_v55, val_main_v54, val_main_v53, val_main_v52, val_main_v51, val_main_cst_8, val_main_cst_9,
    val_main_v6]
  by_cases h0 : q.val % 80 < 64
  · refine (dif_pos h0).trans (Eq.trans ?_ (if_pos h0).symm)
    refine congrArg (val_main_v0 (F := Ideal) x0 x1) (congrArg₂ ix2 (Fin.ext hr.symm) (Fin.ext ?_))
    show 3856 + (q.val / 80 * 64 + q.val % 80) = 3856 + (q.val / 80 * 64 + q.val % 80 % 64)
    omega
  · refine (dif_neg h0).trans (Eq.trans ?_ (if_neg h0).symm)
    exact (dite_eq_ite ..).trans (if_congr (by omega) rfl rfl)

theorem ikeys_at (r : Fin 65536) (e : Fin 256) : val_main_v67 (F := Ideal) x0 x1 x2 x3 (ix2 r e) = ikeys (rArgs x0 x1 x2 x3 r) e := by
  unfold ikeys
  rw [← ikey_at]
  pointwise [val_main_v67, val_main_v58, val_main_v57, val_main_cst_10]
  by_cases h0 : e.val < 64
  · refine (dif_pos h0).trans (Eq.trans ?_ (if_pos (show e.val / 64 = 0 ∨ e.val / 64 = 3 by omega)).symm)
    exact congrArg (fun j => val_main_v33 (F := Ideal) x0 x1 x2 x3 (ix2 r j)) (Fin.ext (by show e.val = e.val % 64; omega))
  · refine (dif_neg h0).trans ?_
    by_cases h1 : e.val - 64 < 128
    · exact (dif_pos h1).trans (if_neg (show ¬(e.val / 64 = 0 ∨ e.val / 64 = 3) by omega)).symm
    · refine (dif_neg h1).trans (Eq.trans ?_ (if_pos (show e.val / 64 = 0 ∨ e.val / 64 = 3 by omega)).symm)
      exact congrArg (fun j => val_main_v33 (F := Ideal) x0 x1 x2 x3 (ix2 r j)) (Fin.ext (by show e.val - 64 - 128 = e.val % 64; omega))

theorem small_at (r : Fin 65536) (e : Fin 128) : val_main_v60 (F := Ideal) x0 x1 (ix2 r e) = small (rArgs x0 x1 x2 x3 r) e := by
  pointwise [val_main_v60, val_main_v59, val_main_v35, val_main_v34, val_main_v9, val_main_v3, val_main_cst_4, val_main_cst_11]
  by_cases h0 : e.val < 16
  · exact (dif_pos h0).trans ((proj_at x0 x1 x2 x3 r _).trans (small_step _ e h0).symm)
  · refine (dif_neg h0).trans ?_
    by_cases h1 : e.val < 24
    · refine (dif_pos (show e.val - 16 < 8 by omega)).trans (Eq.trans ?_ (small_head _ e h0 h1).symm)
      exact congrArg (· * wscale) (proj_at x0 x1 x2 x3 r _)
    · exact (dif_neg (show ¬e.val - 16 < 8 by omega)).trans (small_rest _ e h1).symm

end Cert.Inp

end
-- ==== Proof.Inp.Equal.lean ====
/-
  The input projection's claim: from memories that agree on the arguments the kernel and the reference end with the same eight results.
-/
module

public import proofs.«01_k».proof.Defs
public import proofs.«01_k».proof.Proof.Inp.Kernel
public import proofs.«01_k».proof.Proof.Inp.RefPad

@[expose] public section

set_option maxRecDepth 16384
set_option maxHeartbeats 2000000

noncomputable section

namespace Cert.Inp

open Idealize.ShloMosaic Idealize.ShloMosaic.TcCoe Idealize.SL.Sem

/-- Two arrays of rows that agree at each row and column. -/
theorem ext_rows {n k : ℕ} {α : Type} {f g : (⟨2, ![n, k]⟩ : Shape).Idx → α} (h : ∀ r e, f (ix2 r e) = g (ix2 r e)) : f = g :=
  funext fun i => (eq_ix2 i).symm ▸ h (i 0) (i 1)

/-- The two vectors of the index key's norm, which one of the results reads. -/
abbrev normG (m : (l : Loc Cert.Kernel4Ideal.nD Cert.Kernel4Ideal.τ Cert.Kernel4Ideal.sig) → Buf (Elt Ideal) l) (c : Dev Cert.Kernel4Ideal.nD) :
    FVec Ideal Cert.Kernel4Ideal.S64 .f32 := m ((c.tc : Thread Cert.Kernel4Ideal.nD Cert.Kernel4Ideal.τ).loc Cert.Kernel4Ideal.main_arg2)

@[inherit_doc normG]
abbrev normB (m : (l : Loc Cert.Kernel4Ideal.nD Cert.Kernel4Ideal.τ Cert.Kernel4Ideal.sig) → Buf (Elt Ideal) l) (c : Dev Cert.Kernel4Ideal.nD) :
    FVec Ideal Cert.Kernel4Ideal.S64 .f32 := m ((c.tc : Thread Cert.Kernel4Ideal.nD Cert.Kernel4Ideal.τ).loc Cert.Kernel4Ideal.main_arg3)

theorem algebraic : Cert.algebraic_Kernel4Ideal_Reference4Ideal (hKernel4Ideal := Cert.Kernel4Ideal.Gen.facts)
    (hReference4Ideal := Cert.Reference4Ideal.Gen.facts) := by
  intro m g m' g' _ hagree
  refine ⟨fun c => (Cert.Kernel4Ideal.Gen.dats m 0 c).arrAt 13 Cert.Kernel4Ideal.cfg0.N,
    fun c => (Cert.Kernel4Ideal.Gen.dats m 0 c).arrAt 14 Cert.Kernel4Ideal.cfg0.N,
    fun c => (Cert.Kernel4Ideal.Gen.dats m 0 c).arrAt 15 Cert.Kernel4Ideal.cfg0.N,
    fun c => (Cert.Kernel4Ideal.Gen.dats m 0 c).arrAt 16 Cert.Kernel4Ideal.cfg0.N,
    fun c => (Cert.Kernel4Ideal.Gen.dats m 0 c).arrAt 17 Cert.Kernel4Ideal.cfg0.N,
    fun c => (Cert.Kernel4Ideal.Gen.dats m 0 c).arrAt 18 Cert.Kernel4Ideal.cfg0.N,
    fun c => (Cert.Kernel4Ideal.Gen.dats m 0 c).arrAt 19 Cert.Kernel4Ideal.cfg0.N,
    fun c => (Cert.Kernel4Ideal.Gen.dats m 0 c).arrAt 20 Cert.Kernel4Ideal.cfg0.N,
    Cert.Kernel4Ideal.Value.run_blocks (F := Ideal) m g, ?_⟩
  refine (θ_run _ _ _).mono (fun _ h c => ?_) (Cert.Reference4Ideal.Value.run (F := Ideal) m' g')
  obtain ⟨h0, h1, h2, h3⟩ := hagree c
  obtain ⟨e0, e1, e2, e3, e4, e5, e6, e7, kept⟩ := h c
  refine ⟨e0.trans ?_, e1.trans ?_, e2.trans ?_, e3.trans ?_, e4.trans ?_, e5.trans ?_, e6.trans ?_, e7.trans ?_, kept⟩
  · rw [Cert.Reference4Ideal.Read.val_main_v1_eq, h0, h1]
    exact ext_rows fun r e => (gate_at _ _ (normG m c) (normB m c) r e).trans (kernel_gate m c r e).symm
  · rw [Cert.Reference4Ideal.Read.val_main_v2_eq, h0, h1]
    exact ext_rows fun r e => (scanIn_at _ _ (normG m c) (normB m c) r e).trans (kernel_scanIn m c r e).symm
  · rw [Cert.Reference4Ideal.Read.val_main_v61_eq, h0, h1]
    exact ext_rows fun r e => (query_at _ _ (normG m c) (normB m c) r e).trans (kernel_query m c r e).symm
  · rw [Cert.Reference4Ideal.Read.val_main_v62_eq, h0, h1]
    exact ext_rows fun r e => (key_at _ _ (normG m c) (normB m c) r e).trans (kernel_key m c r e).symm
  · rw [Cert.Reference4Ideal.Read.val_main_v63_eq, h0, h1]
    funext i
    obtain ⟨n, q, s, rfl⟩ : ∃ (n : Fin 16) (q : Fin 320) (s : Fin 4096), i = ix3 n q s := ⟨i 0, i 1, i 2, eq_ix3 i⟩
    have hr : (⟨n.val * 4096 + s.val, by omega⟩ : Fin 65536).val = n.val * 4096 + s.val := rfl
    exact (value_at _ _ (normG m c) (normB m c) n s q _ hr).trans (kernel_value m c _ n s q hr).symm
  · rw [Cert.Reference4Ideal.Read.val_main_v66_eq, h0, h1]
    exact ext_rows fun r e => (iquery_at _ _ (normG m c) (normB m c) r e).trans (kernel_iquery m c r e).symm
  · rw [Cert.Reference4Ideal.Read.val_main_v67_eq, h0, h1, h2, h3]
    exact ext_rows fun r e => (ikeys_at _ _ (normG m c) (normB m c) r e).trans (kernel_ikeys m c r e).symm
  · rw [Cert.Reference4Ideal.Read.val_main_v60_eq, h0, h1]
    exact ext_rows fun r e => (small_at _ _ (normG m c) (normB m c) r e).trans (kernel_small m c r e).symm

end Cert.Inp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Ssd.Equal
public import proofs.«01_k».proof.Proof.Ffn.Equal
public import proofs.«01_k».proof.Proof.Out.Equal
public import proofs.«01_k».proof.Proof.Inp.Equal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  fun m ρ _ => Cert.Kernel.Gen.frame m ρ,
  fun m ρ _ => Cert.KernelIdeal.Gen.frame m ρ,
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ),
  fun m ρ _ => Cert.Kernel2.Gen.frame m ρ,
  fun m ρ _ => Cert.Kernel2Ideal.Gen.frame m ρ,
  fun m ρ _ => (θ_run Cert.Reference2Ideal.defs _ _).mono
    (fun r h => ⟨fun c => (h c).2, Idealize.ShloMosaic.sem_eq_zero_of_no_sems (by decide) r.2⟩)
    (Cert.Reference2Ideal.Value.run (F := Ideal) m ρ),
  fun m ρ _ => Cert.Kernel3.Gen.frame m ρ,
  fun m ρ _ => Cert.Kernel3Ideal.Gen.frame m ρ,
  fun m ρ _ => (θ_run Cert.Reference3Ideal.defs _ _).mono
    (fun r h => ⟨fun c => (h c).2, Idealize.ShloMosaic.sem_eq_zero_of_no_sems (by decide) r.2⟩)
    (Cert.Reference3Ideal.Value.run (F := Ideal) m ρ),
  fun m ρ _ => Cert.Kernel4.Gen.frame m ρ,
  fun m ρ _ => Cert.Kernel4Ideal.Gen.frame m ρ,
  fun m ρ _ => (θ_run Cert.Reference4Ideal.defs _ _).mono
    (fun r h => ⟨fun c => (h c).2.2.2.2.2.2.2.2, Idealize.ShloMosaic.sem_eq_zero_of_no_sems (by decide) r.2⟩)
    (Cert.Reference4Ideal.Value.run (F := Ideal) m ρ),
  trivial,
  Cert.Ssd.algebraic,
  trivial,
  Cert.Ffn.algebraic,
  trivial,
  Cert.Out.algebraic,
  trivial,
  Cert.Inp.algebraic⟩

end Cert.Proof

end
